-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_vocab [hPre_finite_in_vocab : Cert.Pre_finite_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_vocab [hPre_finite_in_vocab : Cert.Pre_finite_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_in_vocab [hKernelIdeal : Cert.KernelIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_in_vocab [hReferenceIdeal : Cert.ReferenceIdeal.Facts] [hPre_finite_in_vocab : Cert.Pre_finite_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_in_vocab [hKernelIdeal : Cert.KernelIdeal.Facts] [hReferenceIdeal : Cert.ReferenceIdeal.Facts] [hPre_finite_in_vocab : Cert.Pre_finite_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_in_vocab : Cert.Pre_finite_in_vocab.Facts),
    quiescent_Kernel (hKernel := hKernel)
    ∧ quiescent_KernelIdeal (hKernelIdeal := hKernelIdeal)
    ∧ quiescent_KernelIdeal_pre_finite_in_vocab (hKernelIdeal := hKernelIdeal) (hPre_finite_in_vocab := hPre_finite_in_vocab)
    ∧ quiescent_ReferenceIdeal (hReferenceIdeal := hReferenceIdeal)
    ∧ quiescent_ReferenceIdeal_pre_finite_in_vocab (hReferenceIdeal := hReferenceIdeal) (hPre_finite_in_vocab := hPre_finite_in_vocab)
    ∧ preserves_Kernel_KernelIdeal
    ∧ algebraic_KernelIdeal_ReferenceIdeal_pre_finite_in_vocab (hKernelIdeal := hKernelIdeal) (hReferenceIdeal := hReferenceIdeal) (hPre_finite_in_vocab := hPre_finite_in_vocab)
-- ==== Pre_finite_in_vocab.lean ====
abbrev S72x1x1536 : Shape := ⟨3, ![72, 1, 1536]⟩
abbrev S768x151936 : Shape := ⟨2, ![768, 151936]⟩
abbrev S24x151936 : Shape := ⟨2, ![24, 151936]⟩
abbrev S72x4748 : Shape := ⟨2, ![72, 4748]⟩
abbrev S72x1x48 : Shape := ⟨3, ![72, 1, 48]⟩
abbrev S_ : Shape := ⟨0, ![]⟩

class Facts : Prop where
  bcast_S_S72x1x1536 : S_.BroadcastsInDim S72x1x1536 (![] : Fin 0 → Fin S72x1x1536.rank)
  bcast_S_S24x151936 : S_.BroadcastsInDim S24x151936 (![] : Fin 0 → Fin S24x151936.rank)
  bcast_S_S72x1x48 : S_.BroadcastsInDim S72x1x48 (![] : Fin 0 → Fin S72x1x48.rank)

variable [Facts]

def fn {F : FTy → Type} [FloatOps F] (main_arg0 : FVec F S72x1x1536 .bf16) (main_arg1 : IVec S768x151936 8) (main_arg2 : FVec F S24x151936 .f32) (main_arg3 : IVec S72x4748 32) (main_arg4 : IVec S72x1x48 32) : IVec S72x1x1536 1 × IVec S24x151936 1 × IVec S72x1x48 1 :=
  let main_v0 : FVec F S72x1x1536 .bf16 := Host.absf main_arg0
  let main_cst : FVec F S_ .bf16 := constant S_ .bf16 0x7F80#16
  let main_v1 : FVec F S72x1x1536 .bf16 := broadcastInDim S72x1x1536 ![] bcast_S_S72x1x1536 main_cst
  let main_v2 : IVec S72x1x1536 1 := cmpf .olt main_v0 main_v1
  let main_v3 : FVec F S24x151936 .f32 := Host.absf main_arg2
  let main_cst_0 : FVec F S_ .f32 := constant S_ .f32 0x7F800000#32
  let main_v4 : FVec F S24x151936 .f32 := broadcastInDim S24x151936 ![] bcast_S_S24x151936 main_cst_0
  let main_v5 : IVec S24x151936 1 := cmpf .olt main_v3 main_v4
  let main_c : IVec S_ 32 := constantI S_ 32 0#32
  let main_v6 : IVec S72x1x48 32 := broadcastInDim S72x1x48 ![] bcast_S_S72x1x48 main_c
  let main_v7 : IVec S72x1x48 1 := cmpi .sge main_arg4 main_v6
  let main_c_1 : IVec S_ 32 := constantI S_ 32 151936#32
  let main_v8 : IVec S72x1x48 32 := broadcastInDim S72x1x48 ![] bcast_S_S72x1x48 main_c_1
  let main_v9 : IVec S72x1x48 1 := cmpi .slt main_arg4 main_v8
  let main_v10 : IVec S72x1x48 1 := andi main_v7 main_v9
  (main_v2, main_v5, main_v10)
-- ==== Kernel.lean ====
abbrev S72x1x1536 : Shape := ⟨3, ![72, 1, 1536]⟩
abbrev S768x151936 : Shape := ⟨2, ![768, 151936]⟩
abbrev S24x151936 : Shape := ⟨2, ![24, 151936]⟩
abbrev S72x4748 : Shape := ⟨2, ![72, 4748]⟩
abbrev S72x1x48 : Shape := ⟨3, ![72, 1, 48]⟩
abbrev S72x1536 : Shape := ⟨2, ![72, 1536]⟩
abbrev S_ : Shape := ⟨0, ![]⟩
abbrev S72x4864 : Shape := ⟨2, ![72, 4864]⟩
abbrev S72x48 : Shape := ⟨2, ![72, 48]⟩
abbrev S72x128 : Shape := ⟨2, ![72, 128]⟩
abbrev S72x1x151936 : Shape := ⟨3, ![72, 1, 151936]⟩
abbrev S768x4608 : Shape := ⟨2, ![768, 4608]⟩
abbrev S24x4608 : Shape := ⟨2, ![24, 4608]⟩
abbrev S72x1x4608 : Shape := ⟨3, ![72, 1, 4608]⟩
abbrev S768x256 : Shape := ⟨2, ![768, 256]⟩
abbrev S768x1x256 : Shape := ⟨3, ![768, 1, 256]⟩
abbrev S768x2x256 : Shape := ⟨3, ![768, 2, 256]⟩
abbrev S1536x256 : Shape := ⟨2, ![1536, 256]⟩
abbrev S24x256 : Shape := ⟨2, ![24, 256]⟩
abbrev S1x256 : Shape := ⟨2, ![1, 256]⟩
abbrev S64x256 : Shape := ⟨2, ![64, 256]⟩
abbrev S72x256 : Shape := ⟨2, ![72, 256]⟩
abbrev S72x128x1 : Shape := ⟨3, ![72, 128, 1]⟩
abbrev S72x1x128 : Shape := ⟨3, ![72, 1, 128]⟩
abbrev S72 : Shape := ⟨1, ![72]⟩
abbrev S72x1 : Shape := ⟨2, ![72, 1]⟩

abbrev nBuf : Space → Nat
  | .hbm => 19
  | .vmem => 14
  | .smem => 0
  | _ => 0

abbrev bufTy : (tb : Table) → Fin (tcTables nBuf tb) → BufTy
  | .hbm, ⟨0, _⟩ => ⟨S72x1x1536, .bf16⟩
  | .hbm, ⟨1, _⟩ => ⟨S768x151936, .i8⟩
  | .hbm, ⟨2, _⟩ => ⟨S24x151936, .f32⟩
  | .hbm, ⟨3, _⟩ => ⟨S72x4748, .i32⟩
  | .hbm, ⟨4, _⟩ => ⟨S72x1x48, .i32⟩
  | .hbm, ⟨5, _⟩ => ⟨S72x1536, .bf16⟩
  | .hbm, ⟨6, _⟩ => ⟨S_, .i32⟩
  | .hbm, ⟨7, _⟩ => ⟨S_, .i32⟩
  | .hbm, ⟨8, _⟩ => ⟨S72x4864, .i32⟩
  | .hbm, ⟨9, _⟩ => ⟨S72x48, .i32⟩
  | .hbm, ⟨10, _⟩ => ⟨S_, .i32⟩
  | .hbm, ⟨11, _⟩ => ⟨S_, .i32⟩
  | .hbm, ⟨12, _⟩ => ⟨S72x128, .i32⟩
  | .hbm, ⟨13, _⟩ => ⟨S72x1x151936, .f32⟩
  | .hbm, ⟨14, _⟩ => ⟨S72x128, .f32⟩
  | .hbm, ⟨15, _⟩ => ⟨S72x128, .f32⟩
  | .hbm, ⟨16, _⟩ => ⟨S72x1, .f32⟩
  | .hbm, ⟨17, _⟩ => ⟨S72x48, .f32⟩
  | .hbm, ⟨18, _⟩ => ⟨S72x1x48, .f32⟩
  | .local _ .vmem, ⟨0, _⟩ => ⟨S72x1536, .bf16⟩
  | .local _ .vmem, ⟨1, _⟩ => ⟨S768x4608, .i8⟩
  | .local _ .vmem, ⟨2, _⟩ => ⟨S768x4608, .i8⟩
  | .local _ .vmem, ⟨3, _⟩ => ⟨S24x4608, .f32⟩
  | .local _ .vmem, ⟨4, _⟩ => ⟨S24x4608, .f32⟩
  | .local _ .vmem, ⟨5, _⟩ => ⟨S72x4864, .i32⟩
  | .local _ .vmem, ⟨6, _⟩ => ⟨S72x128, .i32⟩
  | .local _ .vmem, ⟨7, _⟩ => ⟨S72x1x4608, .f32⟩
  | .local _ .vmem, ⟨8, _⟩ => ⟨S72x1x4608, .f32⟩
  | .local _ .vmem, ⟨9, _⟩ => ⟨S72x128, .f32⟩
  | .local _ .vmem, ⟨10, _⟩ => ⟨S72x128, .f32⟩
  | .local _ .vmem, ⟨11, _⟩ => ⟨S72x128, .f32⟩
  | .local _ .vmem, ⟨12, _⟩ => ⟨S72x128, .f32⟩
  | .local _ .vmem, ⟨13, _⟩ => ⟨S72x128, .f32⟩
  | _, _ => ⟨S72x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![33], ![false]⟩

def k0_mult1 (i : grid0.Coords) : BitVec 32 :=
  let arg0 : BitVec 32 := BitVec.ofNat 32 (i 0).val
  let c36_i32 : BitVec 32 := 36#32
  let v276 : BitVec 32 := Scalar.muli arg0 c36_i32
  let c0_i32_40 : BitVec 32 := 0#32
  let v277 : BitVec 32 := Scalar.addi v276 c0_i32_40
  let c0_i32_41 : BitVec 32 := 0#32
  let v278 : BitVec 32 := Scalar.addi v277 c0_i32_41
  let c0_i32_43 : BitVec 32 := 0#32
  let v281 : BitVec 1 := Scalar.cmpi .sgt v278 c0_i32_43
  let v282 : BitVec 32 := Scalar.extui v281
  let c0_i32_44 : BitVec 32 := 0#32
  let v283 : BitVec 1 := Scalar.cmpi .slt v278 c0_i32_44
  let v284 : BitVec 32 := Scalar.extui v283
  let v285 : BitVec 32 := Scalar.subi v282 v284
  let c32_i32_42 : BitVec 32 := 32#32
  let c0_i32_45 : BitVec 32 := 0#32
  let v286 : BitVec 1 := Scalar.cmpi .sgt c32_i32_42 c0_i32_45
  let v287 : BitVec 32 := Scalar.extui v286
  let c0_i32_46 : BitVec 32 := 0#32
  let v288 : BitVec 1 := Scalar.cmpi .slt c32_i32_42 c0_i32_46
  let v289 : BitVec 32 := Scalar.extui v288
  let v290 : BitVec 32 := Scalar.subi v287 v289
  let v291 : BitVec 1 := Scalar.cmpi .ne v285 v290
  let v292 : BitVec 32 := Scalar.remsi v278 c32_i32_42
  let c0_i32_47 : BitVec 32 := 0#32
  let v293 : BitVec 1 := Scalar.cmpi .ne v292 c0_i32_47
  let v294 : BitVec 1 := Scalar.andi v291 v293
  let v280 : BitVec 32 := Scalar.divsi v278 c32_i32_42
  let c1_i32_48 : BitVec 32 := 1#32
  let v295 : BitVec 32 := Scalar.subi v280 c1_i32_48
  let v296 : BitVec 32 := Scalar.select v294 v295 v280
  let c128_i32_49 : BitVec 32 := 128#32
  let v297 : BitVec 32 := Scalar.muli v296 c128_i32_49
  v297
def k0_off1 (i : grid0.Coords) (c0_i32_40 : BitVec 32) (c0_i32_41 : BitVec 32) : Fin 2 → Nat :=
  let c0_50 : Index := 0#32
  let arg0 : BitVec 32 := BitVec.ofNat 32 (i 0).val
  let c36_i32 : BitVec 32 := 36#32
  let v276 : BitVec 32 := Scalar.muli arg0 c36_i32
  let v277 : BitVec 32 := Scalar.addi v276 c0_i32_40
  let v278 : BitVec 32 := Scalar.addi v277 c0_i32_41
  let c0_i32_43 : BitVec 32 := 0#32
  let v281 : BitVec 1 := Scalar.cmpi .sgt v278 c0_i32_43
  let v282 : BitVec 32 := Scalar.extui v281
  let c0_i32_44 : BitVec 32 := 0#32
  let v283 : BitVec 1 := Scalar.cmpi .slt v278 c0_i32_44
  let v284 : BitVec 32 := Scalar.extui v283
  let v285 : BitVec 32 := Scalar.subi v282 v284
  let c32_i32_42 : BitVec 32 := 32#32
  let c0_i32_45 : BitVec 32 := 0#32
  let v286 : BitVec 1 := Scalar.cmpi .sgt c32_i32_42 c0_i32_45
  let v287 : BitVec 32 := Scalar.extui v286
  let c0_i32_46 : BitVec 32 := 0#32
  let v288 : BitVec 1 := Scalar.cmpi .slt c32_i32_42 c0_i32_46
  let v289 : BitVec 32 := Scalar.extui v288
  let v290 : BitVec 32 := Scalar.subi v287 v289
  let v291 : BitVec 1 := Scalar.cmpi .ne v285 v290
  let v292 : BitVec 32 := Scalar.remsi v278 c32_i32_42
  let c0_i32_47 : BitVec 32 := 0#32
  let v293 : BitVec 1 := Scalar.cmpi .ne v292 c0_i32_47
  let v294 : BitVec 1 := Scalar.andi v291 v293
  let v280 : BitVec 32 := Scalar.divsi v278 c32_i32_42
  let c1_i32_48 : BitVec 32 := 1#32
  let v295 : BitVec 32 := Scalar.subi v280 c1_i32_48
  let v296 : BitVec 32 := Scalar.select v294 v295 v280
  let c128_i32_49 : BitVec 32 := 128#32
  let v297 : BitVec 32 := Scalar.muli v296 c128_i32_49
  let v298 : BitVec 32 := v297
  let v299 : Index := Scalar.indexCast v298
  ![0, v299.toNat]
def k0_mult2 (i : grid0.Coords) : BitVec 32 :=
  let arg0 : BitVec 32 := BitVec.ofNat 32 (i 0).val
  let c36_i32_69 : BitVec 32 := 36#32
  let v350 : BitVec 32 := Scalar.muli arg0 c36_i32_69
  let c0_i32_70 : BitVec 32 := 0#32
  let v351 : BitVec 32 := Scalar.addi v350 c0_i32_70
  let c1_i32_71 : BitVec 32 := 1#32
  let v352 : BitVec 32 := Scalar.addi v351 c1_i32_71
  let c0_i32_73 : BitVec 32 := 0#32
  let v355 : BitVec 1 := Scalar.cmpi .sgt v352 c0_i32_73
  let v356 : BitVec 32 := Scalar.extui v355
  let c0_i32_74 : BitVec 32 := 0#32
  let v357 : BitVec 1 := Scalar.cmpi .slt v352 c0_i32_74
  let v358 : BitVec 32 := Scalar.extui v357
  let v359 : BitVec 32 := Scalar.subi v356 v358
  let c32_i32_72 : BitVec 32 := 32#32
  let c0_i32_75 : BitVec 32 := 0#32
  let v360 : BitVec 1 := Scalar.cmpi .sgt c32_i32_72 c0_i32_75
  let v361 : BitVec 32 := Scalar.extui v360
  let c0_i32_76 : BitVec 32 := 0#32
  let v362 : BitVec 1 := Scalar.cmpi .slt c32_i32_72 c0_i32_76
  let v363 : BitVec 32 := Scalar.extui v362
  let v364 : BitVec 32 := Scalar.subi v361 v363
  let v365 : BitVec 1 := Scalar.cmpi .ne v359 v364
  let v366 : BitVec 32 := Scalar.remsi v352 c32_i32_72
  let c0_i32_77 : BitVec 32 := 0#32
  let v367 : BitVec 1 := Scalar.cmpi .ne v366 c0_i32_77
  let v368 : BitVec 1 := Scalar.andi v365 v367
  let v354 : BitVec 32 := Scalar.divsi v352 c32_i32_72
  let c1_i32_78 : BitVec 32 := 1#32
  let v369 : BitVec 32 := Scalar.subi v354 c1_i32_78
  let v370 : BitVec 32 := Scalar.select v368 v369 v354
  let c128_i32_79 : BitVec 32 := 128#32
  let v371 : BitVec 32 := Scalar.muli v370 c128_i32_79
  v371
def k0_mult3 (i : grid0.Coords) : BitVec 32 :=
  let arg0 : BitVec 32 := BitVec.ofNat 32 (i 0).val
  let c36_i32_106 : BitVec 32 := 36#32
  let v618 : BitVec 32 := Scalar.muli arg0 c36_i32_106
  let c2_i32 : BitVec 32 := 2#32
  let v619 : BitVec 32 := Scalar.addi v618 c2_i32
  let c0_i32_107 : BitVec 32 := 0#32
  let v620 : BitVec 32 := Scalar.addi v619 c0_i32_107
  let c0_i32_109 : BitVec 32 := 0#32
  let v623 : BitVec 1 := Scalar.cmpi .sgt v620 c0_i32_109
  let v624 : BitVec 32 := Scalar.extui v623
  let c0_i32_110 : BitVec 32 := 0#32
  let v625 : BitVec 1 := Scalar.cmpi .slt v620 c0_i32_110
  let v626 : BitVec 32 := Scalar.extui v625
  let v627 : BitVec 32 := Scalar.subi v624 v626
  let c32_i32_108 : BitVec 32 := 32#32
  let c0_i32_111 : BitVec 32 := 0#32
  let v628 : BitVec 1 := Scalar.cmpi .sgt c32_i32_108 c0_i32_111
  let v629 : BitVec 32 := Scalar.extui v628
  let c0_i32_112 : BitVec 32 := 0#32
  let v630 : BitVec 1 := Scalar.cmpi .slt c32_i32_108 c0_i32_112
  let v631 : BitVec 32 := Scalar.extui v630
  let v632 : BitVec 32 := Scalar.subi v629 v631
  let v633 : BitVec 1 := Scalar.cmpi .ne v627 v632
  let v634 : BitVec 32 := Scalar.remsi v620 c32_i32_108
  let c0_i32_113 : BitVec 32 := 0#32
  let v635 : BitVec 1 := Scalar.cmpi .ne v634 c0_i32_113
  let v636 : BitVec 1 := Scalar.andi v633 v635
  let v622 : BitVec 32 := Scalar.divsi v620 c32_i32_108
  let c1_i32_114 : BitVec 32 := 1#32
  let v637 : BitVec 32 := Scalar.subi v622 c1_i32_114
  let v638 : BitVec 32 := Scalar.select v636 v637 v622
  let c128_i32_115 : BitVec 32 := 128#32
  let v639 : BitVec 32 := Scalar.muli v638 c128_i32_115
  v639
def k0_mult4 (i : grid0.Coords) : BitVec 32 :=
  let arg0 : BitVec 32 := BitVec.ofNat 32 (i 0).val
  let c36_i32_136 : BitVec 32 := 36#32
  let v692 : BitVec 32 := Scalar.muli arg0 c36_i32_136
  let c2_i32_137 : BitVec 32 := 2#32
  let v693 : BitVec 32 := Scalar.addi v692 c2_i32_137
  let c1_i32_138 : BitVec 32 := 1#32
  let v694 : BitVec 32 := Scalar.addi v693 c1_i32_138
  let c0_i32_140 : BitVec 32 := 0#32
  let v697 : BitVec 1 := Scalar.cmpi .sgt v694 c0_i32_140
  let v698 : BitVec 32 := Scalar.extui v697
  let c0_i32_141 : BitVec 32 := 0#32
  let v699 : BitVec 1 := Scalar.cmpi .slt v694 c0_i32_141
  let v700 : BitVec 32 := Scalar.extui v699
  let v701 : BitVec 32 := Scalar.subi v698 v700
  let c32_i32_139 : BitVec 32 := 32#32
  let c0_i32_142 : BitVec 32 := 0#32
  let v702 : BitVec 1 := Scalar.cmpi .sgt c32_i32_139 c0_i32_142
  let v703 : BitVec 32 := Scalar.extui v702
  let c0_i32_143 : BitVec 32 := 0#32
  let v704 : BitVec 1 := Scalar.cmpi .slt c32_i32_139 c0_i32_143
  let v705 : BitVec 32 := Scalar.extui v704
  let v706 : BitVec 32 := Scalar.subi v703 v705
  let v707 : BitVec 1 := Scalar.cmpi .ne v701 v706
  let v708 : BitVec 32 := Scalar.remsi v694 c32_i32_139
  let c0_i32_144 : BitVec 32 := 0#32
  let v709 : BitVec 1 := Scalar.cmpi .ne v708 c0_i32_144
  let v710 : BitVec 1 := Scalar.andi v707 v709
  let v696 : BitVec 32 := Scalar.divsi v694 c32_i32_139
  let c1_i32_145 : BitVec 32 := 1#32
  let v711 : BitVec 32 := Scalar.subi v696 c1_i32_145
  let v712 : BitVec 32 := Scalar.select v710 v711 v696
  let c128_i32_146 : BitVec 32 := 128#32
  let v713 : BitVec 32 := Scalar.muli v712 c128_i32_146
  v713
def k0_mult5 (i : grid0.Coords) : BitVec 32 :=
  let arg0 : BitVec 32 := BitVec.ofNat 32 (i 0).val
  let c36_i32_173 : BitVec 32 := 36#32
  let v960 : BitVec 32 := Scalar.muli arg0 c36_i32_173
  let c4_i32_174 : BitVec 32 := 4#32
  let v961 : BitVec 32 := Scalar.addi v960 c4_i32_174
  let c0_i32_175 : BitVec 32 := 0#32
  let v962 : BitVec 32 := Scalar.addi v961 c0_i32_175
  let c0_i32_177 : BitVec 32 := 0#32
  let v965 : BitVec 1 := Scalar.cmpi .sgt v962 c0_i32_177
  let v966 : BitVec 32 := Scalar.extui v965
  let c0_i32_178 : BitVec 32 := 0#32
  let v967 : BitVec 1 := Scalar.cmpi .slt v962 c0_i32_178
  let v968 : BitVec 32 := Scalar.extui v967
  let v969 : BitVec 32 := Scalar.subi v966 v968
  let c32_i32_176 : BitVec 32 := 32#32
  let c0_i32_179 : BitVec 32 := 0#32
  let v970 : BitVec 1 := Scalar.cmpi .sgt c32_i32_176 c0_i32_179
  let v971 : BitVec 32 := Scalar.extui v970
  let c0_i32_180 : BitVec 32 := 0#32
  let v972 : BitVec 1 := Scalar.cmpi .slt c32_i32_176 c0_i32_180
  let v973 : BitVec 32 := Scalar.extui v972
  let v974 : BitVec 32 := Scalar.subi v971 v973
  let v975 : BitVec 1 := Scalar.cmpi .ne v969 v974
  let v976 : BitVec 32 := Scalar.remsi v962 c32_i32_176
  let c0_i32_181 : BitVec 32 := 0#32
  let v977 : BitVec 1 := Scalar.cmpi .ne v976 c0_i32_181
  let v978 : BitVec 1 := Scalar.andi v975 v977
  let v964 : BitVec 32 := Scalar.divsi v962 c32_i32_176
  let c1_i32_182 : BitVec 32 := 1#32
  let v979 : BitVec 32 := Scalar.subi v964 c1_i32_182
  let v980 : BitVec 32 := Scalar.select v978 v979 v964
  let c128_i32_183 : BitVec 32 := 128#32
  let v981 : BitVec 32 := Scalar.muli v980 c128_i32_183
  v981
def k0_mult6 (i : grid0.Coords) : BitVec 32 :=
  let arg0 : BitVec 32 := BitVec.ofNat 32 (i 0).val
  let c36_i32_204 : BitVec 32 := 36#32
  let v1034 : BitVec 32 := Scalar.muli arg0 c36_i32_204
  let c4_i32_205 : BitVec 32 := 4#32
  let v1035 : BitVec 32 := Scalar.addi v1034 c4_i32_205
  let c1_i32_206 : BitVec 32 := 1#32
  let v1036 : BitVec 32 := Scalar.addi v1035 c1_i32_206
  let c0_i32_208 : BitVec 32 := 0#32
  let v1039 : BitVec 1 := Scalar.cmpi .sgt v1036 c0_i32_208
  let v1040 : BitVec 32 := Scalar.extui v1039
  let c0_i32_209 : BitVec 32 := 0#32
  let v1041 : BitVec 1 := Scalar.cmpi .slt v1036 c0_i32_209
  let v1042 : BitVec 32 := Scalar.extui v1041
  let v1043 : BitVec 32 := Scalar.subi v1040 v1042
  let c32_i32_207 : BitVec 32 := 32#32
  let c0_i32_210 : BitVec 32 := 0#32
  let v1044 : BitVec 1 := Scalar.cmpi .sgt c32_i32_207 c0_i32_210
  let v1045 : BitVec 32 := Scalar.extui v1044
  let c0_i32_211 : BitVec 32 := 0#32
  let v1046 : BitVec 1 := Scalar.cmpi .slt c32_i32_207 c0_i32_211
  let v1047 : BitVec 32 := Scalar.extui v1046
  let v1048 : BitVec 32 := Scalar.subi v1045 v1047
  let v1049 : BitVec 1 := Scalar.cmpi .ne v1043 v1048
  let v1050 : BitVec 32 := Scalar.remsi v1036 c32_i32_207
  let c0_i32_212 : BitVec 32 := 0#32
  let v1051 : BitVec 1 := Scalar.cmpi .ne v1050 c0_i32_212
  let v1052 : BitVec 1 := Scalar.andi v1049 v1051
  let v1038 : BitVec 32 := Scalar.divsi v1036 c32_i32_207
  let c1_i32_213 : BitVec 32 := 1#32
  let v1053 : BitVec 32 := Scalar.subi v1038 c1_i32_213
  let v1054 : BitVec 32 := Scalar.select v1052 v1053 v1038
  let c128_i32_214 : BitVec 32 := 128#32
  let v1055 : BitVec 32 := Scalar.muli v1054 c128_i32_214
  v1055
def k0_mult7 (i : grid0.Coords) : BitVec 32 :=
  let arg0 : BitVec 32 := BitVec.ofNat 32 (i 0).val
  let c36_i32_241 : BitVec 32 := 36#32
  let v1302 : BitVec 32 := Scalar.muli arg0 c36_i32_241
  let c6_i32 : BitVec 32 := 6#32
  let v1303 : BitVec 32 := Scalar.addi v1302 c6_i32
  let c0_i32_242 : BitVec 32 := 0#32
  let v1304 : BitVec 32 := Scalar.addi v1303 c0_i32_242
  let c0_i32_244 : BitVec 32 := 0#32
  let v1307 : BitVec 1 := Scalar.cmpi .sgt v1304 c0_i32_244
  let v1308 : BitVec 32 := Scalar.extui v1307
  let c0_i32_245 : BitVec 32 := 0#32
  let v1309 : BitVec 1 := Scalar.cmpi .slt v1304 c0_i32_245
  let v1310 : BitVec 32 := Scalar.extui v1309
  let v1311 : BitVec 32 := Scalar.subi v1308 v1310
  let c32_i32_243 : BitVec 32 := 32#32
  let c0_i32_246 : BitVec 32 := 0#32
  let v1312 : BitVec 1 := Scalar.cmpi .sgt c32_i32_243 c0_i32_246
  let v1313 : BitVec 32 := Scalar.extui v1312
  let c0_i32_247 : BitVec 32 := 0#32
  let v1314 : BitVec 1 := Scalar.cmpi .slt c32_i32_243 c0_i32_247
  let v1315 : BitVec 32 := Scalar.extui v1314
  let v1316 : BitVec 32 := Scalar.subi v1313 v1315
  let v1317 : BitVec 1 := Scalar.cmpi .ne v1311 v1316
  let v1318 : BitVec 32 := Scalar.remsi v1304 c32_i32_243
  let c0_i32_248 : BitVec 32 := 0#32
  let v1319 : BitVec 1 := Scalar.cmpi .ne v1318 c0_i32_248
  let v1320 : BitVec 1 := Scalar.andi v1317 v1319
  let v1306 : BitVec 32 := Scalar.divsi v1304 c32_i32_243
  let c1_i32_249 : BitVec 32 := 1#32
  let v1321 : BitVec 32 := Scalar.subi v1306 c1_i32_249
  let v1322 : BitVec 32 := Scalar.select v1320 v1321 v1306
  let c128_i32_250 : BitVec 32 := 128#32
  let v1323 : BitVec 32 := Scalar.muli v1322 c128_i32_250
  v1323
def k0_mult8 (i : grid0.Coords) : BitVec 32 :=
  let arg0 : BitVec 32 := BitVec.ofNat 32 (i 0).val
  let c36_i32_271 : BitVec 32 := 36#32
  let v1376 : BitVec 32 := Scalar.muli arg0 c36_i32_271
  let c6_i32_272 : BitVec 32 := 6#32
  let v1377 : BitVec 32 := Scalar.addi v1376 c6_i32_272
  let c1_i32_273 : BitVec 32 := 1#32
  let v1378 : BitVec 32 := Scalar.addi v1377 c1_i32_273
  let c0_i32_275 : BitVec 32 := 0#32
  let v1381 : BitVec 1 := Scalar.cmpi .sgt v1378 c0_i32_275
  let v1382 : BitVec 32 := Scalar.extui v1381
  let c0_i32_276 : BitVec 32 := 0#32
  let v1383 : BitVec 1 := Scalar.cmpi .slt v1378 c0_i32_276
  let v1384 : BitVec 32 := Scalar.extui v1383
  let v1385 : BitVec 32 := Scalar.subi v1382 v1384
  let c32_i32_274 : BitVec 32 := 32#32
  let c0_i32_277 : BitVec 32 := 0#32
  let v1386 : BitVec 1 := Scalar.cmpi .sgt c32_i32_274 c0_i32_277
  let v1387 : BitVec 32 := Scalar.extui v1386
  let c0_i32_278 : BitVec 32 := 0#32
  let v1388 : BitVec 1 := Scalar.cmpi .slt c32_i32_274 c0_i32_278
  let v1389 : BitVec 32 := Scalar.extui v1388
  let v1390 : BitVec 32 := Scalar.subi v1387 v1389
  let v1391 : BitVec 1 := Scalar.cmpi .ne v1385 v1390
  let v1392 : BitVec 32 := Scalar.remsi v1378 c32_i32_274
  let c0_i32_279 : BitVec 32 := 0#32
  let v1393 : BitVec 1 := Scalar.cmpi .ne v1392 c0_i32_279
  let v1394 : BitVec 1 := Scalar.andi v1391 v1393
  let v1380 : BitVec 32 := Scalar.divsi v1378 c32_i32_274
  let c1_i32_280 : BitVec 32 := 1#32
  let v1395 : BitVec 32 := Scalar.subi v1380 c1_i32_280
  let v1396 : BitVec 32 := Scalar.select v1394 v1395 v1380
  let c128_i32_281 : BitVec 32 := 128#32
  let v1397 : BitVec 32 := Scalar.muli v1396 c128_i32_281
  v1397
def k0_mult9 (i : grid0.Coords) : BitVec 32 :=
  let arg0 : BitVec 32 := BitVec.ofNat 32 (i 0).val
  let c36_i32_308 : BitVec 32 := 36#32
  let v1644 : BitVec 32 := Scalar.muli arg0 c36_i32_308
  let c8_i32 : BitVec 32 := 8#32
  let v1645 : BitVec 32 := Scalar.addi v1644 c8_i32
  let c0_i32_309 : BitVec 32 := 0#32
  let v1646 : BitVec 32 := Scalar.addi v1645 c0_i32_309
  let c0_i32_311 : BitVec 32 := 0#32
  let v1649 : BitVec 1 := Scalar.cmpi .sgt v1646 c0_i32_311
  let v1650 : BitVec 32 := Scalar.extui v1649
  let c0_i32_312 : BitVec 32 := 0#32
  let v1651 : BitVec 1 := Scalar.cmpi .slt v1646 c0_i32_312
  let v1652 : BitVec 32 := Scalar.extui v1651
  let v1653 : BitVec 32 := Scalar.subi v1650 v1652
  let c32_i32_310 : BitVec 32 := 32#32
  let c0_i32_313 : BitVec 32 := 0#32
  let v1654 : BitVec 1 := Scalar.cmpi .sgt c32_i32_310 c0_i32_313
  let v1655 : BitVec 32 := Scalar.extui v1654
  let c0_i32_314 : BitVec 32 := 0#32
  let v1656 : BitVec 1 := Scalar.cmpi .slt c32_i32_310 c0_i32_314
  let v1657 : BitVec 32 := Scalar.extui v1656
  let v1658 : BitVec 32 := Scalar.subi v1655 v1657
  let v1659 : BitVec 1 := Scalar.cmpi .ne v1653 v1658
  let v1660 : BitVec 32 := Scalar.remsi v1646 c32_i32_310
  let c0_i32_315 : BitVec 32 := 0#32
  let v1661 : BitVec 1 := Scalar.cmpi .ne v1660 c0_i32_315
  let v1662 : BitVec 1 := Scalar.andi v1659 v1661
  let v1648 : BitVec 32 := Scalar.divsi v1646 c32_i32_310
  let c1_i32_316 : BitVec 32 := 1#32
  let v1663 : BitVec 32 := Scalar.subi v1648 c1_i32_316
  let v1664 : BitVec 32 := Scalar.select v1662 v1663 v1648
  let c128_i32_317 : BitVec 32 := 128#32
  let v1665 : BitVec 32 := Scalar.muli v1664 c128_i32_317
  v1665
def k0_mult10 (i : grid0.Coords) : BitVec 32 :=
  let arg0 : BitVec 32 := BitVec.ofNat 32 (i 0).val
  let c36_i32_338 : BitVec 32 := 36#32
  let v1718 : BitVec 32 := Scalar.muli arg0 c36_i32_338
  let c8_i32_339 : BitVec 32 := 8#32
  let v1719 : BitVec 32 := Scalar.addi v1718 c8_i32_339
  let c1_i32_340 : BitVec 32 := 1#32
  let v1720 : BitVec 32 := Scalar.addi v1719 c1_i32_340
  let c0_i32_342 : BitVec 32 := 0#32
  let v1723 : BitVec 1 := Scalar.cmpi .sgt v1720 c0_i32_342
  let v1724 : BitVec 32 := Scalar.extui v1723
  let c0_i32_343 : BitVec 32 := 0#32
  let v1725 : BitVec 1 := Scalar.cmpi .slt v1720 c0_i32_343
  let v1726 : BitVec 32 := Scalar.extui v1725
  let v1727 : BitVec 32 := Scalar.subi v1724 v1726
  let c32_i32_341 : BitVec 32 := 32#32
  let c0_i32_344 : BitVec 32 := 0#32
  let v1728 : BitVec 1 := Scalar.cmpi .sgt c32_i32_341 c0_i32_344
  let v1729 : BitVec 32 := Scalar.extui v1728
  let c0_i32_345 : BitVec 32 := 0#32
  let v1730 : BitVec 1 := Scalar.cmpi .slt c32_i32_341 c0_i32_345
  let v1731 : BitVec 32 := Scalar.extui v1730
  let v1732 : BitVec 32 := Scalar.subi v1729 v1731
  let v1733 : BitVec 1 := Scalar.cmpi .ne v1727 v1732
  let v1734 : BitVec 32 := Scalar.remsi v1720 c32_i32_341
  let c0_i32_346 : BitVec 32 := 0#32
  let v1735 : BitVec 1 := Scalar.cmpi .ne v1734 c0_i32_346
  let v1736 : BitVec 1 := Scalar.andi v1733 v1735
  let v1722 : BitVec 32 := Scalar.divsi v1720 c32_i32_341
  let c1_i32_347 : BitVec 32 := 1#32
  let v1737 : BitVec 32 := Scalar.subi v1722 c1_i32_347
  let v1738 : BitVec 32 := Scalar.select v1736 v1737 v1722
  let c128_i32_348 : BitVec 32 := 128#32
  let v1739 : BitVec 32 := Scalar.muli v1738 c128_i32_348
  v1739
def k0_mult11 (i : grid0.Coords) : BitVec 32 :=
  let arg0 : BitVec 32 := BitVec.ofNat 32 (i 0).val
  let c36_i32_375 : BitVec 32 := 36#32
  let v1986 : BitVec 32 := Scalar.muli arg0 c36_i32_375
  let c10_i32 : BitVec 32 := 10#32
  let v1987 : BitVec 32 := Scalar.addi v1986 c10_i32
  let c0_i32_376 : BitVec 32 := 0#32
  let v1988 : BitVec 32 := Scalar.addi v1987 c0_i32_376
  let c0_i32_378 : BitVec 32 := 0#32
  let v1991 : BitVec 1 := Scalar.cmpi .sgt v1988 c0_i32_378
  let v1992 : BitVec 32 := Scalar.extui v1991
  let c0_i32_379 : BitVec 32 := 0#32
  let v1993 : BitVec 1 := Scalar.cmpi .slt v1988 c0_i32_379
  let v1994 : BitVec 32 := Scalar.extui v1993
  let v1995 : BitVec 32 := Scalar.subi v1992 v1994
  let c32_i32_377 : BitVec 32 := 32#32
  let c0_i32_380 : BitVec 32 := 0#32
  let v1996 : BitVec 1 := Scalar.cmpi .sgt c32_i32_377 c0_i32_380
  let v1997 : BitVec 32 := Scalar.extui v1996
  let c0_i32_381 : BitVec 32 := 0#32
  let v1998 : BitVec 1 := Scalar.cmpi .slt c32_i32_377 c0_i32_381
  let v1999 : BitVec 32 := Scalar.extui v1998
  let v2000 : BitVec 32 := Scalar.subi v1997 v1999
  let v2001 : BitVec 1 := Scalar.cmpi .ne v1995 v2000
  let v2002 : BitVec 32 := Scalar.remsi v1988 c32_i32_377
  let c0_i32_382 : BitVec 32 := 0#32
  let v2003 : BitVec 1 := Scalar.cmpi .ne v2002 c0_i32_382
  let v2004 : BitVec 1 := Scalar.andi v2001 v2003
  let v1990 : BitVec 32 := Scalar.divsi v1988 c32_i32_377
  let c1_i32_383 : BitVec 32 := 1#32
  let v2005 : BitVec 32 := Scalar.subi v1990 c1_i32_383
  let v2006 : BitVec 32 := Scalar.select v2004 v2005 v1990
  let c128_i32_384 : BitVec 32 := 128#32
  let v2007 : BitVec 32 := Scalar.muli v2006 c128_i32_384
  v2007
def k0_mult12 (i : grid0.Coords) : BitVec 32 :=
  let arg0 : BitVec 32 := BitVec.ofNat 32 (i 0).val
  let c36_i32_405 : BitVec 32 := 36#32
  let v2060 : BitVec 32 := Scalar.muli arg0 c36_i32_405
  let c10_i32_406 : BitVec 32 := 10#32
  let v2061 : BitVec 32 := Scalar.addi v2060 c10_i32_406
  let c1_i32_407 : BitVec 32 := 1#32
  let v2062 : BitVec 32 := Scalar.addi v2061 c1_i32_407
  let c0_i32_409 : BitVec 32 := 0#32
  let v2065 : BitVec 1 := Scalar.cmpi .sgt v2062 c0_i32_409
  let v2066 : BitVec 32 := Scalar.extui v2065
  let c0_i32_410 : BitVec 32 := 0#32
  let v2067 : BitVec 1 := Scalar.cmpi .slt v2062 c0_i32_410
  let v2068 : BitVec 32 := Scalar.extui v2067
  let v2069 : BitVec 32 := Scalar.subi v2066 v2068
  let c32_i32_408 : BitVec 32 := 32#32
  let c0_i32_411 : BitVec 32 := 0#32
  let v2070 : BitVec 1 := Scalar.cmpi .sgt c32_i32_408 c0_i32_411
  let v2071 : BitVec 32 := Scalar.extui v2070
  let c0_i32_412 : BitVec 32 := 0#32
  let v2072 : BitVec 1 := Scalar.cmpi .slt c32_i32_408 c0_i32_412
  let v2073 : BitVec 32 := Scalar.extui v2072
  let v2074 : BitVec 32 := Scalar.subi v2071 v2073
  let v2075 : BitVec 1 := Scalar.cmpi .ne v2069 v2074
  let v2076 : BitVec 32 := Scalar.remsi v2062 c32_i32_408
  let c0_i32_413 : BitVec 32 := 0#32
  let v2077 : BitVec 1 := Scalar.cmpi .ne v2076 c0_i32_413
  let v2078 : BitVec 1 := Scalar.andi v2075 v2077
  let v2064 : BitVec 32 := Scalar.divsi v2062 c32_i32_408
  let c1_i32_414 : BitVec 32 := 1#32
  let v2079 : BitVec 32 := Scalar.subi v2064 c1_i32_414
  let v2080 : BitVec 32 := Scalar.select v2078 v2079 v2064
  let c128_i32_415 : BitVec 32 := 128#32
  let v2081 : BitVec 32 := Scalar.muli v2080 c128_i32_415
  v2081
def k0_mult13 (i : grid0.Coords) : BitVec 32 :=
  let arg0 : BitVec 32 := BitVec.ofNat 32 (i 0).val
  let c36_i32_442 : BitVec 32 := 36#32
  let v2328 : BitVec 32 := Scalar.muli arg0 c36_i32_442
  let c12_i32 : BitVec 32 := 12#32
  let v2329 : BitVec 32 := Scalar.addi v2328 c12_i32
  let c0_i32_443 : BitVec 32 := 0#32
  let v2330 : BitVec 32 := Scalar.addi v2329 c0_i32_443
  let c0_i32_445 : BitVec 32 := 0#32
  let v2333 : BitVec 1 := Scalar.cmpi .sgt v2330 c0_i32_445
  let v2334 : BitVec 32 := Scalar.extui v2333
  let c0_i32_446 : BitVec 32 := 0#32
  let v2335 : BitVec 1 := Scalar.cmpi .slt v2330 c0_i32_446
  let v2336 : BitVec 32 := Scalar.extui v2335
  let v2337 : BitVec 32 := Scalar.subi v2334 v2336
  let c32_i32_444 : BitVec 32 := 32#32
  let c0_i32_447 : BitVec 32 := 0#32
  let v2338 : BitVec 1 := Scalar.cmpi .sgt c32_i32_444 c0_i32_447
  let v2339 : BitVec 32 := Scalar.extui v2338
  let c0_i32_448 : BitVec 32 := 0#32
  let v2340 : BitVec 1 := Scalar.cmpi .slt c32_i32_444 c0_i32_448
  let v2341 : BitVec 32 := Scalar.extui v2340
  let v2342 : BitVec 32 := Scalar.subi v2339 v2341
  let v2343 : BitVec 1 := Scalar.cmpi .ne v2337 v2342
  let v2344 : BitVec 32 := Scalar.remsi v2330 c32_i32_444
  let c0_i32_449 : BitVec 32 := 0#32
  let v2345 : BitVec 1 := Scalar.cmpi .ne v2344 c0_i32_449
  let v2346 : BitVec 1 := Scalar.andi v2343 v2345
  let v2332 : BitVec 32 := Scalar.divsi v2330 c32_i32_444
  let c1_i32_450 : BitVec 32 := 1#32
  let v2347 : BitVec 32 := Scalar.subi v2332 c1_i32_450
  let v2348 : BitVec 32 := Scalar.select v2346 v2347 v2332
  let c128_i32_451 : BitVec 32 := 128#32
  let v2349 : BitVec 32 := Scalar.muli v2348 c128_i32_451
  v2349
def k0_mult14 (i : grid0.Coords) : BitVec 32 :=
  let arg0 : BitVec 32 := BitVec.ofNat 32 (i 0).val
  let c36_i32_472 : BitVec 32 := 36#32
  let v2402 : BitVec 32 := Scalar.muli arg0 c36_i32_472
  let c12_i32_473 : BitVec 32 := 12#32
  let v2403 : BitVec 32 := Scalar.addi v2402 c12_i32_473
  let c1_i32_474 : BitVec 32 := 1#32
  let v2404 : BitVec 32 := Scalar.addi v2403 c1_i32_474
  let c0_i32_476 : BitVec 32 := 0#32
  let v2407 : BitVec 1 := Scalar.cmpi .sgt v2404 c0_i32_476
  let v2408 : BitVec 32 := Scalar.extui v2407
  let c0_i32_477 : BitVec 32 := 0#32
  let v2409 : BitVec 1 := Scalar.cmpi .slt v2404 c0_i32_477
  let v2410 : BitVec 32 := Scalar.extui v2409
  let v2411 : BitVec 32 := Scalar.subi v2408 v2410
  let c32_i32_475 : BitVec 32 := 32#32
  let c0_i32_478 : BitVec 32 := 0#32
  let v2412 : BitVec 1 := Scalar.cmpi .sgt c32_i32_475 c0_i32_478
  let v2413 : BitVec 32 := Scalar.extui v2412
  let c0_i32_479 : BitVec 32 := 0#32
  let v2414 : BitVec 1 := Scalar.cmpi .slt c32_i32_475 c0_i32_479
  let v2415 : BitVec 32 := Scalar.extui v2414
  let v2416 : BitVec 32 := Scalar.subi v2413 v2415
  let v2417 : BitVec 1 := Scalar.cmpi .ne v2411 v2416
  let v2418 : BitVec 32 := Scalar.remsi v2404 c32_i32_475
  let c0_i32_480 : BitVec 32 := 0#32
  let v2419 : BitVec 1 := Scalar.cmpi .ne v2418 c0_i32_480
  let v2420 : BitVec 1 := Scalar.andi v2417 v2419
  let v2406 : BitVec 32 := Scalar.divsi v2404 c32_i32_475
  let c1_i32_481 : BitVec 32 := 1#32
  let v2421 : BitVec 32 := Scalar.subi v2406 c1_i32_481
  let v2422 : BitVec 32 := Scalar.select v2420 v2421 v2406
  let c128_i32_482 : BitVec 32 := 128#32
  let v2423 : BitVec 32 := Scalar.muli v2422 c128_i32_482
  v2423
def k0_mult15 (i : grid0.Coords) : BitVec 32 :=
  let arg0 : BitVec 32 := BitVec.ofNat 32 (i 0).val
  let c36_i32_509 : BitVec 32 := 36#32
  let v2670 : BitVec 32 := Scalar.muli arg0 c36_i32_509
  let c14_i32 : BitVec 32 := 14#32
  let v2671 : BitVec 32 := Scalar.addi v2670 c14_i32
  let c0_i32_510 : BitVec 32 := 0#32
  let v2672 : BitVec 32 := Scalar.addi v2671 c0_i32_510
  let c0_i32_512 : BitVec 32 := 0#32
  let v2675 : BitVec 1 := Scalar.cmpi .sgt v2672 c0_i32_512
  let v2676 : BitVec 32 := Scalar.extui v2675
  let c0_i32_513 : BitVec 32 := 0#32
  let v2677 : BitVec 1 := Scalar.cmpi .slt v2672 c0_i32_513
  let v2678 : BitVec 32 := Scalar.extui v2677
  let v2679 : BitVec 32 := Scalar.subi v2676 v2678
  let c32_i32_511 : BitVec 32 := 32#32
  let c0_i32_514 : BitVec 32 := 0#32
  let v2680 : BitVec 1 := Scalar.cmpi .sgt c32_i32_511 c0_i32_514
  let v2681 : BitVec 32 := Scalar.extui v2680
  let c0_i32_515 : BitVec 32 := 0#32
  let v2682 : BitVec 1 := Scalar.cmpi .slt c32_i32_511 c0_i32_515
  let v2683 : BitVec 32 := Scalar.extui v2682
  let v2684 : BitVec 32 := Scalar.subi v2681 v2683
  let v2685 : BitVec 1 := Scalar.cmpi .ne v2679 v2684
  let v2686 : BitVec 32 := Scalar.remsi v2672 c32_i32_511
  let c0_i32_516 : BitVec 32 := 0#32
  let v2687 : BitVec 1 := Scalar.cmpi .ne v2686 c0_i32_516
  let v2688 : BitVec 1 := Scalar.andi v2685 v2687
  let v2674 : BitVec 32 := Scalar.divsi v2672 c32_i32_511
  let c1_i32_517 : BitVec 32 := 1#32
  let v2689 : BitVec 32 := Scalar.subi v2674 c1_i32_517
  let v2690 : BitVec 32 := Scalar.select v2688 v2689 v2674
  let c128_i32_518 : BitVec 32 := 128#32
  let v2691 : BitVec 32 := Scalar.muli v2690 c128_i32_518
  v2691
def k0_mult16 (i : grid0.Coords) : BitVec 32 :=
  let arg0 : BitVec 32 := BitVec.ofNat 32 (i 0).val
  let c36_i32_539 : BitVec 32 := 36#32
  let v2744 : BitVec 32 := Scalar.muli arg0 c36_i32_539
  let c14_i32_540 : BitVec 32 := 14#32
  let v2745 : BitVec 32 := Scalar.addi v2744 c14_i32_540
  let c1_i32_541 : BitVec 32 := 1#32
  let v2746 : BitVec 32 := Scalar.addi v2745 c1_i32_541
  let c0_i32_543 : BitVec 32 := 0#32
  let v2749 : BitVec 1 := Scalar.cmpi .sgt v2746 c0_i32_543
  let v2750 : BitVec 32 := Scalar.extui v2749
  let c0_i32_544 : BitVec 32 := 0#32
  let v2751 : BitVec 1 := Scalar.cmpi .slt v2746 c0_i32_544
  let v2752 : BitVec 32 := Scalar.extui v2751
  let v2753 : BitVec 32 := Scalar.subi v2750 v2752
  let c32_i32_542 : BitVec 32 := 32#32
  let c0_i32_545 : BitVec 32 := 0#32
  let v2754 : BitVec 1 := Scalar.cmpi .sgt c32_i32_542 c0_i32_545
  let v2755 : BitVec 32 := Scalar.extui v2754
  let c0_i32_546 : BitVec 32 := 0#32
  let v2756 : BitVec 1 := Scalar.cmpi .slt c32_i32_542 c0_i32_546
  let v2757 : BitVec 32 := Scalar.extui v2756
  let v2758 : BitVec 32 := Scalar.subi v2755 v2757
  let v2759 : BitVec 1 := Scalar.cmpi .ne v2753 v2758
  let v2760 : BitVec 32 := Scalar.remsi v2746 c32_i32_542
  let c0_i32_547 : BitVec 32 := 0#32
  let v2761 : BitVec 1 := Scalar.cmpi .ne v2760 c0_i32_547
  let v2762 : BitVec 1 := Scalar.andi v2759 v2761
  let v2748 : BitVec 32 := Scalar.divsi v2746 c32_i32_542
  let c1_i32_548 : BitVec 32 := 1#32
  let v2763 : BitVec 32 := Scalar.subi v2748 c1_i32_548
  let v2764 : BitVec 32 := Scalar.select v2762 v2763 v2748
  let c128_i32_549 : BitVec 32 := 128#32
  let v2765 : BitVec 32 := Scalar.muli v2764 c128_i32_549
  v2765
def k0_mult17 (i : grid0.Coords) : BitVec 32 :=
  let arg0 : BitVec 32 := BitVec.ofNat 32 (i 0).val
  let c36_i32_576 : BitVec 32 := 36#32
  let v3012 : BitVec 32 := Scalar.muli arg0 c36_i32_576
  let c16_i32 : BitVec 32 := 16#32
  let v3013 : BitVec 32 := Scalar.addi v3012 c16_i32
  let c0_i32_577 : BitVec 32 := 0#32
  let v3014 : BitVec 32 := Scalar.addi v3013 c0_i32_577
  let c0_i32_579 : BitVec 32 := 0#32
  let v3017 : BitVec 1 := Scalar.cmpi .sgt v3014 c0_i32_579
  let v3018 : BitVec 32 := Scalar.extui v3017
  let c0_i32_580 : BitVec 32 := 0#32
  let v3019 : BitVec 1 := Scalar.cmpi .slt v3014 c0_i32_580
  let v3020 : BitVec 32 := Scalar.extui v3019
  let v3021 : BitVec 32 := Scalar.subi v3018 v3020
  let c32_i32_578 : BitVec 32 := 32#32
  let c0_i32_581 : BitVec 32 := 0#32
  let v3022 : BitVec 1 := Scalar.cmpi .sgt c32_i32_578 c0_i32_581
  let v3023 : BitVec 32 := Scalar.extui v3022
  let c0_i32_582 : BitVec 32 := 0#32
  let v3024 : BitVec 1 := Scalar.cmpi .slt c32_i32_578 c0_i32_582
  let v3025 : BitVec 32 := Scalar.extui v3024
  let v3026 : BitVec 32 := Scalar.subi v3023 v3025
  let v3027 : BitVec 1 := Scalar.cmpi .ne v3021 v3026
  let v3028 : BitVec 32 := Scalar.remsi v3014 c32_i32_578
  let c0_i32_583 : BitVec 32 := 0#32
  let v3029 : BitVec 1 := Scalar.cmpi .ne v3028 c0_i32_583
  let v3030 : BitVec 1 := Scalar.andi v3027 v3029
  let v3016 : BitVec 32 := Scalar.divsi v3014 c32_i32_578
  let c1_i32_584 : BitVec 32 := 1#32
  let v3031 : BitVec 32 := Scalar.subi v3016 c1_i32_584
  let v3032 : BitVec 32 := Scalar.select v3030 v3031 v3016
  let c128_i32_585 : BitVec 32 := 128#32
  let v3033 : BitVec 32 := Scalar.muli v3032 c128_i32_585
  v3033
def k0_mult18 (i : grid0.Coords) : BitVec 32 :=
  let arg0 : BitVec 32 := BitVec.ofNat 32 (i 0).val
  let c36_i32_606 : BitVec 32 := 36#32
  let v3086 : BitVec 32 := Scalar.muli arg0 c36_i32_606
  let c16_i32_607 : BitVec 32 := 16#32
  let v3087 : BitVec 32 := Scalar.addi v3086 c16_i32_607
  let c1_i32_608 : BitVec 32 := 1#32
  let v3088 : BitVec 32 := Scalar.addi v3087 c1_i32_608
  let c0_i32_610 : BitVec 32 := 0#32
  let v3091 : BitVec 1 := Scalar.cmpi .sgt v3088 c0_i32_610
  let v3092 : BitVec 32 := Scalar.extui v3091
  let c0_i32_611 : BitVec 32 := 0#32
  let v3093 : BitVec 1 := Scalar.cmpi .slt v3088 c0_i32_611
  let v3094 : BitVec 32 := Scalar.extui v3093
  let v3095 : BitVec 32 := Scalar.subi v3092 v3094
  let c32_i32_609 : BitVec 32 := 32#32
  let c0_i32_612 : BitVec 32 := 0#32
  let v3096 : BitVec 1 := Scalar.cmpi .sgt c32_i32_609 c0_i32_612
  let v3097 : BitVec 32 := Scalar.extui v3096
  let c0_i32_613 : BitVec 32 := 0#32
  let v3098 : BitVec 1 := Scalar.cmpi .slt c32_i32_609 c0_i32_613
  let v3099 : BitVec 32 := Scalar.extui v3098
  let v3100 : BitVec 32 := Scalar.subi v3097 v3099
  let v3101 : BitVec 1 := Scalar.cmpi .ne v3095 v3100
  let v3102 : BitVec 32 := Scalar.remsi v3088 c32_i32_609
  let c0_i32_614 : BitVec 32 := 0#32
  let v3103 : BitVec 1 := Scalar.cmpi .ne v3102 c0_i32_614
  let v3104 : BitVec 1 := Scalar.andi v3101 v3103
  let v3090 : BitVec 32 := Scalar.divsi v3088 c32_i32_609
  let c1_i32_615 : BitVec 32 := 1#32
  let v3105 : BitVec 32 := Scalar.subi v3090 c1_i32_615
  let v3106 : BitVec 32 := Scalar.select v3104 v3105 v3090
  let c128_i32_616 : BitVec 32 := 128#32
  let v3107 : BitVec 32 := Scalar.muli v3106 c128_i32_616
  v3107
def k0_mult19 (i : grid0.Coords) : BitVec 32 :=
  let arg0 : BitVec 32 := BitVec.ofNat 32 (i 0).val
  let c36_i32_643 : BitVec 32 := 36#32
  let v3354 : BitVec 32 := Scalar.muli arg0 c36_i32_643
  let c18_i32 : BitVec 32 := 18#32
  let v3355 : BitVec 32 := Scalar.addi v3354 c18_i32
  let c0_i32_644 : BitVec 32 := 0#32
  let v3356 : BitVec 32 := Scalar.addi v3355 c0_i32_644
  let c0_i32_646 : BitVec 32 := 0#32
  let v3359 : BitVec 1 := Scalar.cmpi .sgt v3356 c0_i32_646
  let v3360 : BitVec 32 := Scalar.extui v3359
  let c0_i32_647 : BitVec 32 := 0#32
  let v3361 : BitVec 1 := Scalar.cmpi .slt v3356 c0_i32_647
  let v3362 : BitVec 32 := Scalar.extui v3361
  let v3363 : BitVec 32 := Scalar.subi v3360 v3362
  let c32_i32_645 : BitVec 32 := 32#32
  let c0_i32_648 : BitVec 32 := 0#32
  let v3364 : BitVec 1 := Scalar.cmpi .sgt c32_i32_645 c0_i32_648
  let v3365 : BitVec 32 := Scalar.extui v3364
  let c0_i32_649 : BitVec 32 := 0#32
  let v3366 : BitVec 1 := Scalar.cmpi .slt c32_i32_645 c0_i32_649
  let v3367 : BitVec 32 := Scalar.extui v3366
  let v3368 : BitVec 32 := Scalar.subi v3365 v3367
  let v3369 : BitVec 1 := Scalar.cmpi .ne v3363 v3368
  let v3370 : BitVec 32 := Scalar.remsi v3356 c32_i32_645
  let c0_i32_650 : BitVec 32 := 0#32
  let v3371 : BitVec 1 := Scalar.cmpi .ne v3370 c0_i32_650
  let v3372 : BitVec 1 := Scalar.andi v3369 v3371
  let v3358 : BitVec 32 := Scalar.divsi v3356 c32_i32_645
  let c1_i32_651 : BitVec 32 := 1#32
  let v3373 : BitVec 32 := Scalar.subi v3358 c1_i32_651
  let v3374 : BitVec 32 := Scalar.select v3372 v3373 v3358
  let c128_i32_652 : BitVec 32 := 128#32
  let v3375 : BitVec 32 := Scalar.muli v3374 c128_i32_652
  v3375
def k0_mult20 (i : grid0.Coords) : BitVec 32 :=
  let arg0 : BitVec 32 := BitVec.ofNat 32 (i 0).val
  let c36_i32_673 : BitVec 32 := 36#32
  let v3428 : BitVec 32 := Scalar.muli arg0 c36_i32_673
  let c18_i32_674 : BitVec 32 := 18#32
  let v3429 : BitVec 32 := Scalar.addi v3428 c18_i32_674
  let c1_i32_675 : BitVec 32 := 1#32
  let v3430 : BitVec 32 := Scalar.addi v3429 c1_i32_675
  let c0_i32_677 : BitVec 32 := 0#32
  let v3433 : BitVec 1 := Scalar.cmpi .sgt v3430 c0_i32_677
  let v3434 : BitVec 32 := Scalar.extui v3433
  let c0_i32_678 : BitVec 32 := 0#32
  let v3435 : BitVec 1 := Scalar.cmpi .slt v3430 c0_i32_678
  let v3436 : BitVec 32 := Scalar.extui v3435
  let v3437 : BitVec 32 := Scalar.subi v3434 v3436
  let c32_i32_676 : BitVec 32 := 32#32
  let c0_i32_679 : BitVec 32 := 0#32
  let v3438 : BitVec 1 := Scalar.cmpi .sgt c32_i32_676 c0_i32_679
  let v3439 : BitVec 32 := Scalar.extui v3438
  let c0_i32_680 : BitVec 32 := 0#32
  let v3440 : BitVec 1 := Scalar.cmpi .slt c32_i32_676 c0_i32_680
  let v3441 : BitVec 32 := Scalar.extui v3440
  let v3442 : BitVec 32 := Scalar.subi v3439 v3441
  let v3443 : BitVec 1 := Scalar.cmpi .ne v3437 v3442
  let v3444 : BitVec 32 := Scalar.remsi v3430 c32_i32_676
  let c0_i32_681 : BitVec 32 := 0#32
  let v3445 : BitVec 1 := Scalar.cmpi .ne v3444 c0_i32_681
  let v3446 : BitVec 1 := Scalar.andi v3443 v3445
  let v3432 : BitVec 32 := Scalar.divsi v3430 c32_i32_676
  let c1_i32_682 : BitVec 32 := 1#32
  let v3447 : BitVec 32 := Scalar.subi v3432 c1_i32_682
  let v3448 : BitVec 32 := Scalar.select v3446 v3447 v3432
  let c128_i32_683 : BitVec 32 := 128#32
  let v3449 : BitVec 32 := Scalar.muli v3448 c128_i32_683
  v3449
def k0_mult21 (i : grid0.Coords) : BitVec 32 :=
  let arg0 : BitVec 32 := BitVec.ofNat 32 (i 0).val
  let c36_i32_710 : BitVec 32 := 36#32
  let v3696 : BitVec 32 := Scalar.muli arg0 c36_i32_710
  let c20_i32 : BitVec 32 := 20#32
  let v3697 : BitVec 32 := Scalar.addi v3696 c20_i32
  let c0_i32_711 : BitVec 32 := 0#32
  let v3698 : BitVec 32 := Scalar.addi v3697 c0_i32_711
  let c0_i32_713 : BitVec 32 := 0#32
  let v3701 : BitVec 1 := Scalar.cmpi .sgt v3698 c0_i32_713
  let v3702 : BitVec 32 := Scalar.extui v3701
  let c0_i32_714 : BitVec 32 := 0#32
  let v3703 : BitVec 1 := Scalar.cmpi .slt v3698 c0_i32_714
  let v3704 : BitVec 32 := Scalar.extui v3703
  let v3705 : BitVec 32 := Scalar.subi v3702 v3704
  let c32_i32_712 : BitVec 32 := 32#32
  let c0_i32_715 : BitVec 32 := 0#32
  let v3706 : BitVec 1 := Scalar.cmpi .sgt c32_i32_712 c0_i32_715
  let v3707 : BitVec 32 := Scalar.extui v3706
  let c0_i32_716 : BitVec 32 := 0#32
  let v3708 : BitVec 1 := Scalar.cmpi .slt c32_i32_712 c0_i32_716
  let v3709 : BitVec 32 := Scalar.extui v3708
  let v3710 : BitVec 32 := Scalar.subi v3707 v3709
  let v3711 : BitVec 1 := Scalar.cmpi .ne v3705 v3710
  let v3712 : BitVec 32 := Scalar.remsi v3698 c32_i32_712
  let c0_i32_717 : BitVec 32 := 0#32
  let v3713 : BitVec 1 := Scalar.cmpi .ne v3712 c0_i32_717
  let v3714 : BitVec 1 := Scalar.andi v3711 v3713
  let v3700 : BitVec 32 := Scalar.divsi v3698 c32_i32_712
  let c1_i32_718 : BitVec 32 := 1#32
  let v3715 : BitVec 32 := Scalar.subi v3700 c1_i32_718
  let v3716 : BitVec 32 := Scalar.select v3714 v3715 v3700
  let c128_i32_719 : BitVec 32 := 128#32
  let v3717 : BitVec 32 := Scalar.muli v3716 c128_i32_719
  v3717
def k0_mult22 (i : grid0.Coords) : BitVec 32 :=
  let arg0 : BitVec 32 := BitVec.ofNat 32 (i 0).val
  let c36_i32_740 : BitVec 32 := 36#32
  let v3770 : BitVec 32 := Scalar.muli arg0 c36_i32_740
  let c20_i32_741 : BitVec 32 := 20#32
  let v3771 : BitVec 32 := Scalar.addi v3770 c20_i32_741
  let c1_i32_742 : BitVec 32 := 1#32
  let v3772 : BitVec 32 := Scalar.addi v3771 c1_i32_742
  let c0_i32_744 : BitVec 32 := 0#32
  let v3775 : BitVec 1 := Scalar.cmpi .sgt v3772 c0_i32_744
  let v3776 : BitVec 32 := Scalar.extui v3775
  let c0_i32_745 : BitVec 32 := 0#32
  let v3777 : BitVec 1 := Scalar.cmpi .slt v3772 c0_i32_745
  let v3778 : BitVec 32 := Scalar.extui v3777
  let v3779 : BitVec 32 := Scalar.subi v3776 v3778
  let c32_i32_743 : BitVec 32 := 32#32
  let c0_i32_746 : BitVec 32 := 0#32
  let v3780 : BitVec 1 := Scalar.cmpi .sgt c32_i32_743 c0_i32_746
  let v3781 : BitVec 32 := Scalar.extui v3780
  let c0_i32_747 : BitVec 32 := 0#32
  let v3782 : BitVec 1 := Scalar.cmpi .slt c32_i32_743 c0_i32_747
  let v3783 : BitVec 32 := Scalar.extui v3782
  let v3784 : BitVec 32 := Scalar.subi v3781 v3783
  let v3785 : BitVec 1 := Scalar.cmpi .ne v3779 v3784
  let v3786 : BitVec 32 := Scalar.remsi v3772 c32_i32_743
  let c0_i32_748 : BitVec 32 := 0#32
  let v3787 : BitVec 1 := Scalar.cmpi .ne v3786 c0_i32_748
  let v3788 : BitVec 1 := Scalar.andi v3785 v3787
  let v3774 : BitVec 32 := Scalar.divsi v3772 c32_i32_743
  let c1_i32_749 : BitVec 32 := 1#32
  let v3789 : BitVec 32 := Scalar.subi v3774 c1_i32_749
  let v3790 : BitVec 32 := Scalar.select v3788 v3789 v3774
  let c128_i32_750 : BitVec 32 := 128#32
  let v3791 : BitVec 32 := Scalar.muli v3790 c128_i32_750
  v3791
def k0_mult23 (i : grid0.Coords) : BitVec 32 :=
  let arg0 : BitVec 32 := BitVec.ofNat 32 (i 0).val
  let c36_i32_777 : BitVec 32 := 36#32
  let v4038 : BitVec 32 := Scalar.muli arg0 c36_i32_777
  let c22_i32 : BitVec 32 := 22#32
  let v4039 : BitVec 32 := Scalar.addi v4038 c22_i32
  let c0_i32_778 : BitVec 32 := 0#32
  let v4040 : BitVec 32 := Scalar.addi v4039 c0_i32_778
  let c0_i32_780 : BitVec 32 := 0#32
  let v4043 : BitVec 1 := Scalar.cmpi .sgt v4040 c0_i32_780
  let v4044 : BitVec 32 := Scalar.extui v4043
  let c0_i32_781 : BitVec 32 := 0#32
  let v4045 : BitVec 1 := Scalar.cmpi .slt v4040 c0_i32_781
  let v4046 : BitVec 32 := Scalar.extui v4045
  let v4047 : BitVec 32 := Scalar.subi v4044 v4046
  let c32_i32_779 : BitVec 32 := 32#32
  let c0_i32_782 : BitVec 32 := 0#32
  let v4048 : BitVec 1 := Scalar.cmpi .sgt c32_i32_779 c0_i32_782
  let v4049 : BitVec 32 := Scalar.extui v4048
  let c0_i32_783 : BitVec 32 := 0#32
  let v4050 : BitVec 1 := Scalar.cmpi .slt c32_i32_779 c0_i32_783
  let v4051 : BitVec 32 := Scalar.extui v4050
  let v4052 : BitVec 32 := Scalar.subi v4049 v4051
  let v4053 : BitVec 1 := Scalar.cmpi .ne v4047 v4052
  let v4054 : BitVec 32 := Scalar.remsi v4040 c32_i32_779
  let c0_i32_784 : BitVec 32 := 0#32
  let v4055 : BitVec 1 := Scalar.cmpi .ne v4054 c0_i32_784
  let v4056 : BitVec 1 := Scalar.andi v4053 v4055
  let v4042 : BitVec 32 := Scalar.divsi v4040 c32_i32_779
  let c1_i32_785 : BitVec 32 := 1#32
  let v4057 : BitVec 32 := Scalar.subi v4042 c1_i32_785
  let v4058 : BitVec 32 := Scalar.select v4056 v4057 v4042
  let c128_i32_786 : BitVec 32 := 128#32
  let v4059 : BitVec 32 := Scalar.muli v4058 c128_i32_786
  v4059
def k0_mult24 (i : grid0.Coords) : BitVec 32 :=
  let arg0 : BitVec 32 := BitVec.ofNat 32 (i 0).val
  let c36_i32_807 : BitVec 32 := 36#32
  let v4112 : BitVec 32 := Scalar.muli arg0 c36_i32_807
  let c22_i32_808 : BitVec 32 := 22#32
  let v4113 : BitVec 32 := Scalar.addi v4112 c22_i32_808
  let c1_i32_809 : BitVec 32 := 1#32
  let v4114 : BitVec 32 := Scalar.addi v4113 c1_i32_809
  let c0_i32_811 : BitVec 32 := 0#32
  let v4117 : BitVec 1 := Scalar.cmpi .sgt v4114 c0_i32_811
  let v4118 : BitVec 32 := Scalar.extui v4117
  let c0_i32_812 : BitVec 32 := 0#32
  let v4119 : BitVec 1 := Scalar.cmpi .slt v4114 c0_i32_812
  let v4120 : BitVec 32 := Scalar.extui v4119
  let v4121 : BitVec 32 := Scalar.subi v4118 v4120
  let c32_i32_810 : BitVec 32 := 32#32
  let c0_i32_813 : BitVec 32 := 0#32
  let v4122 : BitVec 1 := Scalar.cmpi .sgt c32_i32_810 c0_i32_813
  let v4123 : BitVec 32 := Scalar.extui v4122
  let c0_i32_814 : BitVec 32 := 0#32
  let v4124 : BitVec 1 := Scalar.cmpi .slt c32_i32_810 c0_i32_814
  let v4125 : BitVec 32 := Scalar.extui v4124
  let v4126 : BitVec 32 := Scalar.subi v4123 v4125
  let v4127 : BitVec 1 := Scalar.cmpi .ne v4121 v4126
  let v4128 : BitVec 32 := Scalar.remsi v4114 c32_i32_810
  let c0_i32_815 : BitVec 32 := 0#32
  let v4129 : BitVec 1 := Scalar.cmpi .ne v4128 c0_i32_815
  let v4130 : BitVec 1 := Scalar.andi v4127 v4129
  let v4116 : BitVec 32 := Scalar.divsi v4114 c32_i32_810
  let c1_i32_816 : BitVec 32 := 1#32
  let v4131 : BitVec 32 := Scalar.subi v4116 c1_i32_816
  let v4132 : BitVec 32 := Scalar.select v4130 v4131 v4116
  let c128_i32_817 : BitVec 32 := 128#32
  let v4133 : BitVec 32 := Scalar.muli v4132 c128_i32_817
  v4133
def k0_mult25 (i : grid0.Coords) : BitVec 32 :=
  let arg0 : BitVec 32 := BitVec.ofNat 32 (i 0).val
  let c36_i32_844 : BitVec 32 := 36#32
  let v4380 : BitVec 32 := Scalar.muli arg0 c36_i32_844
  let c24_i32 : BitVec 32 := 24#32
  let v4381 : BitVec 32 := Scalar.addi v4380 c24_i32
  let c0_i32_845 : BitVec 32 := 0#32
  let v4382 : BitVec 32 := Scalar.addi v4381 c0_i32_845
  let c0_i32_847 : BitVec 32 := 0#32
  let v4385 : BitVec 1 := Scalar.cmpi .sgt v4382 c0_i32_847
  let v4386 : BitVec 32 := Scalar.extui v4385
  let c0_i32_848 : BitVec 32 := 0#32
  let v4387 : BitVec 1 := Scalar.cmpi .slt v4382 c0_i32_848
  let v4388 : BitVec 32 := Scalar.extui v4387
  let v4389 : BitVec 32 := Scalar.subi v4386 v4388
  let c32_i32_846 : BitVec 32 := 32#32
  let c0_i32_849 : BitVec 32 := 0#32
  let v4390 : BitVec 1 := Scalar.cmpi .sgt c32_i32_846 c0_i32_849
  let v4391 : BitVec 32 := Scalar.extui v4390
  let c0_i32_850 : BitVec 32 := 0#32
  let v4392 : BitVec 1 := Scalar.cmpi .slt c32_i32_846 c0_i32_850
  let v4393 : BitVec 32 := Scalar.extui v4392
  let v4394 : BitVec 32 := Scalar.subi v4391 v4393
  let v4395 : BitVec 1 := Scalar.cmpi .ne v4389 v4394
  let v4396 : BitVec 32 := Scalar.remsi v4382 c32_i32_846
  let c0_i32_851 : BitVec 32 := 0#32
  let v4397 : BitVec 1 := Scalar.cmpi .ne v4396 c0_i32_851
  let v4398 : BitVec 1 := Scalar.andi v4395 v4397
  let v4384 : BitVec 32 := Scalar.divsi v4382 c32_i32_846
  let c1_i32_852 : BitVec 32 := 1#32
  let v4399 : BitVec 32 := Scalar.subi v4384 c1_i32_852
  let v4400 : BitVec 32 := Scalar.select v4398 v4399 v4384
  let c128_i32_853 : BitVec 32 := 128#32
  let v4401 : BitVec 32 := Scalar.muli v4400 c128_i32_853
  v4401
def k0_mult26 (i : grid0.Coords) : BitVec 32 :=
  let arg0 : BitVec 32 := BitVec.ofNat 32 (i 0).val
  let c36_i32_874 : BitVec 32 := 36#32
  let v4454 : BitVec 32 := Scalar.muli arg0 c36_i32_874
  let c24_i32_875 : BitVec 32 := 24#32
  let v4455 : BitVec 32 := Scalar.addi v4454 c24_i32_875
  let c1_i32_876 : BitVec 32 := 1#32
  let v4456 : BitVec 32 := Scalar.addi v4455 c1_i32_876
  let c0_i32_878 : BitVec 32 := 0#32
  let v4459 : BitVec 1 := Scalar.cmpi .sgt v4456 c0_i32_878
  let v4460 : BitVec 32 := Scalar.extui v4459
  let c0_i32_879 : BitVec 32 := 0#32
  let v4461 : BitVec 1 := Scalar.cmpi .slt v4456 c0_i32_879
  let v4462 : BitVec 32 := Scalar.extui v4461
  let v4463 : BitVec 32 := Scalar.subi v4460 v4462
  let c32_i32_877 : BitVec 32 := 32#32
  let c0_i32_880 : BitVec 32 := 0#32
  let v4464 : BitVec 1 := Scalar.cmpi .sgt c32_i32_877 c0_i32_880
  let v4465 : BitVec 32 := Scalar.extui v4464
  let c0_i32_881 : BitVec 32 := 0#32
  let v4466 : BitVec 1 := Scalar.cmpi .slt c32_i32_877 c0_i32_881
  let v4467 : BitVec 32 := Scalar.extui v4466
  let v4468 : BitVec 32 := Scalar.subi v4465 v4467
  let v4469 : BitVec 1 := Scalar.cmpi .ne v4463 v4468
  let v4470 : BitVec 32 := Scalar.remsi v4456 c32_i32_877
  let c0_i32_882 : BitVec 32 := 0#32
  let v4471 : BitVec 1 := Scalar.cmpi .ne v4470 c0_i32_882
  let v4472 : BitVec 1 := Scalar.andi v4469 v4471
  let v4458 : BitVec 32 := Scalar.divsi v4456 c32_i32_877
  let c1_i32_883 : BitVec 32 := 1#32
  let v4473 : BitVec 32 := Scalar.subi v4458 c1_i32_883
  let v4474 : BitVec 32 := Scalar.select v4472 v4473 v4458
  let c128_i32_884 : BitVec 32 := 128#32
  let v4475 : BitVec 32 := Scalar.muli v4474 c128_i32_884
  v4475
def k0_mult27 (i : grid0.Coords) : BitVec 32 :=
  let arg0 : BitVec 32 := BitVec.ofNat 32 (i 0).val
  let c36_i32_911 : BitVec 32 := 36#32
  let v4722 : BitVec 32 := Scalar.muli arg0 c36_i32_911
  let c26_i32 : BitVec 32 := 26#32
  let v4723 : BitVec 32 := Scalar.addi v4722 c26_i32
  let c0_i32_912 : BitVec 32 := 0#32
  let v4724 : BitVec 32 := Scalar.addi v4723 c0_i32_912
  let c0_i32_914 : BitVec 32 := 0#32
  let v4727 : BitVec 1 := Scalar.cmpi .sgt v4724 c0_i32_914
  let v4728 : BitVec 32 := Scalar.extui v4727
  let c0_i32_915 : BitVec 32 := 0#32
  let v4729 : BitVec 1 := Scalar.cmpi .slt v4724 c0_i32_915
  let v4730 : BitVec 32 := Scalar.extui v4729
  let v4731 : BitVec 32 := Scalar.subi v4728 v4730
  let c32_i32_913 : BitVec 32 := 32#32
  let c0_i32_916 : BitVec 32 := 0#32
  let v4732 : BitVec 1 := Scalar.cmpi .sgt c32_i32_913 c0_i32_916
  let v4733 : BitVec 32 := Scalar.extui v4732
  let c0_i32_917 : BitVec 32 := 0#32
  let v4734 : BitVec 1 := Scalar.cmpi .slt c32_i32_913 c0_i32_917
  let v4735 : BitVec 32 := Scalar.extui v4734
  let v4736 : BitVec 32 := Scalar.subi v4733 v4735
  let v4737 : BitVec 1 := Scalar.cmpi .ne v4731 v4736
  let v4738 : BitVec 32 := Scalar.remsi v4724 c32_i32_913
  let c0_i32_918 : BitVec 32 := 0#32
  let v4739 : BitVec 1 := Scalar.cmpi .ne v4738 c0_i32_918
  let v4740 : BitVec 1 := Scalar.andi v4737 v4739
  let v4726 : BitVec 32 := Scalar.divsi v4724 c32_i32_913
  let c1_i32_919 : BitVec 32 := 1#32
  let v4741 : BitVec 32 := Scalar.subi v4726 c1_i32_919
  let v4742 : BitVec 32 := Scalar.select v4740 v4741 v4726
  let c128_i32_920 : BitVec 32 := 128#32
  let v4743 : BitVec 32 := Scalar.muli v4742 c128_i32_920
  v4743
def k0_mult28 (i : grid0.Coords) : BitVec 32 :=
  let arg0 : BitVec 32 := BitVec.ofNat 32 (i 0).val
  let c36_i32_941 : BitVec 32 := 36#32
  let v4796 : BitVec 32 := Scalar.muli arg0 c36_i32_941
  let c26_i32_942 : BitVec 32 := 26#32
  let v4797 : BitVec 32 := Scalar.addi v4796 c26_i32_942
  let c1_i32_943 : BitVec 32 := 1#32
  let v4798 : BitVec 32 := Scalar.addi v4797 c1_i32_943
  let c0_i32_945 : BitVec 32 := 0#32
  let v4801 : BitVec 1 := Scalar.cmpi .sgt v4798 c0_i32_945
  let v4802 : BitVec 32 := Scalar.extui v4801
  let c0_i32_946 : BitVec 32 := 0#32
  let v4803 : BitVec 1 := Scalar.cmpi .slt v4798 c0_i32_946
  let v4804 : BitVec 32 := Scalar.extui v4803
  let v4805 : BitVec 32 := Scalar.subi v4802 v4804
  let c32_i32_944 : BitVec 32 := 32#32
  let c0_i32_947 : BitVec 32 := 0#32
  let v4806 : BitVec 1 := Scalar.cmpi .sgt c32_i32_944 c0_i32_947
  let v4807 : BitVec 32 := Scalar.extui v4806
  let c0_i32_948 : BitVec 32 := 0#32
  let v4808 : BitVec 1 := Scalar.cmpi .slt c32_i32_944 c0_i32_948
  let v4809 : BitVec 32 := Scalar.extui v4808
  let v4810 : BitVec 32 := Scalar.subi v4807 v4809
  let v4811 : BitVec 1 := Scalar.cmpi .ne v4805 v4810
  let v4812 : BitVec 32 := Scalar.remsi v4798 c32_i32_944
  let c0_i32_949 : BitVec 32 := 0#32
  let v4813 : BitVec 1 := Scalar.cmpi .ne v4812 c0_i32_949
  let v4814 : BitVec 1 := Scalar.andi v4811 v4813
  let v4800 : BitVec 32 := Scalar.divsi v4798 c32_i32_944
  let c1_i32_950 : BitVec 32 := 1#32
  let v4815 : BitVec 32 := Scalar.subi v4800 c1_i32_950
  let v4816 : BitVec 32 := Scalar.select v4814 v4815 v4800
  let c128_i32_951 : BitVec 32 := 128#32
  let v4817 : BitVec 32 := Scalar.muli v4816 c128_i32_951
  v4817
def k0_mult29 (i : grid0.Coords) : BitVec 32 :=
  let arg0 : BitVec 32 := BitVec.ofNat 32 (i 0).val
  let c36_i32_978 : BitVec 32 := 36#32
  let v5064 : BitVec 32 := Scalar.muli arg0 c36_i32_978
  let c28_i32 : BitVec 32 := 28#32
  let v5065 : BitVec 32 := Scalar.addi v5064 c28_i32
  let c0_i32_979 : BitVec 32 := 0#32
  let v5066 : BitVec 32 := Scalar.addi v5065 c0_i32_979
  let c0_i32_981 : BitVec 32 := 0#32
  let v5069 : BitVec 1 := Scalar.cmpi .sgt v5066 c0_i32_981
  let v5070 : BitVec 32 := Scalar.extui v5069
  let c0_i32_982 : BitVec 32 := 0#32
  let v5071 : BitVec 1 := Scalar.cmpi .slt v5066 c0_i32_982
  let v5072 : BitVec 32 := Scalar.extui v5071
  let v5073 : BitVec 32 := Scalar.subi v5070 v5072
  let c32_i32_980 : BitVec 32 := 32#32
  let c0_i32_983 : BitVec 32 := 0#32
  let v5074 : BitVec 1 := Scalar.cmpi .sgt c32_i32_980 c0_i32_983
  let v5075 : BitVec 32 := Scalar.extui v5074
  let c0_i32_984 : BitVec 32 := 0#32
  let v5076 : BitVec 1 := Scalar.cmpi .slt c32_i32_980 c0_i32_984
  let v5077 : BitVec 32 := Scalar.extui v5076
  let v5078 : BitVec 32 := Scalar.subi v5075 v5077
  let v5079 : BitVec 1 := Scalar.cmpi .ne v5073 v5078
  let v5080 : BitVec 32 := Scalar.remsi v5066 c32_i32_980
  let c0_i32_985 : BitVec 32 := 0#32
  let v5081 : BitVec 1 := Scalar.cmpi .ne v5080 c0_i32_985
  let v5082 : BitVec 1 := Scalar.andi v5079 v5081
  let v5068 : BitVec 32 := Scalar.divsi v5066 c32_i32_980
  let c1_i32_986 : BitVec 32 := 1#32
  let v5083 : BitVec 32 := Scalar.subi v5068 c1_i32_986
  let v5084 : BitVec 32 := Scalar.select v5082 v5083 v5068
  let c128_i32_987 : BitVec 32 := 128#32
  let v5085 : BitVec 32 := Scalar.muli v5084 c128_i32_987
  v5085
def k0_mult30 (i : grid0.Coords) : BitVec 32 :=
  let arg0 : BitVec 32 := BitVec.ofNat 32 (i 0).val
  let c36_i32_1008 : BitVec 32 := 36#32
  let v5138 : BitVec 32 := Scalar.muli arg0 c36_i32_1008
  let c28_i32_1009 : BitVec 32 := 28#32
  let v5139 : BitVec 32 := Scalar.addi v5138 c28_i32_1009
  let c1_i32_1010 : BitVec 32 := 1#32
  let v5140 : BitVec 32 := Scalar.addi v5139 c1_i32_1010
  let c0_i32_1012 : BitVec 32 := 0#32
  let v5143 : BitVec 1 := Scalar.cmpi .sgt v5140 c0_i32_1012
  let v5144 : BitVec 32 := Scalar.extui v5143
  let c0_i32_1013 : BitVec 32 := 0#32
  let v5145 : BitVec 1 := Scalar.cmpi .slt v5140 c0_i32_1013
  let v5146 : BitVec 32 := Scalar.extui v5145
  let v5147 : BitVec 32 := Scalar.subi v5144 v5146
  let c32_i32_1011 : BitVec 32 := 32#32
  let c0_i32_1014 : BitVec 32 := 0#32
  let v5148 : BitVec 1 := Scalar.cmpi .sgt c32_i32_1011 c0_i32_1014
  let v5149 : BitVec 32 := Scalar.extui v5148
  let c0_i32_1015 : BitVec 32 := 0#32
  let v5150 : BitVec 1 := Scalar.cmpi .slt c32_i32_1011 c0_i32_1015
  let v5151 : BitVec 32 := Scalar.extui v5150
  let v5152 : BitVec 32 := Scalar.subi v5149 v5151
  let v5153 : BitVec 1 := Scalar.cmpi .ne v5147 v5152
  let v5154 : BitVec 32 := Scalar.remsi v5140 c32_i32_1011
  let c0_i32_1016 : BitVec 32 := 0#32
  let v5155 : BitVec 1 := Scalar.cmpi .ne v5154 c0_i32_1016
  let v5156 : BitVec 1 := Scalar.andi v5153 v5155
  let v5142 : BitVec 32 := Scalar.divsi v5140 c32_i32_1011
  let c1_i32_1017 : BitVec 32 := 1#32
  let v5157 : BitVec 32 := Scalar.subi v5142 c1_i32_1017
  let v5158 : BitVec 32 := Scalar.select v5156 v5157 v5142
  let c128_i32_1018 : BitVec 32 := 128#32
  let v5159 : BitVec 32 := Scalar.muli v5158 c128_i32_1018
  v5159
def k0_mult31 (i : grid0.Coords) : BitVec 32 :=
  let arg0 : BitVec 32 := BitVec.ofNat 32 (i 0).val
  let c36_i32_1045 : BitVec 32 := 36#32
  let v5406 : BitVec 32 := Scalar.muli arg0 c36_i32_1045
  let c30_i32 : BitVec 32 := 30#32
  let v5407 : BitVec 32 := Scalar.addi v5406 c30_i32
  let c0_i32_1046 : BitVec 32 := 0#32
  let v5408 : BitVec 32 := Scalar.addi v5407 c0_i32_1046
  let c0_i32_1048 : BitVec 32 := 0#32
  let v5411 : BitVec 1 := Scalar.cmpi .sgt v5408 c0_i32_1048
  let v5412 : BitVec 32 := Scalar.extui v5411
  let c0_i32_1049 : BitVec 32 := 0#32
  let v5413 : BitVec 1 := Scalar.cmpi .slt v5408 c0_i32_1049
  let v5414 : BitVec 32 := Scalar.extui v5413
  let v5415 : BitVec 32 := Scalar.subi v5412 v5414
  let c32_i32_1047 : BitVec 32 := 32#32
  let c0_i32_1050 : BitVec 32 := 0#32
  let v5416 : BitVec 1 := Scalar.cmpi .sgt c32_i32_1047 c0_i32_1050
  let v5417 : BitVec 32 := Scalar.extui v5416
  let c0_i32_1051 : BitVec 32 := 0#32
  let v5418 : BitVec 1 := Scalar.cmpi .slt c32_i32_1047 c0_i32_1051
  let v5419 : BitVec 32 := Scalar.extui v5418
  let v5420 : BitVec 32 := Scalar.subi v5417 v5419
  let v5421 : BitVec 1 := Scalar.cmpi .ne v5415 v5420
  let v5422 : BitVec 32 := Scalar.remsi v5408 c32_i32_1047
  let c0_i32_1052 : BitVec 32 := 0#32
  let v5423 : BitVec 1 := Scalar.cmpi .ne v5422 c0_i32_1052
  let v5424 : BitVec 1 := Scalar.andi v5421 v5423
  let v5410 : BitVec 32 := Scalar.divsi v5408 c32_i32_1047
  let c1_i32_1053 : BitVec 32 := 1#32
  let v5425 : BitVec 32 := Scalar.subi v5410 c1_i32_1053
  let v5426 : BitVec 32 := Scalar.select v5424 v5425 v5410
  let c128_i32_1054 : BitVec 32 := 128#32
  let v5427 : BitVec 32 := Scalar.muli v5426 c128_i32_1054
  v5427
def k0_mult32 (i : grid0.Coords) : BitVec 32 :=
  let arg0 : BitVec 32 := BitVec.ofNat 32 (i 0).val
  let c36_i32_1075 : BitVec 32 := 36#32
  let v5480 : BitVec 32 := Scalar.muli arg0 c36_i32_1075
  let c30_i32_1076 : BitVec 32 := 30#32
  let v5481 : BitVec 32 := Scalar.addi v5480 c30_i32_1076
  let c1_i32_1077 : BitVec 32 := 1#32
  let v5482 : BitVec 32 := Scalar.addi v5481 c1_i32_1077
  let c0_i32_1079 : BitVec 32 := 0#32
  let v5485 : BitVec 1 := Scalar.cmpi .sgt v5482 c0_i32_1079
  let v5486 : BitVec 32 := Scalar.extui v5485
  let c0_i32_1080 : BitVec 32 := 0#32
  let v5487 : BitVec 1 := Scalar.cmpi .slt v5482 c0_i32_1080
  let v5488 : BitVec 32 := Scalar.extui v5487
  let v5489 : BitVec 32 := Scalar.subi v5486 v5488
  let c32_i32_1078 : BitVec 32 := 32#32
  let c0_i32_1081 : BitVec 32 := 0#32
  let v5490 : BitVec 1 := Scalar.cmpi .sgt c32_i32_1078 c0_i32_1081
  let v5491 : BitVec 32 := Scalar.extui v5490
  let c0_i32_1082 : BitVec 32 := 0#32
  let v5492 : BitVec 1 := Scalar.cmpi .slt c32_i32_1078 c0_i32_1082
  let v5493 : BitVec 32 := Scalar.extui v5492
  let v5494 : BitVec 32 := Scalar.subi v5491 v5493
  let v5495 : BitVec 1 := Scalar.cmpi .ne v5489 v5494
  let v5496 : BitVec 32 := Scalar.remsi v5482 c32_i32_1078
  let c0_i32_1083 : BitVec 32 := 0#32
  let v5497 : BitVec 1 := Scalar.cmpi .ne v5496 c0_i32_1083
  let v5498 : BitVec 1 := Scalar.andi v5495 v5497
  let v5484 : BitVec 32 := Scalar.divsi v5482 c32_i32_1078
  let c1_i32_1084 : BitVec 32 := 1#32
  let v5499 : BitVec 32 := Scalar.subi v5484 c1_i32_1084
  let v5500 : BitVec 32 := Scalar.select v5498 v5499 v5484
  let c128_i32_1085 : BitVec 32 := 128#32
  let v5501 : BitVec 32 := Scalar.muli v5500 c128_i32_1085
  v5501
def k0_mult33 (i : grid0.Coords) : BitVec 32 :=
  let arg0 : BitVec 32 := BitVec.ofNat 32 (i 0).val
  let c36_i32_1112 : BitVec 32 := 36#32
  let v5748 : BitVec 32 := Scalar.muli arg0 c36_i32_1112
  let c32_i32_1113 : BitVec 32 := 32#32
  let v5749 : BitVec 32 := Scalar.addi v5748 c32_i32_1113
  let c0_i32_1114 : BitVec 32 := 0#32
  let v5750 : BitVec 32 := Scalar.addi v5749 c0_i32_1114
  let c0_i32_1116 : BitVec 32 := 0#32
  let v5753 : BitVec 1 := Scalar.cmpi .sgt v5750 c0_i32_1116
  let v5754 : BitVec 32 := Scalar.extui v5753
  let c0_i32_1117 : BitVec 32 := 0#32
  let v5755 : BitVec 1 := Scalar.cmpi .slt v5750 c0_i32_1117
  let v5756 : BitVec 32 := Scalar.extui v5755
  let v5757 : BitVec 32 := Scalar.subi v5754 v5756
  let c32_i32_1115 : BitVec 32 := 32#32
  let c0_i32_1118 : BitVec 32 := 0#32
  let v5758 : BitVec 1 := Scalar.cmpi .sgt c32_i32_1115 c0_i32_1118
  let v5759 : BitVec 32 := Scalar.extui v5758
  let c0_i32_1119 : BitVec 32 := 0#32
  let v5760 : BitVec 1 := Scalar.cmpi .slt c32_i32_1115 c0_i32_1119
  let v5761 : BitVec 32 := Scalar.extui v5760
  let v5762 : BitVec 32 := Scalar.subi v5759 v5761
  let v5763 : BitVec 1 := Scalar.cmpi .ne v5757 v5762
  let v5764 : BitVec 32 := Scalar.remsi v5750 c32_i32_1115
  let c0_i32_1120 : BitVec 32 := 0#32
  let v5765 : BitVec 1 := Scalar.cmpi .ne v5764 c0_i32_1120
  let v5766 : BitVec 1 := Scalar.andi v5763 v5765
  let v5752 : BitVec 32 := Scalar.divsi v5750 c32_i32_1115
  let c1_i32_1121 : BitVec 32 := 1#32
  let v5767 : BitVec 32 := Scalar.subi v5752 c1_i32_1121
  let v5768 : BitVec 32 := Scalar.select v5766 v5767 v5752
  let c128_i32_1122 : BitVec 32 := 128#32
  let v5769 : BitVec 32 := Scalar.muli v5768 c128_i32_1122
  v5769
def k0_mult34 (i : grid0.Coords) : BitVec 32 :=
  let arg0 : BitVec 32 := BitVec.ofNat 32 (i 0).val
  let c36_i32_1143 : BitVec 32 := 36#32
  let v5822 : BitVec 32 := Scalar.muli arg0 c36_i32_1143
  let c32_i32_1144 : BitVec 32 := 32#32
  let v5823 : BitVec 32 := Scalar.addi v5822 c32_i32_1144
  let c1_i32_1145 : BitVec 32 := 1#32
  let v5824 : BitVec 32 := Scalar.addi v5823 c1_i32_1145
  let c0_i32_1147 : BitVec 32 := 0#32
  let v5827 : BitVec 1 := Scalar.cmpi .sgt v5824 c0_i32_1147
  let v5828 : BitVec 32 := Scalar.extui v5827
  let c0_i32_1148 : BitVec 32 := 0#32
  let v5829 : BitVec 1 := Scalar.cmpi .slt v5824 c0_i32_1148
  let v5830 : BitVec 32 := Scalar.extui v5829
  let v5831 : BitVec 32 := Scalar.subi v5828 v5830
  let c32_i32_1146 : BitVec 32 := 32#32
  let c0_i32_1149 : BitVec 32 := 0#32
  let v5832 : BitVec 1 := Scalar.cmpi .sgt c32_i32_1146 c0_i32_1149
  let v5833 : BitVec 32 := Scalar.extui v5832
  let c0_i32_1150 : BitVec 32 := 0#32
  let v5834 : BitVec 1 := Scalar.cmpi .slt c32_i32_1146 c0_i32_1150
  let v5835 : BitVec 32 := Scalar.extui v5834
  let v5836 : BitVec 32 := Scalar.subi v5833 v5835
  let v5837 : BitVec 1 := Scalar.cmpi .ne v5831 v5836
  let v5838 : BitVec 32 := Scalar.remsi v5824 c32_i32_1146
  let c0_i32_1151 : BitVec 32 := 0#32
  let v5839 : BitVec 1 := Scalar.cmpi .ne v5838 c0_i32_1151
  let v5840 : BitVec 1 := Scalar.andi v5837 v5839
  let v5826 : BitVec 32 := Scalar.divsi v5824 c32_i32_1146
  let c1_i32_1152 : BitVec 32 := 1#32
  let v5841 : BitVec 32 := Scalar.subi v5826 c1_i32_1152
  let v5842 : BitVec 32 := Scalar.select v5840 v5841 v5826
  let c128_i32_1153 : BitVec 32 := 128#32
  let v5843 : BitVec 32 := Scalar.muli v5842 c128_i32_1153
  v5843
def k0_mult35 (i : grid0.Coords) : BitVec 32 :=
  let arg0 : BitVec 32 := BitVec.ofNat 32 (i 0).val
  let c36_i32_1180 : BitVec 32 := 36#32
  let v6090 : BitVec 32 := Scalar.muli arg0 c36_i32_1180
  let c34_i32 : BitVec 32 := 34#32
  let v6091 : BitVec 32 := Scalar.addi v6090 c34_i32
  let c0_i32_1181 : BitVec 32 := 0#32
  let v6092 : BitVec 32 := Scalar.addi v6091 c0_i32_1181
  let c0_i32_1183 : BitVec 32 := 0#32
  let v6095 : BitVec 1 := Scalar.cmpi .sgt v6092 c0_i32_1183
  let v6096 : BitVec 32 := Scalar.extui v6095
  let c0_i32_1184 : BitVec 32 := 0#32
  let v6097 : BitVec 1 := Scalar.cmpi .slt v6092 c0_i32_1184
  let v6098 : BitVec 32 := Scalar.extui v6097
  let v6099 : BitVec 32 := Scalar.subi v6096 v6098
  let c32_i32_1182 : BitVec 32 := 32#32
  let c0_i32_1185 : BitVec 32 := 0#32
  let v6100 : BitVec 1 := Scalar.cmpi .sgt c32_i32_1182 c0_i32_1185
  let v6101 : BitVec 32 := Scalar.extui v6100
  let c0_i32_1186 : BitVec 32 := 0#32
  let v6102 : BitVec 1 := Scalar.cmpi .slt c32_i32_1182 c0_i32_1186
  let v6103 : BitVec 32 := Scalar.extui v6102
  let v6104 : BitVec 32 := Scalar.subi v6101 v6103
  let v6105 : BitVec 1 := Scalar.cmpi .ne v6099 v6104
  let v6106 : BitVec 32 := Scalar.remsi v6092 c32_i32_1182
  let c0_i32_1187 : BitVec 32 := 0#32
  let v6107 : BitVec 1 := Scalar.cmpi .ne v6106 c0_i32_1187
  let v6108 : BitVec 1 := Scalar.andi v6105 v6107
  let v6094 : BitVec 32 := Scalar.divsi v6092 c32_i32_1182
  let c1_i32_1188 : BitVec 32 := 1#32
  let v6109 : BitVec 32 := Scalar.subi v6094 c1_i32_1188
  let v6110 : BitVec 32 := Scalar.select v6108 v6109 v6094
  let c128_i32_1189 : BitVec 32 := 128#32
  let v6111 : BitVec 32 := Scalar.muli v6110 c128_i32_1189
  v6111
def k0_mult36 (i : grid0.Coords) : BitVec 32 :=
  let arg0 : BitVec 32 := BitVec.ofNat 32 (i 0).val
  let c36_i32_1210 : BitVec 32 := 36#32
  let v6164 : BitVec 32 := Scalar.muli arg0 c36_i32_1210
  let c34_i32_1211 : BitVec 32 := 34#32
  let v6165 : BitVec 32 := Scalar.addi v6164 c34_i32_1211
  let c1_i32_1212 : BitVec 32 := 1#32
  let v6166 : BitVec 32 := Scalar.addi v6165 c1_i32_1212
  let c0_i32_1214 : BitVec 32 := 0#32
  let v6169 : BitVec 1 := Scalar.cmpi .sgt v6166 c0_i32_1214
  let v6170 : BitVec 32 := Scalar.extui v6169
  let c0_i32_1215 : BitVec 32 := 0#32
  let v6171 : BitVec 1 := Scalar.cmpi .slt v6166 c0_i32_1215
  let v6172 : BitVec 32 := Scalar.extui v6171
  let v6173 : BitVec 32 := Scalar.subi v6170 v6172
  let c32_i32_1213 : BitVec 32 := 32#32
  let c0_i32_1216 : BitVec 32 := 0#32
  let v6174 : BitVec 1 := Scalar.cmpi .sgt c32_i32_1213 c0_i32_1216
  let v6175 : BitVec 32 := Scalar.extui v6174
  let c0_i32_1217 : BitVec 32 := 0#32
  let v6176 : BitVec 1 := Scalar.cmpi .slt c32_i32_1213 c0_i32_1217
  let v6177 : BitVec 32 := Scalar.extui v6176
  let v6178 : BitVec 32 := Scalar.subi v6175 v6177
  let v6179 : BitVec 1 := Scalar.cmpi .ne v6173 v6178
  let v6180 : BitVec 32 := Scalar.remsi v6166 c32_i32_1213
  let c0_i32_1218 : BitVec 32 := 0#32
  let v6181 : BitVec 1 := Scalar.cmpi .ne v6180 c0_i32_1218
  let v6182 : BitVec 1 := Scalar.andi v6179 v6181
  let v6168 : BitVec 32 := Scalar.divsi v6166 c32_i32_1213
  let c1_i32_1219 : BitVec 32 := 1#32
  let v6183 : BitVec 32 := Scalar.subi v6168 c1_i32_1219
  let v6184 : BitVec 32 := Scalar.select v6182 v6183 v6168
  let c128_i32_1220 : BitVec 32 := 128#32
  let v6185 : BitVec 32 := Scalar.muli v6184 c128_i32_1220
  v6185
def k0_cond2 (i : grid0.Coords) : BitVec 1 :=
  let arg0 : BitVec 32 := BitVec.ofNat 32 (i 0).val
  let c32_i32_1246 : BitVec 32 := 32#32
  let v6258 : BitVec 1 := Scalar.cmpi .eq arg0 c32_i32_1246
  let v6259 : BitVec 32 := Scalar.extui v6258
  let c0_i32_1247 : BitVec 32 := 0#32
  let v6260 : BitVec 1 := Scalar.cmpi .ne v6259 c0_i32_1247
  v6260

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S72x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x4608 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S72x4864 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S72x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S72x1x4608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S72x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S72x1x1536 : Shape := ⟨3, ![72, 1, 1536]⟩
abbrev S768x151936 : Shape := ⟨2, ![768, 151936]⟩
abbrev S24x151936 : Shape := ⟨2, ![24, 151936]⟩
abbrev S72x4748 : Shape := ⟨2, ![72, 4748]⟩
abbrev S72x1x48 : Shape := ⟨3, ![72, 1, 48]⟩
abbrev S72x1x24x32x2 : Shape := ⟨5, ![72, 1, 24, 32, 2]⟩
abbrev S72x1x24x32x1 : Shape := ⟨5, ![72, 1, 24, 32, 1]⟩
abbrev S72x1x24x32 : Shape := ⟨4, ![72, 1, 24, 32]⟩
abbrev S24x32x151936 : Shape := ⟨3, ![24, 32, 151936]⟩
abbrev S_ : Shape := ⟨0, ![]⟩
abbrev S24x1x151936 : Shape := ⟨3, ![24, 1, 151936]⟩
abbrev S72x1x151936 : Shape := ⟨3, ![72, 1, 151936]⟩
abbrev S72x4748x1 : Shape := ⟨3, ![72, 4748, 1]⟩
abbrev S32 : Shape := ⟨1, ![32]⟩
abbrev S1x1x32 : Shape := ⟨3, ![1, 1, 32]⟩
abbrev S72x4748x32 : Shape := ⟨3, ![72, 4748, 32]⟩
abbrev S72x151936 : Shape := ⟨2, ![72, 151936]⟩
abbrev S72x1 : Shape := ⟨2, ![72, 1]⟩
abbrev S72x1x1 : Shape := ⟨3, ![72, 1, 1]⟩
abbrev S72x1x4748 : Shape := ⟨3, ![72, 1, 4748]⟩
abbrev S72x48x1 : Shape := ⟨3, ![72, 48, 1]⟩
abbrev S1 : Shape := ⟨1, ![1]⟩
abbrev S1x1x1 : Shape := ⟨3, ![1, 1, 1]⟩
abbrev S72x48 : Shape := ⟨2, ![72, 48]⟩

abbrev nBuf : Space → Nat
  | .hbm => 175
  | .vmem => 0
  | .smem => 0
  | _ => 0

abbrev hbmTy0_0 (i : Nat) : BufTy := match i % 128 with
  | 0 => ⟨S72x1x1536, .bf16⟩
  | 1 => ⟨S768x151936, .i8⟩
  | 2 => ⟨S24x151936, .f32⟩
  | 3 => ⟨S72x4748, .i32⟩
  | 4 => ⟨S72x1x48, .i32⟩
  | 5 => ⟨S72x1x24x32x2, .bf16⟩
  | 6 => ⟨S72x1x24x32x1, .bf16⟩
  | 7 => ⟨S72x1x24x32, .bf16⟩
  | 8 => ⟨S72x1x24x32x1, .bf16⟩
  | 9 => ⟨S72x1x24x32, .bf16⟩
  | 10 => ⟨S768x151936, .i8⟩
  | 11 => ⟨S24x32x151936, .i8⟩
  | 12 => ⟨S24x32x151936, .i32⟩
  | 13 => ⟨S_, .i32⟩
  | 14 => ⟨S24x32x151936, .i32⟩
  | 15 => ⟨S24x32x151936, .i32⟩
  | 16 => ⟨S_, .i32⟩
  | 17 => ⟨S24x32x151936, .i32⟩
  | 18 => ⟨S24x32x151936, .i32⟩
  | 19 => ⟨S24x32x151936, .bf16⟩
  | 20 => ⟨S_, .i32⟩
  | 21 => ⟨S24x32x151936, .i32⟩
  | 22 => ⟨S24x32x151936, .i32⟩
  | 23 => ⟨S24x32x151936, .bf16⟩
  | 24 => ⟨S24x151936, .bf16⟩
  | 25 => ⟨S24x1x151936, .bf16⟩
  | 26 => ⟨S24x32x151936, .bf16⟩
  | 27 => ⟨S24x32x151936, .bf16⟩
  | 28 => ⟨S24x32x151936, .bf16⟩
  | 29 => ⟨S24x32x151936, .bf16⟩
  | 30 => ⟨S72x1x151936, .f32⟩
  | 31 => ⟨S72x1x151936, .f32⟩
  | 32 => ⟨S72x1x151936, .f32⟩
  | 33 => ⟨S72x4748x1, .i32⟩
  | 34 => ⟨S32, .i32⟩
  | 35 => ⟨S1x1x32, .i32⟩
  | 36 => ⟨S72x4748x32, .i32⟩
  | 37 => ⟨S72x4748x32, .i32⟩
  | 38 => ⟨S72x4748x32, .i32⟩
  | 39 => ⟨S_, .i32⟩
  | 40 => ⟨S72x4748x32, .i32⟩
  | 41 => ⟨S72x4748x32, .i32⟩
  | 42 => ⟨S72x151936, .i32⟩
  | 43 => ⟨S_, .i32⟩
  | 44 => ⟨S72x151936, .i32⟩
  | 45 => ⟨S72x151936, .i1⟩
  | 46 => ⟨S72x1x151936, .i1⟩
  | 47 => ⟨S_, .f32⟩
  | 48 => ⟨S_, .f32⟩
  | 49 => ⟨S72x1x151936, .f32⟩
  | 50 => ⟨S72x1x151936, .f32⟩
  | 51 => ⟨S_, .f32⟩
  | 52 => ⟨S72x1, .f32⟩
  | 53 => ⟨S72x1x1, .f32⟩
  | 54 => ⟨S72x1x1, .f32⟩
  | 55 => ⟨S_, .f32⟩
  | 56 => ⟨S72x1x1, .f32⟩
  | 57 => ⟨S72x1x1, .i1⟩
  | 58 => ⟨S_, .f32⟩
  | 59 => ⟨S_, .f32⟩
  | 60 => ⟨S72x1x1, .f32⟩
  | 61 => ⟨S72x1x1, .f32⟩
  | 62 => ⟨S72x1x151936, .f32⟩
  | 63 => ⟨S72x1x151936, .f32⟩
  | 64 => ⟨S72x1x151936, .f32⟩
  | 65 => ⟨S_, .f32⟩
  | 66 => ⟨S72x1, .f32⟩
  | 67 => ⟨S72x1, .f32⟩
  | 68 => ⟨S72x1, .f32⟩
  | 69 => ⟨S72x1, .f32⟩
  | 70 => ⟨S_, .f32⟩
  | 71 => ⟨S_, .f32⟩
  | 72 => ⟨S72x1x151936, .f32⟩
  | 73 => ⟨S72x1x151936, .f32⟩
  | 74 => ⟨S72x1x4748, .i32⟩
  | 75 => ⟨S_, .i32⟩
  | 76 => ⟨S_, .i32⟩
  | 77 => ⟨S72x1x48, .i32⟩
  | 78 => ⟨S72x1x48, .i32⟩
  | 79 => ⟨S72x1x48, .i32⟩
  | 80 => ⟨S_, .i32⟩
  | 81 => ⟨S72x1x48, .i32⟩
  | 82 => ⟨S72x1x48, .i1⟩
  | 83 => ⟨S72x1x48, .i32⟩
  | 84 => ⟨S72x1x48, .i32⟩
  | 85 => ⟨S_, .i32⟩
  | 86 => ⟨S72x1x48, .i32⟩
  | 87 => ⟨S72x1x48, .i1⟩
  | 88 => ⟨S72x1x48, .i1⟩
  | 89 => ⟨S_, .i32⟩
  | 90 => ⟨S72x1x48, .i32⟩
  | 91 => ⟨S72x1x48, .i32⟩
  | 92 => ⟨S72x1x48, .i32⟩
  | 93 => ⟨S_, .i32⟩
  | 94 => ⟨S72x1x48, .i32⟩
  | 95 => ⟨S72x1x48, .i1⟩
  | 96 => ⟨S_, .i32⟩
  | 97 => ⟨S72x1x48, .i32⟩
  | 98 => ⟨S72x1x48, .i32⟩
  | 99 => ⟨S72x1x48, .i32⟩
  | 100 => ⟨S72x48x1, .i32⟩
  | 101 => ⟨S1, .i32⟩
  | 102 => ⟨S_, .i32⟩
  | 103 => ⟨S72x48x1, .i32⟩
  | 104 => ⟨S72x48x1, .i1⟩
  | 105 => ⟨S1x1x1, .i32⟩
  | 106 => ⟨S72x48x1, .i32⟩
  | 107 => ⟨S72x48x1, .i1⟩
  | 108 => ⟨S72x48x1, .i1⟩
  | 109 => ⟨S_, .i1⟩
  | 110 => ⟨S72x48, .i1⟩
  | 111 => ⟨S72x1x48, .i32⟩
  | 112 => ⟨S72x1x48, .i1⟩
  | 113 => ⟨S_, .i32⟩
  | 114 => ⟨S72x1x48, .i32⟩
  | 115 => ⟨S72x1x48, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S72x1x48, .i32⟩
  | 123 => ⟨S72x1x48, .i32⟩
  | 124 => ⟨S_, .i32⟩
  | 125 => ⟨S72x1x48, .i32⟩
  | 126 => ⟨S72x1x48, .i1⟩
  | 127 => ⟨S_, .i32⟩
  | _ => ⟨S72x1x1536, .bf16⟩

abbrev hbmTy0_1 (i : Nat) : BufTy := match i % 128 with
  | 0 => ⟨S72x1x48, .i32⟩
  | 1 => ⟨S72x1x48, .i1⟩
  | 2 => ⟨S_, .i32⟩
  | 3 => ⟨S_, .i1⟩
  | 4 => ⟨S72x1x48, .i1⟩
  | 5 => ⟨S72x1x48, .i1⟩
  | 6 => ⟨S72x1x48, .i1⟩
  | 7 => ⟨S72x1x48, .i32⟩
  | 8 => ⟨S72x1x48, .i32⟩
  | 9 => ⟨S72x1x48, .i32⟩
  | 10 => ⟨S72x1x48, .i32⟩
  | 11 => ⟨S_, .i32⟩
  | 12 => ⟨S72x1x48, .i32⟩
  | 13 => ⟨S72x1x48, .i32⟩
  | 14 => ⟨S_, .i32⟩
  | 15 => ⟨S72x1x48, .i32⟩
  | 16 => ⟨S72x1x48, .i1⟩
  | 17 => ⟨S_, .i32⟩
  | 18 => ⟨S72x1x48, .i32⟩
  | 19 => ⟨S72x1x48, .i1⟩
  | 20 => ⟨S_, .i32⟩
  | 21 => ⟨S72x1x48, .i32⟩
  | 22 => ⟨S72x1x48, .i32⟩
  | 23 => ⟨S72x1x48, .i32⟩
  | 24 => ⟨S72x48x1, .i32⟩
  | 25 => ⟨S1, .i32⟩
  | 26 => ⟨S_, .i32⟩
  | 27 => ⟨S72x48x1, .i32⟩
  | 28 => ⟨S72x48x1, .i1⟩
  | 29 => ⟨S1x1x1, .i32⟩
  | 30 => ⟨S72x48x1, .i32⟩
  | 31 => ⟨S72x48x1, .i1⟩
  | 32 => ⟨S72x48x1, .i1⟩
  | 33 => ⟨S_, .i1⟩
  | 34 => ⟨S72x48, .i1⟩
  | 35 => ⟨S72x1x48, .f32⟩
  | 36 => ⟨S72x1x48, .i1⟩
  | 37 => ⟨S_, .f32⟩
  | 38 => ⟨S72x1x48, .f32⟩
  | 39 => ⟨S72x1x48, .f32⟩
  | 40 => ⟨S72x1x1, .f32⟩
  | 41 => ⟨S72x1x48, .f32⟩
  | 42 => ⟨S72x1x48, .f32⟩
  | 43 => ⟨S_, .f32⟩
  | 44 => ⟨S_, .f32⟩
  | 45 => ⟨S72x1x48, .f32⟩
  | 46 => ⟨S72x1x48, .f32⟩
  | _ => ⟨S72x1x1536, .bf16⟩

abbrev hbmTy (i : Nat) : BufTy := match i / 128 with
  | 0 => hbmTy0_0 i
  | 1 => hbmTy0_1 i
  | _ => ⟨S72x1x1536, .bf16⟩

abbrev bufTy : (tb : Table) → Fin (tcTables nBuf tb) → BufTy
  | .hbm, ⟨i, _⟩ => hbmTy i
  | _, _ => ⟨S72x1x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_call0_v0 : Ref sig .tc := ⟨.hbm, 48, rfl⟩
abbrev main_call0_v1 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_call2_v0 : Ref sig .tc := ⟨.hbm, 71, rfl⟩
abbrev main_call2_v1 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_c : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_0 : Ref sig .tc := ⟨.hbm, 89, rfl⟩
abbrev main_call3_v12 : Ref sig .tc := ⟨.hbm, 90, rfl⟩
abbrev main_call3_v13 : Ref sig .tc := ⟨.hbm, 91, rfl⟩
abbrev main_v53 : Ref sig .tc := ⟨.hbm, 92, rfl⟩
abbrev main_call4_c : Ref sig .tc := ⟨.hbm, 93, rfl⟩
abbrev main_call4_v0 : Ref sig .tc := ⟨.hbm, 94, rfl⟩
abbrev main_call4_v1 : Ref sig .tc := ⟨.hbm, 95, rfl⟩
abbrev main_call4_c_0 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_call4_v5 : Ref sig .tc := ⟨.hbm, 100, rfl⟩
abbrev main_call4_c_1 : Ref sig .tc := ⟨.hbm, 101, rfl⟩
abbrev main_call4_c_2 : Ref sig .tc := ⟨.hbm, 102, rfl⟩
abbrev main_call4_v6 : Ref sig .tc := ⟨.hbm, 103, rfl⟩
abbrev main_call4_v7 : Ref sig .tc := ⟨.hbm, 104, rfl⟩
abbrev main_call4_v8 : Ref sig .tc := ⟨.hbm, 105, rfl⟩
abbrev main_call4_v9 : Ref sig .tc := ⟨.hbm, 106, rfl⟩
abbrev main_call4_v10 : Ref sig .tc := ⟨.hbm, 107, rfl⟩
abbrev main_call4_v11 : Ref sig .tc := ⟨.hbm, 108, rfl⟩
abbrev main_call4_c_3 : Ref sig .tc := ⟨.hbm, 109, rfl⟩
abbrev main_call4_v12 : Ref sig .tc := ⟨.hbm, 110, rfl⟩
abbrev main_call4_v13 : Ref sig .tc := ⟨.hbm, 111, rfl⟩
abbrev main_call4_v14 : Ref sig .tc := ⟨.hbm, 112, rfl⟩
abbrev main_call4_c_4 : Ref sig .tc := ⟨.hbm, 113, rfl⟩
abbrev main_call4_v15 : Ref sig .tc := ⟨.hbm, 114, rfl⟩
abbrev main_v54 : Ref sig .tc := ⟨.hbm, 115, rfl⟩
abbrev main_c_10 : Ref sig .tc := ⟨.hbm, 116, rfl⟩
abbrev main_call5_v0 : Ref sig .tc := ⟨.hbm, 117, rfl⟩
abbrev main_call5_c : Ref sig .tc := ⟨.hbm, 118, rfl⟩
abbrev main_call5_v1 : Ref sig .tc := ⟨.hbm, 119, rfl⟩
abbrev main_call5_c_0 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_c_1 : Ref sig .tc := ⟨.hbm, 124, rfl⟩
abbrev main_call5_v5 : Ref sig .tc := ⟨.hbm, 125, rfl⟩
abbrev main_call5_v6 : Ref sig .tc := ⟨.hbm, 126, rfl⟩
abbrev main_call5_c_2 : Ref sig .tc := ⟨.hbm, 127, rfl⟩
abbrev main_call5_v7 : Ref sig .tc := ⟨.hbm, 128, rfl⟩
abbrev main_call5_v8 : Ref sig .tc := ⟨.hbm, 129, rfl⟩
abbrev main_call5_c_3 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_v12 : Ref sig .tc := ⟨.hbm, 134, rfl⟩
abbrev main_call5_v13 : Ref sig .tc := ⟨.hbm, 135, rfl⟩
abbrev main_call5_v14 : Ref sig .tc := ⟨.hbm, 136, rfl⟩
abbrev main_v55 : Ref sig .tc := ⟨.hbm, 137, rfl⟩
abbrev main_v56 : Ref sig .tc := ⟨.hbm, 138, rfl⟩
abbrev main_c_11 : Ref sig .tc := ⟨.hbm, 139, rfl⟩
abbrev main_v57 : Ref sig .tc := ⟨.hbm, 140, rfl⟩
abbrev main_v58 : Ref sig .tc := ⟨.hbm, 141, rfl⟩
abbrev main_c_12 : Ref sig .tc := ⟨.hbm, 142, rfl⟩
abbrev main_v59 : Ref sig .tc := ⟨.hbm, 143, rfl⟩
abbrev main_v60 : Ref sig .tc := ⟨.hbm, 144, rfl⟩
abbrev main_call6_c : Ref sig .tc := ⟨.hbm, 145, rfl⟩
abbrev main_call6_v0 : Ref sig .tc := ⟨.hbm, 146, rfl⟩
abbrev main_call6_v1 : Ref sig .tc := ⟨.hbm, 147, rfl⟩
abbrev main_call6_c_0 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_call6_v5 : Ref sig .tc := ⟨.hbm, 152, rfl⟩
abbrev main_call6_c_1 : Ref sig .tc := ⟨.hbm, 153, rfl⟩
abbrev main_call6_c_2 : Ref sig .tc := ⟨.hbm, 154, rfl⟩
abbrev main_call6_v6 : Ref sig .tc := ⟨.hbm, 155, rfl⟩
abbrev main_call6_v7 : Ref sig .tc := ⟨.hbm, 156, rfl⟩
abbrev main_call6_v8 : Ref sig .tc := ⟨.hbm, 157, rfl⟩
abbrev main_call6_v9 : Ref sig .tc := ⟨.hbm, 158, rfl⟩
abbrev main_call6_v10 : Ref sig .tc := ⟨.hbm, 159, rfl⟩
abbrev main_call6_v11 : Ref sig .tc := ⟨.hbm, 160, rfl⟩
abbrev main_call6_c_3 : Ref sig .tc := ⟨.hbm, 161, rfl⟩
abbrev main_call6_v12 : Ref sig .tc := ⟨.hbm, 162, rfl⟩
abbrev main_call6_v13 : Ref sig .tc := ⟨.hbm, 163, rfl⟩
abbrev main_call6_v14 : Ref sig .tc := ⟨.hbm, 164, rfl⟩
abbrev main_call6_cst : Ref sig .tc := ⟨.hbm, 165, rfl⟩
abbrev main_call6_v15 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_cst_13 : Ref sig .tc := ⟨.hbm, 171, rfl⟩
abbrev main_call7_v0 : Ref sig .tc := ⟨.hbm, 172, rfl⟩
abbrev main_call7_v1 : Ref sig .tc := ⟨.hbm, 173, rfl⟩
abbrev main_v65 : Ref sig .tc := ⟨.hbm, 174, rfl⟩

abbrev nD : Nat := 1
abbrev τ : Topo := Topo.v7x

variable {F : FTy → Type} [FloatOps F]
-- ==== Proof.KernelRunA.lean ====
/-
  The body of `Kernel`'s one kernel run at symbolic operands: the first grid point. What each buffer ends holding is found by the run,
  part by part, as named definitions over the contents of the buffers.
-/
module

public import proofs.«01_k».proof.Proof.Gen.Kernel.Frame
public import proofs.«01_k».proof.Proof.Gen.Kernel.Skeleton

@[expose] public section

set_option maxRecDepth 16384
set_option sl_exec.resultNames true

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- Memref `M`'s buffer on core `c`: its contents type, and the assertion that holds it whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned at `X` is its buffer held at the raw contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = pt c M (h.unread X) := by
  have hu : M.view.read (Elt F) (h.unread X) = X := h.read_unread X
  generalize h.unread X = f at hu ⊢
  subst hu
  obtain ⟨b, rfl, rfl, rfl, hm⟩ := h
  cases hm
  exact owns_whole (c : Thread nD τ) b fullShare f

/-- The condition of the body's first conditional: the grid point is the first. -/
abbrev firstPt (i : grid0.Coords) : Prop :=
  Scalar.cmpi .ne (Scalar.extui (Scalar.cmpi .eq (BitVec.ofNat 32 (i 0).val) 0#32) : BitVec 32) 0#32 = 1#1
/-- The condition of its last conditional: the grid point is the last. -/
abbrev lastPt (i : grid0.Coords) : Prop := k0_cond2 i = 1#1

/-- No point is both. -/
theorem not_first_last : ∀ t : Fin grid0.N, firstPt (grid0.coords t) → lastPt (grid0.coords t) → False := by
  decide +kernel

/-- The kernel body at the first grid point: the running maximum, sum and gathered logits are first set to their initial values. From the eleven buffers held whole — the five
    inputs, the three results, the three scratch buffers — the body runs to its return, the inputs as they were and every
    buffer it stores at the witness, which the run finds. -/
noncomputable def runA (c : Dev nD) (i : grid0.Coords)
    (M1 : Memref sig .tc .vmem S72x1536 .bf16) (h1 : M1.IsWhole) (M2 : Memref sig .tc .vmem S768x4608 .i8) (h2 : M2.IsWhole)
     (M3 : Memref sig .tc .vmem S24x4608 .f32) (h3 : M3.IsWhole) (M4 : Memref sig .tc .vmem S72x4864 .i32) (h4 : M4.IsWhole)
     (M5 : Memref sig .tc .vmem S72x128 .i32) (h5 : M5.IsWhole) (M6 : Memref sig .tc .vmem S72x1x4608 .f32) (h6 : M6.IsWhole)
     (M7 : Memref sig .tc .vmem S72x128 .f32) (h7 : M7.IsWhole) (M8 : Memref sig .tc .vmem S72x128 .f32) (h8 : M8.IsWhole)
     (M9 : Memref sig .tc .vmem S72x128 .f32) (h9 : M9.IsWhole) (M10 : Memref sig .tc .vmem S72x128 .f32) (h10 : M10.IsWhole)
     (M11 : Memref sig .tc .vmem S72x128 .f32) (h11 : M11.IsWhole)
    (hc1 : firstPt i) (hc2 : ¬ lastPt i)
    (f1 : Bf (F := F) c M1) (f2 : Bf (F := F) c M2) (f3 : Bf (F := F) c M3) (f4 : Bf (F := F) c M4) (f5 : Bf (F := F) c M5) :
    { W : Bf (F := F) c M6 × Bf (F := F) c M9 × Bf (F := F) c M10 × Bf (F := F) c M11 //
      ∀ (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 (W.1) ∗ pt c M7 f7 ∗ pt c M8 f8 ∗ pt c M9 (W.2.1) ∗ pt c M10 (W.2.2.1) ∗ pt c M11 (W.2.2.2)) -∗ Q ⟨⟩))
        ⊢ wp frame (wpE (defs₀ (F := F)) Variants.none c none) E
            (cc0_int4_head i M1 h1 M2 h2 M3 h3 M4 h4 M5 h5 M6 h6 M7 h7 M8 h8 M9 h9 M10 h10 M11 h11) Q } := by
  refine ⟨⟨?_, ?_, ?_, ?_⟩, fun f6 f7 f8 f9 f10 f11 E Q => ?run⟩
  case run =>
    iintro ⟨H1, H2, H3, H4, H5, H6, H7, H8, H9, H10, H11, Hk⟩
    sl_exec_parts! (disch := first | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Hand

end
-- ==== Proof.KernelRunB.lean ====
/-
  The body of `Kernel`'s one kernel run at symbolic operands: the grid points between the first and the last. What each buffer ends holding is found by the run,
  part by part, as named definitions over the contents of the buffers.
-/
module

public import proofs.«01_k».proof.Proof.KernelRunA

@[expose] public section

set_option maxRecDepth 16384
set_option sl_exec.resultNames true

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The kernel body at a grid point that is neither the first nor the last: the running values are those the point before left. From the eleven buffers held whole — the five
    inputs, the three results, the three scratch buffers — the body runs to its return, the inputs as they were and every
    buffer it stores at the witness, which the run finds. -/
noncomputable def runB (c : Dev nD) (i : grid0.Coords)
    (M1 : Memref sig .tc .vmem S72x1536 .bf16) (h1 : M1.IsWhole) (M2 : Memref sig .tc .vmem S768x4608 .i8) (h2 : M2.IsWhole)
     (M3 : Memref sig .tc .vmem S24x4608 .f32) (h3 : M3.IsWhole) (M4 : Memref sig .tc .vmem S72x4864 .i32) (h4 : M4.IsWhole)
     (M5 : Memref sig .tc .vmem S72x128 .i32) (h5 : M5.IsWhole) (M6 : Memref sig .tc .vmem S72x1x4608 .f32) (h6 : M6.IsWhole)
     (M7 : Memref sig .tc .vmem S72x128 .f32) (h7 : M7.IsWhole) (M8 : Memref sig .tc .vmem S72x128 .f32) (h8 : M8.IsWhole)
     (M9 : Memref sig .tc .vmem S72x128 .f32) (h9 : M9.IsWhole) (M10 : Memref sig .tc .vmem S72x128 .f32) (h10 : M10.IsWhole)
     (M11 : Memref sig .tc .vmem S72x128 .f32) (h11 : M11.IsWhole)
    (hc1 : ¬ firstPt i) (hc2 : ¬ lastPt i)
    (f1 : Bf (F := F) c M1) (f2 : Bf (F := F) c M2) (f3 : Bf (F := F) c M3) (f4 : Bf (F := F) c M4) (f5 : Bf (F := F) c M5) (f9 : Bf (F := F) c M9) (f10 : Bf (F := F) c M10) (f11 : Bf (F := F) c M11) :
    { W : Bf (F := F) c M6 × Bf (F := F) c M9 × Bf (F := F) c M10 × Bf (F := F) c M11 //
      ∀ (f6 : Bf (F := F) c M6) (f7 : Bf (F := F) c M7) (f8 : Bf (F := F) c M8) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 (W.1) ∗ pt c M7 f7 ∗ pt c M8 f8 ∗ pt c M9 (W.2.1) ∗ pt c M10 (W.2.2.1) ∗ pt c M11 (W.2.2.2)) -∗ Q ⟨⟩))
        ⊢ wp frame (wpE (defs₀ (F := F)) Variants.none c none) E
            (cc0_int4_head i M1 h1 M2 h2 M3 h3 M4 h4 M5 h5 M6 h6 M7 h7 M8 h8 M9 h9 M10 h10 M11 h11) Q } := by
  refine ⟨⟨?_, ?_, ?_, ?_⟩, fun f6 f7 f8 E Q => ?run⟩
  case run =>
    iintro ⟨H1, H2, H3, H4, H5, H6, H7, H8, H9, H10, H11, Hk⟩
    sl_exec_parts! (disch := first | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Hand

end
-- ==== Proof.KernelRunC.lean ====
/-
  The body of `Kernel`'s one kernel run at symbolic operands: the last grid point. What each buffer ends holding is found by the run,
  part by part, as named definitions over the contents of the buffers.
-/
module

public import proofs.«01_k».proof.Proof.KernelRunB

@[expose] public section

set_option maxRecDepth 16384
set_option sl_exec.resultNames true

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The kernel body at the last grid point: after the tiles, the log-sum-exp and the candidate log-probabilities are stored too. From the eleven buffers held whole — the five
    inputs, the three results, the three scratch buffers — the body runs to its return, the inputs as they were and every
    buffer it stores at the witness, which the run finds. -/
noncomputable def runC (c : Dev nD) (i : grid0.Coords)
    (M1 : Memref sig .tc .vmem S72x1536 .bf16) (h1 : M1.IsWhole) (M2 : Memref sig .tc .vmem S768x4608 .i8) (h2 : M2.IsWhole)
     (M3 : Memref sig .tc .vmem S24x4608 .f32) (h3 : M3.IsWhole) (M4 : Memref sig .tc .vmem S72x4864 .i32) (h4 : M4.IsWhole)
     (M5 : Memref sig .tc .vmem S72x128 .i32) (h5 : M5.IsWhole) (M6 : Memref sig .tc .vmem S72x1x4608 .f32) (h6 : M6.IsWhole)
     (M7 : Memref sig .tc .vmem S72x128 .f32) (h7 : M7.IsWhole) (M8 : Memref sig .tc .vmem S72x128 .f32) (h8 : M8.IsWhole)
     (M9 : Memref sig .tc .vmem S72x128 .f32) (h9 : M9.IsWhole) (M10 : Memref sig .tc .vmem S72x128 .f32) (h10 : M10.IsWhole)
     (M11 : Memref sig .tc .vmem S72x128 .f32) (h11 : M11.IsWhole)
    (hc1 : ¬ firstPt i) (hc2 : lastPt i)
    (f1 : Bf (F := F) c M1) (f2 : Bf (F := F) c M2) (f3 : Bf (F := F) c M3) (f4 : Bf (F := F) c M4) (f5 : Bf (F := F) c M5) (f9 : Bf (F := F) c M9) (f10 : Bf (F := F) c M10) (f11 : Bf (F := F) c M11) :
    { W : Bf (F := F) c M6 × Bf (F := F) c M7 × Bf (F := F) c M8 × Bf (F := F) c M9 × Bf (F := F) c M10 × Bf (F := F) c M11 //
      ∀ (f6 : Bf (F := F) c M6) (f7 : Bf (F := F) c M7) (f8 : Bf (F := F) c M8) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 (W.1) ∗ pt c M7 (W.2.1) ∗ pt c M8 (W.2.2.1) ∗ pt c M9 (W.2.2.2.1) ∗ pt c M10 (W.2.2.2.2.1) ∗ pt c M11 (W.2.2.2.2.2)) -∗ Q ⟨⟩))
        ⊢ wp frame (wpE (defs₀ (F := F)) Variants.none c none) E
            (cc0_int4_head i M1 h1 M2 h2 M3 h3 M4 h4 M5 h5 M6 h6 M7 h7 M8 h8 M9 h9 M10 h10 M11 h11) Q } := by
  refine ⟨⟨?_, ?_, ?_, ?_, ?_, ?_⟩, fun f6 f7 f8 E Q => ?run⟩
  case run =>
    iintro ⟨H1, H2, H3, H4, H5, H6, H7, H8, H9, H10, H11, Hk⟩
    sl_exec_parts! (disch := first | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel.Hand

end
-- ==== Proof.KernelFrame.lean ====
/-
  The frame of `Kernel`: at every grid point the body runs from the staging buffers and the scratch at any contents and
  hands them back at some contents, so the whole program terminates without a fault and leaves its argument arrays alone.
-/
module

public import proofs.«01_k».proof.Proof.KernelRunC

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- A whole memref owned at contents nothing names is its buffer held at some raw contents. -/
theorem owns_any (c : Dev nD) {sp : Space} {S : Shape} {e : EltTy} (M : Memref sig .tc sp S e) (h : M.IsWhole) :
    (iprop(∃ X, owns (c : Thread nD τ) M fullShare X) : sProp 𝕄) = iprop(∃ f, pt c M f) := by
  refine equiv_iff.1 ⟨?_, ?_⟩
  · show iprop(∃ X, owns (c : Thread nD τ) M fullShare X) ⊢ iprop(∃ f, pt c M f)
    iintro ⟨%X, H⟩
    iexists h.unread X
    rw [← owns_pt c M h X]
    iexact H
  · show iprop(∃ f, pt c M f) ⊢ iprop(∃ X, owns (c : Thread nD τ) M fullShare X)
    iintro ⟨%f, H⟩
    iexists M.view.read (Elt F) f
    rw [owns_pt c M h, ← h.eq_unread rfl]
    iexact H

/-- The body at any point, from and to every buffer held at contents nothing names. -/
theorem body_any (c : Dev nD) (i : grid0.Coords)
    (M1 : Memref sig .tc .vmem S72x1536 .bf16) (h1 : M1.IsWhole) (M2 : Memref sig .tc .vmem S768x4608 .i8) (h2 : M2.IsWhole)
     (M3 : Memref sig .tc .vmem S24x4608 .f32) (h3 : M3.IsWhole) (M4 : Memref sig .tc .vmem S72x4864 .i32) (h4 : M4.IsWhole)
     (M5 : Memref sig .tc .vmem S72x128 .i32) (h5 : M5.IsWhole) (M6 : Memref sig .tc .vmem S72x1x4608 .f32) (h6 : M6.IsWhole)
     (M7 : Memref sig .tc .vmem S72x128 .f32) (h7 : M7.IsWhole) (M8 : Memref sig .tc .vmem S72x128 .f32) (h8 : M8.IsWhole)
     (M9 : Memref sig .tc .vmem S72x128 .f32) (h9 : M9.IsWhole) (M10 : Memref sig .tc .vmem S72x128 .f32) (h10 : M10.IsWhole)
     (M11 : Memref sig .tc .vmem S72x128 .f32) (h11 : M11.IsWhole)
    (hn : firstPt i → lastPt i → False) (E : Set ℕ) :
    iprop((∃ f, pt (F := F) c M1 f) ∗ (∃ f, pt (F := F) c M2 f) ∗ (∃ f, pt (F := F) c M3 f) ∗ (∃ f, pt (F := F) c M4 f) ∗ (∃ f, pt (F := F) c M5 f) ∗ (∃ f, pt (F := F) c M6 f) ∗ (∃ f, pt (F := F) c M7 f) ∗ (∃ f, pt (F := F) c M8 f) ∗ (∃ f, pt (F := F) c M9 f) ∗ (∃ f, pt (F := F) c M10 f) ∗ (∃ f, pt (F := F) c M11 f))
      ⊢ wp frame (wpE (defs₀ (F := F)) Variants.none c none) E (cc0_int4_head i M1 h1 M2 h2 M3 h3 M4 h4 M5 h5 M6 h6 M7 h7 M8 h8 M9 h9 M10 h10 M11 h11)
          fun _ => iprop((∃ f, pt (F := F) c M1 f) ∗ (∃ f, pt (F := F) c M2 f) ∗ (∃ f, pt (F := F) c M3 f) ∗ (∃ f, pt (F := F) c M4 f) ∗ (∃ f, pt (F := F) c M5 f) ∗ (∃ f, pt (F := F) c M6 f) ∗ (∃ f, pt (F := F) c M7 f) ∗ (∃ f, pt (F := F) c M8 f) ∗ (∃ f, pt (F := F) c M9 f) ∗ (∃ f, pt (F := F) c M10 f) ∗ (∃ f, pt (F := F) c M11 f)) := by
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  by_cases hc1 : firstPt i
  · iapply (runA (F := F) c i M1 h1 M2 h2 M3 h3 M4 h4 M5 h5 M6 h6 M7 h7 M8 h8 M9 h9 M10 h10 M11 h11 hc1 (fun h => hn hc1 h) f1 f2 f3 f4 f5).2 f6 f7 f8 f9 f10 f11 E _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H1, H2, H3, H4, H5, H6, H7, H8, H9, H10, H11⟩
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  by_cases hc2 : lastPt i
  · iapply (runC (F := F) c i M1 h1 M2 h2 M3 h3 M4 h4 M5 h5 M6 h6 M7 h7 M8 h8 M9 h9 M10 h10 M11 h11 hc1 hc2 f1 f2 f3 f4 f5 f9 f10 f11).2 f6 f7 f8 E _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H1, H2, H3, H4, H5, H6, H7, H8, H9, H10, H11⟩
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  · iapply (runB (F := F) c i M1 h1 M2 h2 M3 h3 M4 h4 M5 h5 M6 h6 M7 h7 M8 h8 M9 h9 M10 h10 M11 h11 hc1 hc2 f1 f2 f3 f4 f5 f9 f10 f11).2 f6 f7 f8 E _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H1, H2, H3, H4, H5, H6, H7, H8, H9, H10, H11⟩
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

variable (m : (ℓ : Loc nD τ sig) → Buf (Elt F) ℓ) (ρ : Dev nD → PrngReg)

/-- The launch's proof data for the frame: each window's array as launched, and no claim about what the body leaves. -/
def fdat (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0
def fdats (p : Fin 1) (c : Dev nD) : Dat τ (Elt F) Unit ℕ (UR sig nD τ) ℕ (cfgs p) c :=
  match p with
  | 0 => fdat m c

/-- The pipeline's row for the kernel body is the body at the slots of the point. -/
theorem defs₀_row (t : Fin cfg0.N) :
    (defs₀ (F := F) .tc cfg0.body (cfg0.bodyArgs t (cfg0.slots t)) : Prog (TpuEff nD τ sig (Elt F) Λ₀ .tc) PUnit) = Gen.bodyAt0 t := by
  unfold defs₀; rw [Defs.onTc_tc]

theorem fbody (c : Dev nD) :
    BodyObligationLoose (fdat m c) (defs₀ (F := F)) Variants.none () Set.univ (fun _ => true) := by
  intro t
  rw [bigSep_W0, defs₀_row]
  refine triple_restated (W := wp frame (wpE (defs₀ (F := F)) Variants.none c none) Set.univ (Gen.bodyAt0 t))
    (P := iprop((Pipeline.scopedRest spec0 c ∗ ∃ r, prngReg c r) ∗ (fdat m c).owesAt () t.castSucc ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X)))
    (Q := fun _ => iprop((Pipeline.scopedRest spec0 c ∗ ∃ r, prngReg c r) ∗ (fdat m c).owesAt () t.castSucc ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X)))
    ?_ rfl .rfl (fun _ => .rfl)
  rw [scopedRest0_eq, owns_any c (st0_0 t) (hstage0_0 ((cfg0.slots t 0).cast nbuf0_0)), owns_any c (st0_1 t) (hstage0_1 ((cfg0.slots t 1).cast nbuf0_1)), owns_any c (st0_2 t) (hstage0_2 ((cfg0.slots t 2).cast nbuf0_2)), owns_any c (st0_3 t) (hstage0_3 ((cfg0.slots t 3).cast nbuf0_3)), owns_any c (st0_4 t) (hstage0_4 ((cfg0.slots t 4).cast nbuf0_4)), owns_any c (st0_5 t) (hstage0_5 ((cfg0.slots t 5).cast nbuf0_5)), owns_any c (st0_6 t) (hstage0_6 ((cfg0.slots t 6).cast nbuf0_6)), owns_any c (st0_7 t) (hstage0_7 ((cfg0.slots t 7).cast nbuf0_7))]
  iintro ⟨⟨⟨S0, S1, S2⟩, Hr⟩, Ho, H0, H1, H2, H3, H4, H5, H6, H7⟩
  iapply wp_wand $$ [S0 S1 S2 H0 H1 H2 H3 H4 H5 H6 H7]
  · iapply body_any c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (Memref.whole cc0_scratch0) (Memref.isWhole_whole _) (Memref.whole cc0_scratch1) (Memref.isWhole_whole _) (Memref.whole cc0_scratch2) (Memref.isWhole_whole _)
      (not_first_last t) Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iexact S2
  · iintro %_ ⟨H0, H1, H2, H3, H4, H5, H6, H7, S0, S1, S2⟩
    isplitl [S0 S1 S2 Hr]
    · isplitl [S0 S1 S2]
      · isplitl [S0]; · iexact S0
        isplitl [S1]; · iexact S1
        iexact S2
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- THE FRAME: the program terminates, nothing faults, its five argument arrays end as they were and every semaphore counter
    ends at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_around_T_forget cfgs (fdats m) 0 launch0 defs₀ Variants.none (fun _ => true) {main_v5, main_v6, main_v7} m ρ main
    (fbody m) (fun c => (fdats m 0 c).share_full fun _ => rfl) (fun _ _ => rfl) (V0 m) [hostOps1] sfx_sub sfx_fresh sfx_keeps
    (by
      intro ops hops op hop b hb
      fin_cases hops
      fin_cases hop <;> (
        obtain rfl := Proc.devRef_injective _ (Finset.mem_singleton.1 hb)
        decide))
    (hmain m Variants.none) (fun _ _ => rfl) (fun _ _ => rfl) _
    (fun r h => ⟨fun c => ⟨
      ((h.1 c).2 main_arg0 (by decide)).trans (V_main_arg0 m c),
      (h.1.arr_in c 1 rfl).trans (V_main_arg1 m c),
      (h.1.arr_in c 2 rfl).trans (V_main_arg2 m c),
      ((h.1 c).2 main_arg3 (by decide)).trans (V_main_arg3 m c),
      ((h.1 c).2 main_arg4 (by decide)).trans (V_main_arg4 m c)⟩, h.2⟩)

end Cert.Kernel.Hand

end
-- ==== Proof.KernelIdealRunA.lean ====
/-
  The body of `KernelIdeal`'s one kernel run at symbolic operands: the first grid point. What each buffer ends holding is found by the run,
  part by part, as named definitions over the contents of the buffers.
-/
module

public import proofs.«01_k».proof.Proof.Gen.KernelIdeal.Frame
public import proofs.«01_k».proof.Proof.Gen.KernelIdeal.Skeleton

@[expose] public section

set_option maxRecDepth 16384
set_option sl_exec.resultNames true

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- Memref `M`'s buffer on core `c`: its contents type, and the assertion that holds it whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned at `X` is its buffer held at the raw contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = pt c M (h.unread X) := by
  have hu : M.view.read (Elt F) (h.unread X) = X := h.read_unread X
  generalize h.unread X = f at hu ⊢
  subst hu
  obtain ⟨b, rfl, rfl, rfl, hm⟩ := h
  cases hm
  exact owns_whole (c : Thread nD τ) b fullShare f

/-- The condition of the body's first conditional: the grid point is the first. -/
abbrev firstPt (i : grid0.Coords) : Prop :=
  Scalar.cmpi .ne (Scalar.extui (Scalar.cmpi .eq (BitVec.ofNat 32 (i 0).val) 0#32) : BitVec 32) 0#32 = 1#1
/-- The condition of its last conditional: the grid point is the last. -/
abbrev lastPt (i : grid0.Coords) : Prop := k0_cond2 i = 1#1

/-- No point is both. -/
theorem not_first_last : ∀ t : Fin grid0.N, firstPt (grid0.coords t) → lastPt (grid0.coords t) → False := by
  decide +kernel

/-- The kernel body at the first grid point: the running maximum, sum and gathered logits are first set to their initial values. From the eleven buffers held whole — the five
    inputs, the three results, the three scratch buffers — the body runs to its return, the inputs as they were and every
    buffer it stores at the witness, which the run finds. -/
noncomputable def runA (c : Dev nD) (i : grid0.Coords)
    (M1 : Memref sig .tc .vmem S72x1536 .bf16) (h1 : M1.IsWhole) (M2 : Memref sig .tc .vmem S768x4608 .i8) (h2 : M2.IsWhole)
     (M3 : Memref sig .tc .vmem S24x4608 .f32) (h3 : M3.IsWhole) (M4 : Memref sig .tc .vmem S72x4864 .i32) (h4 : M4.IsWhole)
     (M5 : Memref sig .tc .vmem S72x128 .i32) (h5 : M5.IsWhole) (M6 : Memref sig .tc .vmem S72x1x4608 .f32) (h6 : M6.IsWhole)
     (M7 : Memref sig .tc .vmem S72x128 .f32) (h7 : M7.IsWhole) (M8 : Memref sig .tc .vmem S72x128 .f32) (h8 : M8.IsWhole)
     (M9 : Memref sig .tc .vmem S72x128 .f32) (h9 : M9.IsWhole) (M10 : Memref sig .tc .vmem S72x128 .f32) (h10 : M10.IsWhole)
     (M11 : Memref sig .tc .vmem S72x128 .f32) (h11 : M11.IsWhole)
    (hc1 : firstPt i) (hc2 : ¬ lastPt i)
    (f1 : Bf (F := F) c M1) (f2 : Bf (F := F) c M2) (f3 : Bf (F := F) c M3) (f4 : Bf (F := F) c M4) (f5 : Bf (F := F) c M5) :
    { W : Bf (F := F) c M6 × Bf (F := F) c M9 × Bf (F := F) c M10 × Bf (F := F) c M11 //
      ∀ (f6 : Bf (F := F) c M6) (f7 : Bf (F := F) c M7) (f8 : Bf (F := F) c M8) (f9 : Bf (F := F) c M9) (f10 : Bf (F := F) c M10) (f11 : Bf (F := F) c M11) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 (W.1) ∗ pt c M7 f7 ∗ pt c M8 f8 ∗ pt c M9 (W.2.1) ∗ pt c M10 (W.2.2.1) ∗ pt c M11 (W.2.2.2)) -∗ Q ⟨⟩))
        ⊢ wp frame (wpE (defs₀ (F := F)) Variants.none c none) E
            (cc0_int4_head i M1 h1 M2 h2 M3 h3 M4 h4 M5 h5 M6 h6 M7 h7 M8 h8 M9 h9 M10 h10 M11 h11) Q } := by
  refine ⟨⟨?_, ?_, ?_, ?_⟩, fun f6 f7 f8 f9 f10 f11 E Q => ?run⟩
  case run =>
    iintro ⟨H1, H2, H3, H4, H5, H6, H7, H8, H9, H10, H11, Hk⟩
    sl_exec_parts! (disch := first | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Hand

end
-- ==== Proof.KernelIdealRunB.lean ====
/-
  The body of `KernelIdeal`'s one kernel run at symbolic operands: the grid points between the first and the last. What each buffer ends holding is found by the run,
  part by part, as named definitions over the contents of the buffers.
-/
module

public import proofs.«01_k».proof.Proof.KernelIdealRunA

@[expose] public section

set_option maxRecDepth 16384
set_option sl_exec.resultNames true

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The kernel body at a grid point that is neither the first nor the last: the running values are those the point before left. From the eleven buffers held whole — the five
    inputs, the three results, the three scratch buffers — the body runs to its return, the inputs as they were and every
    buffer it stores at the witness, which the run finds. -/
noncomputable def runB (c : Dev nD) (i : grid0.Coords)
    (M1 : Memref sig .tc .vmem S72x1536 .bf16) (h1 : M1.IsWhole) (M2 : Memref sig .tc .vmem S768x4608 .i8) (h2 : M2.IsWhole)
     (M3 : Memref sig .tc .vmem S24x4608 .f32) (h3 : M3.IsWhole) (M4 : Memref sig .tc .vmem S72x4864 .i32) (h4 : M4.IsWhole)
     (M5 : Memref sig .tc .vmem S72x128 .i32) (h5 : M5.IsWhole) (M6 : Memref sig .tc .vmem S72x1x4608 .f32) (h6 : M6.IsWhole)
     (M7 : Memref sig .tc .vmem S72x128 .f32) (h7 : M7.IsWhole) (M8 : Memref sig .tc .vmem S72x128 .f32) (h8 : M8.IsWhole)
     (M9 : Memref sig .tc .vmem S72x128 .f32) (h9 : M9.IsWhole) (M10 : Memref sig .tc .vmem S72x128 .f32) (h10 : M10.IsWhole)
     (M11 : Memref sig .tc .vmem S72x128 .f32) (h11 : M11.IsWhole)
    (hc1 : ¬ firstPt i) (hc2 : ¬ lastPt i)
    (f1 : Bf (F := F) c M1) (f2 : Bf (F := F) c M2) (f3 : Bf (F := F) c M3) (f4 : Bf (F := F) c M4) (f5 : Bf (F := F) c M5) (f9 : Bf (F := F) c M9) (f10 : Bf (F := F) c M10) (f11 : Bf (F := F) c M11) :
    { W : Bf (F := F) c M6 × Bf (F := F) c M9 × Bf (F := F) c M10 × Bf (F := F) c M11 //
      ∀ (f6 : Bf (F := F) c M6) (f7 : Bf (F := F) c M7) (f8 : Bf (F := F) c M8) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 (W.1) ∗ pt c M7 f7 ∗ pt c M8 f8 ∗ pt c M9 (W.2.1) ∗ pt c M10 (W.2.2.1) ∗ pt c M11 (W.2.2.2)) -∗ Q ⟨⟩))
        ⊢ wp frame (wpE (defs₀ (F := F)) Variants.none c none) E
            (cc0_int4_head i M1 h1 M2 h2 M3 h3 M4 h4 M5 h5 M6 h6 M7 h7 M8 h8 M9 h9 M10 h10 M11 h11) Q } := by
  refine ⟨⟨?_, ?_, ?_, ?_⟩, fun f6 f7 f8 E Q => ?run⟩
  case run =>
    iintro ⟨H1, H2, H3, H4, H5, H6, H7, H8, H9, H10, H11, Hk⟩
    sl_exec_parts! (disch := first | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Hand

end
-- ==== Proof.KernelIdealRunC.lean ====
/-
  The body of `KernelIdeal`'s one kernel run at symbolic operands: the last grid point. What each buffer ends holding is found by the run,
  part by part, as named definitions over the contents of the buffers.
-/
module

public import proofs.«01_k».proof.Proof.KernelIdealRunB

@[expose] public section

set_option maxRecDepth 16384
set_option sl_exec.resultNames true

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- The kernel body at the last grid point: after the tiles, the log-sum-exp and the candidate log-probabilities are stored too. From the eleven buffers held whole — the five
    inputs, the three results, the three scratch buffers — the body runs to its return, the inputs as they were and every
    buffer it stores at the witness, which the run finds. -/
noncomputable def runC (c : Dev nD) (i : grid0.Coords)
    (M1 : Memref sig .tc .vmem S72x1536 .bf16) (h1 : M1.IsWhole) (M2 : Memref sig .tc .vmem S768x4608 .i8) (h2 : M2.IsWhole)
     (M3 : Memref sig .tc .vmem S24x4608 .f32) (h3 : M3.IsWhole) (M4 : Memref sig .tc .vmem S72x4864 .i32) (h4 : M4.IsWhole)
     (M5 : Memref sig .tc .vmem S72x128 .i32) (h5 : M5.IsWhole) (M6 : Memref sig .tc .vmem S72x1x4608 .f32) (h6 : M6.IsWhole)
     (M7 : Memref sig .tc .vmem S72x128 .f32) (h7 : M7.IsWhole) (M8 : Memref sig .tc .vmem S72x128 .f32) (h8 : M8.IsWhole)
     (M9 : Memref sig .tc .vmem S72x128 .f32) (h9 : M9.IsWhole) (M10 : Memref sig .tc .vmem S72x128 .f32) (h10 : M10.IsWhole)
     (M11 : Memref sig .tc .vmem S72x128 .f32) (h11 : M11.IsWhole)
    (hc1 : ¬ firstPt i) (hc2 : lastPt i)
    (f1 : Bf (F := F) c M1) (f2 : Bf (F := F) c M2) (f3 : Bf (F := F) c M3) (f4 : Bf (F := F) c M4) (f5 : Bf (F := F) c M5) (f9 : Bf (F := F) c M9) (f10 : Bf (F := F) c M10) (f11 : Bf (F := F) c M11) :
    { W : Bf (F := F) c M6 × Bf (F := F) c M7 × Bf (F := F) c M8 × Bf (F := F) c M9 × Bf (F := F) c M10 × Bf (F := F) c M11 //
      ∀ (f6 : Bf (F := F) c M6) (f7 : Bf (F := F) c M7) (f8 : Bf (F := F) c M8) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11
          ∗ (iprop(pt c M1 f1 ∗ pt c M2 f2 ∗ pt c M3 f3 ∗ pt c M4 f4 ∗ pt c M5 f5 ∗ pt c M6 (W.1) ∗ pt c M7 (W.2.1) ∗ pt c M8 (W.2.2.1) ∗ pt c M9 (W.2.2.2.1) ∗ pt c M10 (W.2.2.2.2.1) ∗ pt c M11 (W.2.2.2.2.2)) -∗ Q ⟨⟩))
        ⊢ wp frame (wpE (defs₀ (F := F)) Variants.none c none) E
            (cc0_int4_head i M1 h1 M2 h2 M3 h3 M4 h4 M5 h5 M6 h6 M7 h7 M8 h8 M9 h9 M10 h10 M11 h11) Q } := by
  refine ⟨⟨?_, ?_, ?_, ?_, ?_, ?_⟩, fun f6 f7 f8 E Q => ?run⟩
  case run =>
    iintro ⟨H1, H2, H3, H4, H5, H6, H7, H8, H9, H10, H11, Hk⟩
    sl_exec_parts! (disch := first | sl_exact hc1 | sl_exact hc2)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Hand

end
-- ==== Proof.KernelIdealFrame.lean ====
/-
  The frame of `KernelIdeal`: at every grid point the body runs from the staging buffers and the scratch at any contents and
  hands them back at some contents, so the whole program terminates without a fault and leaves its argument arrays alone.
-/
module

public import proofs.«01_k».proof.Proof.KernelIdealRunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- A whole memref owned at contents nothing names is its buffer held at some raw contents. -/
theorem owns_any (c : Dev nD) {sp : Space} {S : Shape} {e : EltTy} (M : Memref sig .tc sp S e) (h : M.IsWhole) :
    (iprop(∃ X, owns (c : Thread nD τ) M fullShare X) : sProp 𝕄) = iprop(∃ f, pt c M f) := by
  refine equiv_iff.1 ⟨?_, ?_⟩
  · show iprop(∃ X, owns (c : Thread nD τ) M fullShare X) ⊢ iprop(∃ f, pt c M f)
    iintro ⟨%X, H⟩
    iexists h.unread X
    rw [← owns_pt c M h X]
    iexact H
  · show iprop(∃ f, pt c M f) ⊢ iprop(∃ X, owns (c : Thread nD τ) M fullShare X)
    iintro ⟨%f, H⟩
    iexists M.view.read (Elt F) f
    rw [owns_pt c M h, ← h.eq_unread rfl]
    iexact H

/-- The body at any point, from and to every buffer held at contents nothing names. -/
theorem body_any (c : Dev nD) (i : grid0.Coords)
    (M1 : Memref sig .tc .vmem S72x1536 .bf16) (h1 : M1.IsWhole) (M2 : Memref sig .tc .vmem S768x4608 .i8) (h2 : M2.IsWhole)
     (M3 : Memref sig .tc .vmem S24x4608 .f32) (h3 : M3.IsWhole) (M4 : Memref sig .tc .vmem S72x4864 .i32) (h4 : M4.IsWhole)
     (M5 : Memref sig .tc .vmem S72x128 .i32) (h5 : M5.IsWhole) (M6 : Memref sig .tc .vmem S72x1x4608 .f32) (h6 : M6.IsWhole)
     (M7 : Memref sig .tc .vmem S72x128 .f32) (h7 : M7.IsWhole) (M8 : Memref sig .tc .vmem S72x128 .f32) (h8 : M8.IsWhole)
     (M9 : Memref sig .tc .vmem S72x128 .f32) (h9 : M9.IsWhole) (M10 : Memref sig .tc .vmem S72x128 .f32) (h10 : M10.IsWhole)
     (M11 : Memref sig .tc .vmem S72x128 .f32) (h11 : M11.IsWhole)
    (hn : firstPt i → lastPt i → False) (E : Set ℕ) :
    iprop((∃ f, pt (F := F) c M1 f) ∗ (∃ f, pt (F := F) c M2 f) ∗ (∃ f, pt (F := F) c M3 f) ∗ (∃ f, pt (F := F) c M4 f) ∗ (∃ f, pt (F := F) c M5 f) ∗ (∃ f, pt (F := F) c M6 f) ∗ (∃ f, pt (F := F) c M7 f) ∗ (∃ f, pt (F := F) c M8 f) ∗ (∃ f, pt (F := F) c M9 f) ∗ (∃ f, pt (F := F) c M10 f) ∗ (∃ f, pt (F := F) c M11 f))
      ⊢ wp frame (wpE (defs₀ (F := F)) Variants.none c none) E (cc0_int4_head i M1 h1 M2 h2 M3 h3 M4 h4 M5 h5 M6 h6 M7 h7 M8 h8 M9 h9 M10 h10 M11 h11)
          fun _ => iprop((∃ f, pt (F := F) c M1 f) ∗ (∃ f, pt (F := F) c M2 f) ∗ (∃ f, pt (F := F) c M3 f) ∗ (∃ f, pt (F := F) c M4 f) ∗ (∃ f, pt (F := F) c M5 f) ∗ (∃ f, pt (F := F) c M6 f) ∗ (∃ f, pt (F := F) c M7 f) ∗ (∃ f, pt (F := F) c M8 f) ∗ (∃ f, pt (F := F) c M9 f) ∗ (∃ f, pt (F := F) c M10 f) ∗ (∃ f, pt (F := F) c M11 f)) := by
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩⟩
  by_cases hc1 : firstPt i
  · iapply (runA (F := F) c i M1 h1 M2 h2 M3 h3 M4 h4 M5 h5 M6 h6 M7 h7 M8 h8 M9 h9 M10 h10 M11 h11 hc1 (fun h => hn hc1 h) f1 f2 f3 f4 f5).2 f6 f7 f8 f9 f10 f11 E _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H1, H2, H3, H4, H5, H6, H7, H8, H9, H10, H11⟩
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  by_cases hc2 : lastPt i
  · iapply (runC (F := F) c i M1 h1 M2 h2 M3 h3 M4 h4 M5 h5 M6 h6 M7 h7 M8 h8 M9 h9 M10 h10 M11 h11 hc1 hc2 f1 f2 f3 f4 f5 f9 f10 f11).2 f6 f7 f8 E _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H1, H2, H3, H4, H5, H6, H7, H8, H9, H10, H11⟩
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11
  · iapply (runB (F := F) c i M1 h1 M2 h2 M3 h3 M4 h4 M5 h5 M6 h6 M7 h7 M8 h8 M9 h9 M10 h10 M11 h11 hc1 hc2 f1 f2 f3 f4 f5 f9 f10 f11).2 f6 f7 f8 E _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iintro ⟨H1, H2, H3, H4, H5, H6, H7, H8, H9, H10, H11⟩
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    iexists _; iexact H11

variable (m : (ℓ : Loc nD τ sig) → Buf (Elt F) ℓ) (ρ : Dev nD → PrngReg)

/-- The launch's proof data for the frame: each window's array as launched, and no claim about what the body leaves. -/
def fdat (c : Dev nD) : Dat τ (Elt F) Unit ℕ (UR sig nD τ) ℕ cfg0 c where
  A w := V m c (Pipeline.arrRef spec0 w)
  after := Dat.unnamed
  Φ _ := Pipeline.ΦA spec0 c
  q _ := fullShare
  owed _ := 0
def fdats (p : Fin 1) (c : Dev nD) : Dat τ (Elt F) Unit ℕ (UR sig nD τ) ℕ (cfgs p) c :=
  match p with
  | 0 => fdat m c

/-- The pipeline's row for the kernel body is the body at the slots of the point. -/
theorem defs₀_row (t : Fin cfg0.N) :
    (defs₀ (F := F) .tc cfg0.body (cfg0.bodyArgs t (cfg0.slots t)) : Prog (TpuEff nD τ sig (Elt F) Λ₀ .tc) PUnit) = Gen.bodyAt0 t := by
  unfold defs₀; rw [Defs.onTc_tc]

theorem fbody (c : Dev nD) :
    BodyObligationLoose (fdat m c) (defs₀ (F := F)) Variants.none () Set.univ (fun _ => true) := by
  intro t
  rw [bigSep_W0, defs₀_row]
  refine triple_restated (W := wp frame (wpE (defs₀ (F := F)) Variants.none c none) Set.univ (Gen.bodyAt0 t))
    (P := iprop((Pipeline.scopedRest spec0 c ∗ ∃ r, prngReg c r) ∗ (fdat m c).owesAt () t.castSucc ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X)))
    (Q := fun _ => iprop((Pipeline.scopedRest spec0 c ∗ ∃ r, prngReg c r) ∗ (fdat m c).owesAt () t.castSucc ∗ (∃ X, owns (c : Thread nD τ) (st0_0 t) fullShare X) ∗ (∃ X, owns (c : Thread nD τ) (st0_1 t) fullShare X) ∗ (∃ X, owns (c : Thread nD τ) (st0_2 t) fullShare X) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X)))
    ?_ rfl .rfl (fun _ => .rfl)
  rw [scopedRest0_eq, owns_any c (st0_0 t) (hstage0_0 ((cfg0.slots t 0).cast nbuf0_0)), owns_any c (st0_1 t) (hstage0_1 ((cfg0.slots t 1).cast nbuf0_1)), owns_any c (st0_2 t) (hstage0_2 ((cfg0.slots t 2).cast nbuf0_2)), owns_any c (st0_3 t) (hstage0_3 ((cfg0.slots t 3).cast nbuf0_3)), owns_any c (st0_4 t) (hstage0_4 ((cfg0.slots t 4).cast nbuf0_4)), owns_any c (st0_5 t) (hstage0_5 ((cfg0.slots t 5).cast nbuf0_5)), owns_any c (st0_6 t) (hstage0_6 ((cfg0.slots t 6).cast nbuf0_6)), owns_any c (st0_7 t) (hstage0_7 ((cfg0.slots t 7).cast nbuf0_7))]
  iintro ⟨⟨⟨S0, S1, S2⟩, Hr⟩, Ho, H0, H1, H2, H3, H4, H5, H6, H7⟩
  iapply wp_wand $$ [S0 S1 S2 H0 H1 H2 H3 H4 H5 H6 H7]
  · iapply body_any c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
      (Memref.whole cc0_scratch0) (Memref.isWhole_whole _) (Memref.whole cc0_scratch1) (Memref.isWhole_whole _) (Memref.whole cc0_scratch2) (Memref.isWhole_whole _)
      (not_first_last t) Set.univ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iexact S2
  · iintro %_ ⟨H0, H1, H2, H3, H4, H5, H6, H7, S0, S1, S2⟩
    isplitl [S0 S1 S2 Hr]
    · isplitl [S0 S1 S2]
      · isplitl [S0]; · iexact S0
        isplitl [S1]; · iexact S1
        iexact S2
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- THE FRAME: the program terminates, nothing faults, its five argument arrays end as they were and every semaphore counter
    ends at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  Pipeline.θ_run_frame_around_T_forget cfgs (fdats m) 0 launch0 defs₀ Variants.none (fun _ => true) {main_v5, main_v6, main_v7} m ρ main
    (fbody m) (fun c => (fdats m 0 c).share_full fun _ => rfl) (fun _ _ => rfl) (V0 m) [hostOps1] sfx_sub sfx_fresh sfx_keeps
    (by
      intro ops hops op hop b hb
      fin_cases hops
      fin_cases hop <;> (
        obtain rfl := Proc.devRef_injective _ (Finset.mem_singleton.1 hb)
        decide))
    (hmain m Variants.none) (fun _ _ => rfl) (fun _ _ => rfl) _
    (fun r h => ⟨fun c => ⟨
      ((h.1 c).2 main_arg0 (by decide)).trans (V_main_arg0 m c),
      (h.1.arr_in c 1 rfl).trans (V_main_arg1 m c),
      (h.1.arr_in c 2 rfl).trans (V_main_arg2 m c),
      ((h.1 c).2 main_arg3 (by decide)).trans (V_main_arg3 m c),
      ((h.1 c).2 main_arg4 (by decide)).trans (V_main_arg4 m c)⟩, h.2⟩)

end Cert.KernelIdeal.Hand

end
-- ==== Proof.KernelIdealStep.lean ====
/-
  What one grid point of `KernelIdeal`'s kernel computes, as functions of the values it loads: the same operations in the same
  order, one function for the steps the kernel repeats.
-/
module

public import proofs.«01_k».proof.Proof.Gen.KernelIdeal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The lane number of each entry of a tile. -/
def laneIota : IVec S72x128 32 :=
  iota .tc S72x128 32 [1] iota_S72x128_d1_w32

/-- The bit of a mask word that stands for each lane: one shifted left by the lane number modulo 32. -/
def laneBit (v3 : IVec S72x128 32) : IVec S72x128 32 :=
  have c1_i32_5 : BitVec 32 := 1#32
  have v20 : IVec S72x128 32 := broadcast S72x128 c1_i32_5
  have c32_i32 : BitVec 32 := 32#32
  have c0_i32_1 : BitVec 32 := 0#32
  have v4 : BitVec 1 := Scalar.cmpi .eq c32_i32 c0_i32_1
  have c1_i32 : BitVec 32 := 1#32
  have v5 : BitVec 32 := Scalar.select v4 c1_i32 c32_i32
  have v6 : IVec S72x128 32 := broadcast S72x128 v5
  have v7 : IVec S72x128 32 := remsi v3 v6
  have c0_i32_3 : BitVec 32 := 0#32
  have v10 : IVec S72x128 32 := broadcast S72x128 c0_i32_3
  have v11 : IVec S72x128 1 := cmpi .slt v7 v10
  have c0_i32_4 : BitVec 32 := 0#32
  have v12 : BitVec 1 := Scalar.cmpi .slt v5 c0_i32_4
  have v13 : IVec S72x128 1 := broadcast S72x128 v12
  have v14 : IVec S72x128 1 := broadcastTo S72x128 v13 broadcasts_S72x128_S72x128
  have v15 : IVec S72x128 1 := xori v11 v14
  have c0_i32_2 : BitVec 32 := 0#32
  have v8 : IVec S72x128 32 := broadcast S72x128 c0_i32_2
  have v9 : IVec S72x128 1 := cmpi .ne v7 v8
  have v16 : IVec S72x128 1 := andi v15 v9
  have v17 : IVec S72x128 32 := broadcast S72x128 v5
  have v18 : IVec S72x128 32 := addi v7 v17
  have v19 : IVec S72x128 32 := select v16 v18 v7
  shli v20 v19

/-- The lane number divided by 32, rounded down. -/
def laneWord (v3 : IVec S72x128 32) : IVec S72x128 32 :=
  have c0_i32_7 : BitVec 32 := 0#32
  have v24 : IVec S72x128 32 := broadcast S72x128 c0_i32_7
  have v25 : IVec S72x128 1 := cmpi .sgt v3 v24
  have v26 : IVec S72x128 32 := extui 32 v25 natLt_1_32
  have c0_i32_8 : BitVec 32 := 0#32
  have v27 : IVec S72x128 32 := broadcast S72x128 c0_i32_8
  have v28 : IVec S72x128 1 := cmpi .slt v3 v27
  have v29 : IVec S72x128 32 := extui 32 v28 natLt_1_32
  have v30 : IVec S72x128 32 := subi v26 v29
  have c32_i32_6 : BitVec 32 := 32#32
  have c0_i32_9 : BitVec 32 := 0#32
  have v31 : BitVec 1 := Scalar.cmpi .sgt c32_i32_6 c0_i32_9
  have v32 : BitVec 32 := Scalar.extui v31
  have c0_i32_10 : BitVec 32 := 0#32
  have v33 : BitVec 1 := Scalar.cmpi .slt c32_i32_6 c0_i32_10
  have v34 : BitVec 32 := Scalar.extui v33
  have v35 : BitVec 32 := Scalar.subi v32 v34
  have v36 : IVec S72x128 32 := broadcast S72x128 v35
  have v37 : IVec S72x128 1 := cmpi .ne v30 v36
  have v38 : IVec S72x128 32 := broadcast S72x128 c32_i32_6
  have v39 : IVec S72x128 32 := remsi v3 v38
  have c0_i32_11 : BitVec 32 := 0#32
  have v40 : IVec S72x128 32 := broadcast S72x128 c0_i32_11
  have v41 : IVec S72x128 1 := cmpi .ne v39 v40
  have v42 : IVec S72x128 1 := andi v37 v41
  have v22 : IVec S72x128 32 := broadcast S72x128 c32_i32_6
  have v23 : IVec S72x128 32 := divsi v3 v22
  have c1_i32_12 : BitVec 32 := 1#32
  have v43 : IVec S72x128 32 := broadcast S72x128 c1_i32_12
  have v44 : IVec S72x128 32 := subi v23 v43
  select v42 v44 v23

/-- The tile a candidate token lies in: its number divided by 128, rounded down. -/
def candTile (v46 : IVec S72x128 32) : IVec S72x128 32 :=
  have v47 : IVec S72x128 32 := shapeCast S72x128 v46 shapeCasts_S72x128_S72x128
  have c0_i32_14 : BitVec 32 := 0#32
  have v50 : IVec S72x128 32 := broadcast S72x128 c0_i32_14
  have v51 : IVec S72x128 1 := cmpi .sgt v47 v50
  have v52 : IVec S72x128 32 := extui 32 v51 natLt_1_32
  have c0_i32_15 : BitVec 32 := 0#32
  have v53 : IVec S72x128 32 := broadcast S72x128 c0_i32_15
  have v54 : IVec S72x128 1 := cmpi .slt v47 v53
  have v55 : IVec S72x128 32 := extui 32 v54 natLt_1_32
  have v56 : IVec S72x128 32 := subi v52 v55
  have c128_i32 : BitVec 32 := 128#32
  have c0_i32_16 : BitVec 32 := 0#32
  have v57 : BitVec 1 := Scalar.cmpi .sgt c128_i32 c0_i32_16
  have v58 : BitVec 32 := Scalar.extui v57
  have c0_i32_17 : BitVec 32 := 0#32
  have v59 : BitVec 1 := Scalar.cmpi .slt c128_i32 c0_i32_17
  have v60 : BitVec 32 := Scalar.extui v59
  have v61 : BitVec 32 := Scalar.subi v58 v60
  have v62 : IVec S72x128 32 := broadcast S72x128 v61
  have v63 : IVec S72x128 1 := cmpi .ne v56 v62
  have v64 : IVec S72x128 32 := broadcast S72x128 c128_i32
  have v65 : IVec S72x128 32 := remsi v47 v64
  have c0_i32_18 : BitVec 32 := 0#32
  have v66 : IVec S72x128 32 := broadcast S72x128 c0_i32_18
  have v67 : IVec S72x128 1 := cmpi .ne v65 v66
  have v68 : IVec S72x128 1 := andi v63 v67
  have v48 : IVec S72x128 32 := broadcast S72x128 c128_i32
  have v49 : IVec S72x128 32 := divsi v47 v48
  have c1_i32_19 : BitVec 32 := 1#32
  have v69 : IVec S72x128 32 := broadcast S72x128 c1_i32_19
  have v70 : IVec S72x128 32 := subi v49 v69
  select v68 v70 v49

/-- The lane a candidate token lies in: its number modulo 128. -/
def candLane (v72 : IVec S72x128 32) : IVec S72x128 32 :=
  have v73 : IVec S72x128 32 := shapeCast S72x128 v72 shapeCasts_S72x128_S72x128
  have c128_i32_22 : BitVec 32 := 128#32
  have c0_i32_23 : BitVec 32 := 0#32
  have v74 : BitVec 1 := Scalar.cmpi .eq c128_i32_22 c0_i32_23
  have c1_i32_24 : BitVec 32 := 1#32
  have v75 : BitVec 32 := Scalar.select v74 c1_i32_24 c128_i32_22
  have v76 : IVec S72x128 32 := broadcast S72x128 v75
  have v77 : IVec S72x128 32 := remsi v73 v76
  have c0_i32_26 : BitVec 32 := 0#32
  have v80 : IVec S72x128 32 := broadcast S72x128 c0_i32_26
  have v81 : IVec S72x128 1 := cmpi .slt v77 v80
  have c0_i32_27 : BitVec 32 := 0#32
  have v82 : BitVec 1 := Scalar.cmpi .slt v75 c0_i32_27
  have v83 : IVec S72x128 1 := broadcast S72x128 v82
  have v84 : IVec S72x128 1 := broadcastTo S72x128 v83 broadcasts_S72x128_S72x128
  have v85 : IVec S72x128 1 := xori v81 v84
  have c0_i32_25 : BitVec 32 := 0#32
  have v78 : IVec S72x128 32 := broadcast S72x128 c0_i32_25
  have v79 : IVec S72x128 1 := cmpi .ne v77 v78
  have v86 : IVec S72x128 1 := andi v85 v79
  have v87 : IVec S72x128 32 := broadcast S72x128 v75
  have v88 : IVec S72x128 32 := addi v77 v87
  select v86 v88 v77

/-- The four-bit codes of 256 columns: the low half of each byte above its high half. -/
def codes (v93 : Vec F S768x256 .i8) : IVec S1536x256 4 :=
  have v94 : IVec S768x256 32 := extui 32 v93 natLt_8_32
  have v95 : IVec S768x256 4 := trunci 4 v94 natLt_4_32
  have v99 : IVec S768x1x256 4 := shapeCast S768x1x256 v95 shapeCasts_S768x256_S768x1x256
  have c4_i32 : BitVec 32 := 4#32
  have v96 : IVec S768x256 32 := broadcast S768x256 c4_i32
  have v97 : IVec S768x256 32 := shrsi v94 v96
  have v98 : IVec S768x256 4 := trunci 4 v97 natLt_4_32
  have v100 : IVec S768x1x256 4 := shapeCast S768x1x256 v98 shapeCasts_S768x256_S768x1x256
  have v101 : IVec S768x2x256 4 := concatenate S768x2x256 1 [⟨S768x1x256, v99⟩, ⟨S768x1x256, v100⟩] concatenates_S768x1x256_S768x1x256_S768x2x256_d1
  shapeCast S1536x256 v101 shapeCasts_S768x2x256_S1536x256

/-- The weights of one group of 64 rows: the codes times the group's scale. -/
def groupW (q : IVec S1536x256 4) (s : FVec F S24x256 .f32) (g h : ℕ) (hs : S24x256.Slices ![g, 0] S1x256) (hq : S1536x256.Slices ![h, 0] S64x256) : FVec F S64x256 .bf16 :=
  mulf (sitofp .bf16 (extractStridedSlice S64x256 ![h, 0] q hq)) (truncf .bf16 (broadcastTo S64x256 (shapeCast S1x256 (extractStridedSlice S1x256 ![g, 0] s hs) shapeCasts_S1x256_S1x256) broadcasts_S1x256_S64x256) bitsLt_bf16_f32)

theorem slicesS : ∀ g : Fin 24, S24x256.Slices ![g.val, 0] S1x256 := by decide
theorem slicesQ : ∀ g : Fin 24, S1536x256.Slices ![64 * g.val, 0] S64x256 := by decide

/-- The weights of 256 columns: the 24 groups one above the other. -/
def weights (q : IVec S1536x256 4) (s : FVec F S24x256 .f32) : FVec F S1536x256 .bf16 :=
  concatenate S1536x256 0 (List.ofFn fun g : Fin 24 => (⟨S64x256, groupW q s g.val (64 * g.val) (slicesS g) (slicesQ g)⟩ : (s : Shape) × (s.Idx → F .bf16))) concatenates_S64x256_S64x256_S64x256_S64x256_S64x256_S64x256_S64x256_S64x256_S64x256_S64x256_S64x256_S64x256_S64x256_S64x256_S64x256_S64x256_S64x256_S64x256_S64x256_S64x256_S64x256_S64x256_S64x256_S64x256_S1536x256_d0

/-- The logits of 256 columns. -/
def subLogits (x : Vec F S72x1536 .bf16) (w : Vec F S768x256 .i8) (s : Vec F S24x256 .f32) : FVec F S72x256 .f32 :=
  matmul dot_S72x1536_S1536x256_S72x256_1_0_0_1_n_n none (shapeCast S72x1536 x shapeCasts_S72x1536_S72x1536 : FVec F S72x1536 .bf16) (weights (codes w) s) (constant S72x256 .f32 0x00000000#32)

/-- The number of a tile: 36 to a grid point. -/
def tileNo (i : grid0.Coords) (a : BitVec 32) (b : BitVec 32) : BitVec 32 :=
  have c36_i32 : BitVec 32 := 36#32
  have v276 : BitVec 32 := Scalar.muli (BitVec.ofNat 32 (i 0).val) c36_i32
  have v277 : BitVec 32 := Scalar.addi v276 a
  Scalar.addi v277 b

/-- Which tokens of a tile are allowed: the bit of the token in its mask word is set, and the token lies inside the vocabulary. -/
def allowed (v278 : BitVec 32) (v300 : IVec S72x128 32) : IVec S72x128 1 :=
  have v301 : IVec S72x128 32 := shapeCast S72x128 v300 shapeCasts_S72x128_S72x128
  have c32_i32_51 : BitVec 32 := 32#32
  have c0_i32_52 : BitVec 32 := 0#32
  have v302 : BitVec 1 := Scalar.cmpi .eq c32_i32_51 c0_i32_52
  have c1_i32_53 : BitVec 32 := 1#32
  have v303 : BitVec 32 := Scalar.select v302 c1_i32_53 c32_i32_51
  have v304 : BitVec 32 := Scalar.remsi v278 v303
  have c0_i32_55 : BitVec 32 := 0#32
  have v306 : BitVec 1 := Scalar.cmpi .slt v304 c0_i32_55
  have c0_i32_56 : BitVec 32 := 0#32
  have v307 : BitVec 1 := Scalar.cmpi .slt v303 c0_i32_56
  have v308 : BitVec 1 := Scalar.xori v306 v307
  have c0_i32_54 : BitVec 32 := 0#32
  have v305 : BitVec 1 := Scalar.cmpi .ne v304 c0_i32_54
  have v309 : BitVec 1 := Scalar.andi v308 v305
  have v310 : BitVec 32 := Scalar.addi v304 v303
  have v311 : BitVec 32 := Scalar.select v309 v310 v304
  have c4_i32_57 : BitVec 32 := 4#32
  have v312 : BitVec 32 := Scalar.muli v311 c4_i32_57
  have v313 : IVec S72x128 32 := broadcast S72x128 v312
  have v314 : IVec S72x128 32 := addi (laneWord laneIota) v313
  have c0_i32_58 : BitVec 32 := 0#32
  have v315 : IVec S72x128 32 := broadcast S72x128 c0_i32_58
  have v316 : IVec S72x128 1 := cmpi .slt v314 v315
  have c128_i32_59 : BitVec 32 := 128#32
  have v317 : IVec S72x128 32 := broadcast S72x128 c128_i32_59
  have v318 : IVec S72x128 32 := addi v314 v317
  have v319 : IVec S72x128 32 := select v316 v318 v314
  have v320 : IVec S72x128x1 32 := shapeCast S72x128x1 v319 shapeCasts_S72x128_S72x128x1
  have v321 : IVec S72x128 32 := shapeCast S72x128 v320 shapeCasts_S72x128x1_S72x128
  have v322 : IVec S72x128 32 := dynamicGather 1 v301 v321
  have v323 : IVec S72x128 32 := andi v322 (laneBit laneIota)
  have c0_i32_60 : BitVec 32 := 0#32
  have v324 : IVec S72x128 32 := broadcast S72x128 c0_i32_60
  have v325 : IVec S72x128 1 := cmpi .ne v323 v324
  have c128_i32_61 : BitVec 32 := 128#32
  have v326 : BitVec 32 := Scalar.muli v278 c128_i32_61
  have v327 : IVec S72x128 32 := broadcast S72x128 v326
  have v328 : IVec S72x128 32 := addi v327 laneIota
  have c151936_i32 : BitVec 32 := 151936#32
  have v329 : IVec S72x128 32 := broadcast S72x128 c151936_i32
  have v330 : IVec S72x128 1 := cmpi .slt v328 v329
  andi v325 v330

/-- A tile of masked logits: zero where the token is not allowed. -/
def outTile (v331 : IVec S72x128 1) (v279 : FVec F S72x128 .f32) : FVec F S72x1x128 .f32 :=
  have cst_62 : F .f32 := Scalar.ofBits .f32 0x00000000#32
  have v332 : FVec F S72x128 .f32 := broadcast S72x128 cst_62
  have v333 : FVec F S72x128 .f32 := select v331 v279 v332
  shapeCast S72x1x128 v333 shapeCasts_S72x128_S72x1x128

/-- A tile of logits for the running maximum: minus infinity where the token is not allowed. -/
def maskTile (v331 : IVec S72x128 1) (v279 : FVec F S72x128 .f32) : FVec F S72x128 .f32 :=
  have cst_66 : F .f32 := Scalar.ofBits .f32 0xFF800000#32
  have v337 : FVec F S72x128 .f32 := broadcast S72x128 cst_66
  select v331 v279 v337

/-- The candidates' logits after a tile: replaced where the candidate lies in the tile. -/
def candStep (v71 : IVec S72x128 32) (v89 : IVec S72x128 32) (v278 : BitVec 32) (v279 : FVec F S72x128 .f32) (v92 : FVec F S72x128 .f32) : FVec F S72x128 .f32 :=
  have v339 : IVec S72x128 32 := broadcast S72x128 v278
  have v340 : IVec S72x128 1 := cmpi .eq v71 v339
  have c0_i32_67 : BitVec 32 := 0#32
  have v341 : IVec S72x128 32 := broadcast S72x128 c0_i32_67
  have v342 : IVec S72x128 1 := cmpi .slt v89 v341
  have c128_i32_68 : BitVec 32 := 128#32
  have v343 : IVec S72x128 32 := broadcast S72x128 c128_i32_68
  have v344 : IVec S72x128 32 := addi v89 v343
  have v345 : IVec S72x128 32 := select v342 v344 v89
  have v346 : IVec S72x128x1 32 := shapeCast S72x128x1 v345 shapeCasts_S72x128_S72x128x1
  have v347 : IVec S72x128 32 := shapeCast S72x128 v346 shapeCasts_S72x128x1_S72x128
  have v348 : FVec F S72x128 .f32 := dynamicGather 1 v279 v347
  select v340 v348 v92

/-- The running maximum after two tiles. -/
def mStep (v90 : FVec F S72x128 .f32) (v338 : FVec F S72x128 .f32) (v412 : FVec F S72x128 .f32) : FVec F S72x128 .f32 :=
  have v424 : FVec F S72x128 .f32 := maximumf v338 v412
  maximumf v90 v424

/-- The running sum after two tiles. -/
def lStep (v91 : FVec F S72x128 .f32) (v90 : FVec F S72x128 .f32) (v425 : FVec F S72x128 .f32) (v338 : FVec F S72x128 .f32) (v412 : FVec F S72x128 .f32) : FVec F S72x128 .f32 :=
  have v426 : FVec F S72x128 .f32 := subf v90 v425
  have v427 : FVec F S72x128 .f32 := exp v426
  have v428 : FVec F S72x128 .f32 := mulf v91 v427
  have v429 : FVec F S72x128 .f32 := subf v338 v425
  have v430 : FVec F S72x128 .f32 := exp v429
  have v431 : FVec F S72x128 .f32 := addf v428 v430
  have v432 : FVec F S72x128 .f32 := subf v412 v425
  have v433 : FVec F S72x128 .f32 := exp v432
  addf v431 v433

/-- The logarithm of the sum of exponentials of each row, from the lanes. -/
def rowLse (v6239 : FVec F S72x128 .f32) (v6248 : FVec F S72x128 .f32) : FVec F S72x1 .f32 :=
  have v6261 : FVec F S72 .f32 := multiReduction .maximumf [1] S72 v6239 0xFF800000#32 reduces_S72x128_S72 (.inl rfl) rfl
  have v6262 : FVec F S72x1 .f32 := shapeCast S72x1 v6261 shapeCasts_S72_S72x1
  have v6263 : FVec F S72x128 .f32 := broadcastTo S72x128 v6262 broadcasts_S72x1_S72x128
  have v6264 : FVec F S72x128 .f32 := subf v6239 v6263
  have v6265 : FVec F S72x128 .f32 := exp v6264
  have v6266 : FVec F S72x128 .f32 := mulf v6248 v6265
  have v6267 : FVec F S72 .f32 := multiReduction .add [1] S72 v6266 0x00000000#32 reduces_S72x128_S72 (.inl rfl) rfl
  have v6268 : FVec F S72x1 .f32 := shapeCast S72x1 v6267 shapeCasts_S72_S72x1
  have v6269 : FVec F S72x1 .f32 := log v6268
  addf v6262 v6269

/-- The mask word a candidate's bit lies in. -/
def wordNo (v6271 : IVec S72x128 32) : IVec S72x128 32 :=
  have v6272 : IVec S72x128 32 := shapeCast S72x128 v6271 shapeCasts_S72x128_S72x128
  have c5_i32 : BitVec 32 := 5#32
  have v6273 : IVec S72x128 32 := broadcast S72x128 c5_i32
  shrsi v6272 v6273

/-- The candidates' mask words after a chunk of 128 words: replaced where the word lies in the chunk. -/
def wordStep (v6274 : IVec S72x128 32) (v6276 : IVec S72x128 32) (k : BitVec 32) (v6275 : IVec S72x128 32) : IVec S72x128 32 :=
  have c0_i32_1264 : BitVec 32 := 0#32
  have v6304 : IVec S72x128 32 := broadcast S72x128 c0_i32_1264
  have v6305 : IVec S72x128 1 := cmpi .sgt v6274 v6304
  have v6306 : IVec S72x128 32 := extui 32 v6305 natLt_1_32
  have c0_i32_1265 : BitVec 32 := 0#32
  have v6307 : IVec S72x128 32 := broadcast S72x128 c0_i32_1265
  have v6308 : IVec S72x128 1 := cmpi .slt v6274 v6307
  have v6309 : IVec S72x128 32 := extui 32 v6308 natLt_1_32
  have v6310 : IVec S72x128 32 := subi v6306 v6309
  have c128_i32_1263 : BitVec 32 := 128#32
  have c0_i32_1266 : BitVec 32 := 0#32
  have v6311 : BitVec 1 := Scalar.cmpi .sgt c128_i32_1263 c0_i32_1266
  have v6312 : BitVec 32 := Scalar.extui v6311
  have c0_i32_1267 : BitVec 32 := 0#32
  have v6313 : BitVec 1 := Scalar.cmpi .slt c128_i32_1263 c0_i32_1267
  have v6314 : BitVec 32 := Scalar.extui v6313
  have v6315 : BitVec 32 := Scalar.subi v6312 v6314
  have v6316 : IVec S72x128 32 := broadcast S72x128 v6315
  have v6317 : IVec S72x128 1 := cmpi .ne v6310 v6316
  have v6318 : IVec S72x128 32 := broadcast S72x128 c128_i32_1263
  have v6319 : IVec S72x128 32 := remsi v6274 v6318
  have c0_i32_1268 : BitVec 32 := 0#32
  have v6320 : IVec S72x128 32 := broadcast S72x128 c0_i32_1268
  have v6321 : IVec S72x128 1 := cmpi .ne v6319 v6320
  have v6322 : IVec S72x128 1 := andi v6317 v6321
  have v6302 : IVec S72x128 32 := broadcast S72x128 c128_i32_1263
  have v6303 : IVec S72x128 32 := divsi v6274 v6302
  have c1_i32_1269 : BitVec 32 := 1#32
  have v6323 : IVec S72x128 32 := broadcast S72x128 c1_i32_1269
  have v6324 : IVec S72x128 32 := subi v6303 v6323
  have v6325 : IVec S72x128 32 := select v6322 v6324 v6303
  have v6326 : IVec S72x128 32 := broadcast S72x128 k
  have v6327 : IVec S72x128 1 := cmpi .eq v6325 v6326
  have v6277 : IVec S72x128 32 := shapeCast S72x128 v6276 shapeCasts_S72x128_S72x128
  have c128_i32_1255 : BitVec 32 := 128#32
  have c0_i32_1256 : BitVec 32 := 0#32
  have v6278 : BitVec 1 := Scalar.cmpi .eq c128_i32_1255 c0_i32_1256
  have c1_i32_1257 : BitVec 32 := 1#32
  have v6279 : BitVec 32 := Scalar.select v6278 c1_i32_1257 c128_i32_1255
  have v6280 : IVec S72x128 32 := broadcast S72x128 v6279
  have v6281 : IVec S72x128 32 := remsi v6274 v6280
  have c0_i32_1259 : BitVec 32 := 0#32
  have v6284 : IVec S72x128 32 := broadcast S72x128 c0_i32_1259
  have v6285 : IVec S72x128 1 := cmpi .slt v6281 v6284
  have c0_i32_1260 : BitVec 32 := 0#32
  have v6286 : BitVec 1 := Scalar.cmpi .slt v6279 c0_i32_1260
  have v6287 : IVec S72x128 1 := broadcast S72x128 v6286
  have v6288 : IVec S72x128 1 := broadcastTo S72x128 v6287 broadcasts_S72x128_S72x128
  have v6289 : IVec S72x128 1 := xori v6285 v6288
  have c0_i32_1258 : BitVec 32 := 0#32
  have v6282 : IVec S72x128 32 := broadcast S72x128 c0_i32_1258
  have v6283 : IVec S72x128 1 := cmpi .ne v6281 v6282
  have v6290 : IVec S72x128 1 := andi v6289 v6283
  have v6291 : IVec S72x128 32 := broadcast S72x128 v6279
  have v6292 : IVec S72x128 32 := addi v6281 v6291
  have v6293 : IVec S72x128 32 := select v6290 v6292 v6281
  have c0_i32_1261 : BitVec 32 := 0#32
  have v6294 : IVec S72x128 32 := broadcast S72x128 c0_i32_1261
  have v6295 : IVec S72x128 1 := cmpi .slt v6293 v6294
  have c128_i32_1262 : BitVec 32 := 128#32
  have v6296 : IVec S72x128 32 := broadcast S72x128 c128_i32_1262
  have v6297 : IVec S72x128 32 := addi v6293 v6296
  have v6298 : IVec S72x128 32 := select v6295 v6297 v6293
  have v6299 : IVec S72x128x1 32 := shapeCast S72x128x1 v6298 shapeCasts_S72x128_S72x128x1
  have v6300 : IVec S72x128 32 := shapeCast S72x128 v6299 shapeCasts_S72x128x1_S72x128
  have v6301 : IVec S72x128 32 := dynamicGather 1 v6277 v6300
  select v6327 v6301 v6275

/-- The candidates' log-probabilities: zero where the candidate is not allowed. -/
def candOut (v6270 : FVec F S72x1 .f32) (v6237 : FVec F S72x128 .f32) (v8290 : IVec S72x128 32) (v8289 : IVec S72x128 32) : FVec F S72x128 .f32 :=
  have v8291 : IVec S72x128 32 := shapeCast S72x128 v8290 shapeCasts_S72x128_S72x128
  have c32_i32_1920 : BitVec 32 := 32#32
  have c0_i32_1921 : BitVec 32 := 0#32
  have v8292 : BitVec 1 := Scalar.cmpi .eq c32_i32_1920 c0_i32_1921
  have c1_i32_1922 : BitVec 32 := 1#32
  have v8293 : BitVec 32 := Scalar.select v8292 c1_i32_1922 c32_i32_1920
  have v8294 : IVec S72x128 32 := broadcast S72x128 v8293
  have v8295 : IVec S72x128 32 := remsi v8291 v8294
  have c0_i32_1924 : BitVec 32 := 0#32
  have v8298 : IVec S72x128 32 := broadcast S72x128 c0_i32_1924
  have v8299 : IVec S72x128 1 := cmpi .slt v8295 v8298
  have c0_i32_1925 : BitVec 32 := 0#32
  have v8300 : BitVec 1 := Scalar.cmpi .slt v8293 c0_i32_1925
  have v8301 : IVec S72x128 1 := broadcast S72x128 v8300
  have v8302 : IVec S72x128 1 := broadcastTo S72x128 v8301 broadcasts_S72x128_S72x128
  have v8303 : IVec S72x128 1 := xori v8299 v8302
  have c0_i32_1923 : BitVec 32 := 0#32
  have v8296 : IVec S72x128 32 := broadcast S72x128 c0_i32_1923
  have v8297 : IVec S72x128 1 := cmpi .ne v8295 v8296
  have v8304 : IVec S72x128 1 := andi v8303 v8297
  have v8305 : IVec S72x128 32 := broadcast S72x128 v8293
  have v8306 : IVec S72x128 32 := addi v8295 v8305
  have v8307 : IVec S72x128 32 := select v8304 v8306 v8295
  have v8308 : IVec S72x128 32 := shrsi v8289 v8307
  have c1_i32_1926 : BitVec 32 := 1#32
  have v8309 : IVec S72x128 32 := broadcast S72x128 c1_i32_1926
  have v8310 : IVec S72x128 32 := andi v8308 v8309
  have c1_i32_1927 : BitVec 32 := 1#32
  have v8311 : IVec S72x128 32 := broadcast S72x128 c1_i32_1927
  have v8312 : IVec S72x128 1 := cmpi .eq v8310 v8311
  have v8313 : FVec F S72x128 .f32 := broadcastTo S72x128 v6270 broadcasts_S72x1_S72x128
  have v8314 : FVec F S72x128 .f32 := subf v6237 v8313
  have cst_1928 : F .f32 := Scalar.ofBits .f32 0x00000000#32
  have v8315 : FVec F S72x128 .f32 := broadcast S72x128 cst_1928
  select v8312 v8314 v8315

/-- The left and the right tile of 256 columns. -/
def tileL (z : FVec F S72x256 .f32) : FVec F S72x128 .f32 := extractStridedSlice S72x128 ![0, 0] z slices_S72x256_o0_0_S72x128
def tileR (z : FVec F S72x256 .f32) : FVec F S72x128 .f32 := extractStridedSlice S72x128 ![0, 128] z slices_S72x256_o0_128_S72x128

/-- The values a grid point loads: the activations, and for each of its 18 runs of 256 columns the weights, the scales and the mask
    words of the two tiles; the candidates. -/
structure Loads (F : FTy → Type) where
  x : Vec F S72x1536 .bf16
  w : ℕ → Vec F S768x256 .i8
  s : ℕ → Vec F S24x256 .f32
  b : ℕ → ℕ → IVec S72x128 32
  d : IVec S72x128 32

namespace Loads

variable (i : grid0.Coords) (D : Loads F)

/-- The logits of the `k`-th run of 256 columns. -/
def z (k : ℕ) : FVec F S72x256 .f32 := subLogits D.x (D.w k) (D.s k)
/-- The number of tile `t` of run `k`. -/
def no (k t : ℕ) : BitVec 32 := tileNo i (BitVec.ofNat 32 (2 * k)) (BitVec.ofNat 32 t)
/-- Which tokens of tile `t` of run `k` are allowed. -/
def ok (k t : ℕ) : IVec S72x128 1 := allowed (no i k t) (D.b k t)
/-- The two tiles of run `k`, minus infinity where the token is not allowed. -/
def mL (k : ℕ) : FVec F S72x128 .f32 := maskTile (D.ok i k 0) (tileL (D.z k))
def mR (k : ℕ) : FVec F S72x128 .f32 := maskTile (D.ok i k 1) (tileR (D.z k))
/-- The two tiles of run `k` as stored. -/
def oL (k : ℕ) : FVec F S72x1x128 .f32 := outTile (D.ok i k 0) (tileL (D.z k))
def oR (k : ℕ) : FVec F S72x1x128 .f32 := outTile (D.ok i k 1) (tileR (D.z k))

/-- The running maximum, the running sum and the candidates' logits before run `k`. -/
def m (m₀ : FVec F S72x128 .f32) : ℕ → FVec F S72x128 .f32
  | 0 => m₀
  | k + 1 => mStep (m m₀ k) (D.mL i k) (D.mR i k)
def l (m₀ l₀ : FVec F S72x128 .f32) : ℕ → FVec F S72x128 .f32
  | 0 => l₀
  | k + 1 => lStep (l m₀ l₀ k) (D.m i m₀ k) (D.m i m₀ (k + 1)) (D.mL i k) (D.mR i k)
def c (c₀ : FVec F S72x128 .f32) : ℕ → FVec F S72x128 .f32
  | 0 => c₀
  | k + 1 => candStep (candTile D.d) (candLane D.d) (no i k 1) (tileR (D.z k)) (candStep (candTile D.d) (candLane D.d) (no i k 0) (tileL (D.z k)) (c c₀ k))

end Loads

/-- The candidates' mask words, looked up in the first `k` chunks of 128 words. -/
def candWord (d : IVec S72x128 32) (b : ℕ → IVec S72x128 32) : ℕ → IVec S72x128 32
  | 0 => broadcast S72x128 0#32
  | k + 1 => wordStep (wordNo d) (b k) (BitVec.ofNat 32 k) (candWord d b k)

end Cert.KernelIdeal.Hand
-- ==== Proof.Spec.lean ====
/-
  The mathematics both programs compute, free of how either arranges it.
-/
module

public import Idealize.ShloMosaic.PureOps.Ideal

@[expose] public section

noncomputable section

namespace Cert.Spec

/-- The four-bit code of weight row `p` in a byte that holds an even row in its low half and the next row in its high half. -/
def nib (p : ℕ) (x : BitVec 8) : BitVec 4 := if p % 2 = 0 then x.setWidth 4 else (x >>> 4).setWidth 4

/-- One logit: activations times dequantized weights, a scale to each 64 rows. -/
def dot (x : Fin 1536 → EReal) (w : Fin 768 → BitVec 8) (s : Fin 24 → EReal) : EReal :=
  ∑ h : Fin 1536, x h * ((((nib h.val (w ⟨h.val / 2, by omega⟩)).toInt : ℝ) : EReal) * s ⟨h.val / 64, by omega⟩)

/-- A token's bit in its mask word. -/
def bit (t : BitVec 32) (v : ℕ) : Bool := t.getLsbD (v % 32)

end Cert.Spec

end
-- ==== Proof.KernelIdealPoint.lean ====
/-
  The kernel's steps read at an index, over the extended reals.
-/
module

public import proofs.«01_k».proof.Proof.KernelIdealStep
public import proofs.«01_k».proof.Proof.Spec
public import Idealize.ShloMosaic.Lib.Pointwise
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ### Lanes and words -/

theorem laneBit_apply (y : S72x128.Idx) : laneBit laneIota y = 1#32 <<< ((y 1).val % 32) := by
  pointwise [laneBit, laneIota]
  have h : (y 1).val < 128 := (y 1).isLt
  generalize (y 1).val = j at h ⊢
  revert j
  decide

theorem laneWord_apply (y : S72x128.Idx) : laneWord laneIota y = BitVec.ofNat 32 ((y 1).val / 32) := by
  pointwise [laneWord, laneIota]
  have h : (y 1).val < 128 := (y 1).isLt
  generalize (y 1).val = j at h ⊢
  revert j
  decide

theorem tileNo_eq (i : grid0.Coords) (a b : ℕ) : tileNo i (BitVec.ofNat 32 a) (BitVec.ofNat 32 b) = BitVec.ofNat 32 (36 * (i 0).val + a + b) := by
  unfold tileNo
  show BitVec.ofNat 32 (i 0).val * 36#32 + BitVec.ofNat 32 a + BitVec.ofNat 32 b = _
  apply BitVec.eq_of_toNat_eq
  simp only [BitVec.toNat_add, BitVec.toNat_mul, BitVec.toNat_ofNat]
  omega

theorem rem32 (n : ℕ) (hn : n < 1188) : Scalar.remsi (BitVec.ofNat 32 n) 32#32 = BitVec.ofNat 32 (n % 32) := by
  revert n
  decide +kernel

theorem and_bit (x : BitVec 32) (k : ℕ) (hk : k < 32) : x &&& (1#32 <<< k) ≠ 0#32 ↔ x.getLsbD k = true := by
  constructor
  · intro h
    by_contra hx
    refine h (BitVec.eq_of_getLsbD_eq fun i hi => ?_)
    by_cases hik : i = k
    · subst hik; simp [hx]
    · simp only [BitVec.getLsbD_and, BitVec.getLsbD_shiftLeft, BitVec.getLsbD_one, BitVec.getLsbD_zero, Bool.and_eq_false_iff, decide_eq_false_iff_not, Bool.not_eq_false']
      right
      by_cases h2 : i < k
      · simp [h2]
      · right; have : i - k ≠ 0 := by omega
        simp [this]
  · intro h e
    have := congrArg (fun z => z.getLsbD k) e
    simp only [BitVec.getLsbD_and, h, BitVec.getLsbD_shiftLeft, hk, BitVec.getLsbD_zero] at this
    simp at this

theorem andi_eq_one (a b : BitVec 1) : IntOp.andi a b = 1#1 ↔ a = 1#1 ∧ b = 1#1 := by
  revert a b; decide

theorem cmpi_ne_one {w : ℕ} (x y : BitVec w) : IntOp.cmpi .ne x y = 1#1 ↔ x ≠ y := by
  by_cases h : x = y <;> simp [IntOp.cmpi, h, bne, beq_eq_false_iff_ne.2]

theorem cmpi_eq_one {w : ℕ} (x y : BitVec w) : IntOp.cmpi .eq x y = 1#1 ↔ x = y := by
  by_cases h : x = y <;> simp [IntOp.cmpi, h, bne, beq_eq_false_iff_ne.2]

theorem cmpi_slt_one {w : ℕ} (x y : BitVec w) : IntOp.cmpi .slt x y = 1#1 ↔ x.toInt < y.toInt := by
  by_cases h : x.toInt < y.toInt <;> simp [IntOp.cmpi, BitVec.slt, h]

theorem allowed_apply (n : ℕ) (hn : n < 1188) (B : IVec S72x128 32) (y : S72x128.Idx) :
    allowed (BitVec.ofNat 32 n) B y = 1#1 ↔
      (Spec.bit (B (ix2 (y 0) ⟨4 * (n % 32) + (y 1).val / 32, by have : (y 1).val < 128 := (y 1).isLt; omega⟩)) (y 1).val = true ∧ 128 * n + (y 1).val < 151936) := by
  have hj : (y 1).val < 128 := (y 1).isLt
  pointwise [allowed, laneBit_apply, laneWord_apply]
  rw [andi_eq_one, cmpi_ne_one, cmpi_slt_one]
  have hr := rem32 n hn
  have hs : Scalar.select (Scalar.cmpi .eq 32#32 0#32) 1#32 32#32 = 32#32 := by decide
  simp only [hs, hr]
  refine and_congr ?_ ?_
  · rw [Spec.bit, show ∀ a b : BitVec 32, IntOp.andi a b = a &&& b from fun _ _ => rfl, and_bit _ _ (by omega)]
    refine iff_of_eq (congrArg (fun z => BitVec.getLsbD (B (ix2 (y 0) z)) ((y 1).val % 32) = true) (Fin.ext ?_))
    have h1 : n % 32 < 32 := by omega
    have h2 : (y 1).val / 32 < 4 := by omega
    show _ % 128 = 4 * (n % 32) + (y 1).val / 32
    generalize n % 32 = r at h1
    generalize (y 1).val / 32 = q at h2
    clear hr hs hj
    revert q
    revert r
    decide +kernel
  · have e : IntOp.addi (Scalar.muli (BitVec.ofNat 32 n) 128#32) (laneIota y) = BitVec.ofNat 32 (128 * n + (y 1).val) := by
      pointwise [laneIota]
      apply BitVec.eq_of_toNat_eq
      show ((BitVec.ofNat 32 n * 128#32) + BitVec.ofNat 32 (y 1).val).toNat = _
      simp only [BitVec.toNat_add, BitVec.toNat_mul, BitVec.toNat_ofNat]
      omega
    rw [e]
    have : (BitVec.ofNat 32 (128 * n + (y 1).val)).toInt = ((128 * n + (y 1).val : ℕ) : ℤ) := by
      rw [BitVec.toInt_eq_toNat_of_lt] <;> rw [BitVec.toNat_ofNat] <;> omega
    rw [this, show (151936#32).toInt = 151936 by decide]
    omega

end Cert.KernelIdeal.Hand
-- ==== Proof.KernelIdealPt2.lean ====
/-
  The logits, the masked tiles and the candidates' values of a grid point, read at an index over the extended reals.
-/
module

public import proofs.«01_k».proof.Proof.KernelIdealPoint
public import Idealize.ShloMosaic.Lib.Routing.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ### Logits -/

theorem codes_apply (w : Vec Ideal S768x256 .i8) (h : Fin 1536) (j : Fin 256) :
    codes w (ix2 h j) = Spec.nib h.val (w (ix2 ⟨h.val / 2, by omega⟩ j)) := by
  pointwise [codes]
  have h1 : ∀ x : BitVec 8, BitVec.setWidth 4 (BitVec.setWidth 32 x) = x.setWidth 4 := by decide
  have h2 : ∀ x : BitVec 8, BitVec.setWidth 4 (IntOp.shrsi ArithUnit.vector (BitVec.setWidth 32 x) 4#32) = (x >>> 4).setWidth 4 := by decide
  unfold Spec.nib
  by_cases hh : h.val % 2 = 0
  · rw [if_pos hh, dif_pos (by omega)]; exact h1 _
  · rw [if_neg hh, dif_neg (by omega)]; exact h2 _

theorem groupW_apply (q : IVec S1536x256 4) (s : FVec Ideal S24x256 .f32) (g h : ℕ) (hs : S24x256.Slices ![g, 0] S1x256)
    (hq : S1536x256.Slices ![h, 0] S64x256) (hg : g < 24) (hh : h + 64 ≤ 1536) (r : Fin 64) (j : Fin 256) :
    groupW q s g h hs hq (ix2 r j) = (((q (ix2 ⟨h + r.val, by omega⟩ j)).toInt : ℝ) : EReal) * s (ix2 ⟨g, hg⟩ j) := by
  pointwise [groupW]
  rfl

theorem weights_apply (q : IVec S1536x256 4) (s : FVec Ideal S24x256 .f32) (h : Fin 1536) (j : Fin 256) :
    weights q s (ix2 h j) = (((q (ix2 h j)).toInt : ℝ) : EReal) * s (ix2 ⟨h.val / 64, by omega⟩ j) := by
  have e := concatenate_ofFn_apply (t := S1536x256) (s₁ := S64x256) 0 (fun g : Fin 24 => (groupW q s g.val (64 * g.val) (slicesS g) (slicesQ g) : S64x256.Idx → Ideal .bf16))
    concatenates_S64x256_S64x256_S64x256_S64x256_S64x256_S64x256_S64x256_S64x256_S64x256_S64x256_S64x256_S64x256_S64x256_S64x256_S64x256_S64x256_S64x256_S64x256_S64x256_S64x256_S64x256_S64x256_S64x256_S64x256_S1536x256_d0
    rfl 64 rfl (ix2 h j) ⟨h.val / 64, by omega⟩ rfl (ix2 ⟨h.val % 64, by omega⟩ j) rfl
    (by intro b hb; match b with
        | ⟨0, _⟩ => exact absurd rfl hb
        | ⟨1, _⟩ => rfl)
  refine e.trans ?_
  rw [groupW_apply (hg := by omega) (hh := by dsimp only; omega)]
  refine congrArg (fun z => ((((q (ix2 z j)).toInt : ℝ) : EReal) * s (ix2 ⟨h.val / 64, _⟩ j))) (Fin.ext ?_)
  show 64 * (h.val / 64) + h.val % 64 = h.val
  omega

theorem subLogits_apply (x : Vec Ideal S72x1536 .bf16) (w : Vec Ideal S768x256 .i8) (s : Vec Ideal S24x256 .f32) (b : Fin 72) (j : Fin 256) :
    subLogits x w s (ix2 b j) = Spec.dot (fun h => x (ix2 b h)) (fun p => w (ix2 p j)) (fun g => s (ix2 g j)) := by
  rw [subLogits, shapeCast_self, ix2_eq_valueIdx]
  refine (Ideal.matmul_plain_apply (M := 72) (K := 1536) (N := 256) (φ₁ := .bf16) (φ₂ := .bf16) none x (weights (codes w) s) _ b j).trans ?_
  have h0 : (constant S72x256 .f32 0x00000000#32 : FVec Ideal S72x256 .f32) (ValueIdx.ix2 b j) = 0 := by
    rw [← ix2_eq_valueIdx]; pointwise
  rw [h0, zero_add, Spec.dot]
  refine Finset.sum_congr rfl fun h _ => ?_
  rw [← ix2_eq_valueIdx, ← ix2_eq_valueIdx, weights_apply, codes_apply]

/-! ### Tiles -/

theorem select_one {α : Type} (c : BitVec 1) (a b : α) : Scalar.select c a b = if c = 1#1 then a else b := rfl

theorem outTile_apply (ok : IVec S72x128 1) (z : FVec Ideal S72x128 .f32) (b : Fin 72) (j : Fin 128) :
    outTile ok z (ix3 b 0 j) = if ok (ix2 b j) = 1#1 then z (ix2 b j) else 0 := by
  pointwise [outTile]
  rfl

theorem negInf : Ideal.ofBits .f32 4286578688#32 = ⊥ := by simp [Ideal.ofBits, Ideal.ieee]

theorem maskTile_apply (ok : IVec S72x128 1) (z : FVec Ideal S72x128 .f32) (y : S72x128.Idx) :
    maskTile ok z y = if ok y = 1#1 then z y else ⊥ := by
  pointwise [maskTile]
  rw [negInf]; rfl

theorem tileL_apply (z : FVec Ideal S72x256 .f32) (b : Fin 72) (j : Fin 128) : tileL z (ix2 b j) = z (ix2 b ⟨j.val, by omega⟩) := by
  pointwise [tileL]

theorem tileR_apply (z : FVec Ideal S72x256 .f32) (b : Fin 72) (j : Fin 128) : tileR z (ix2 b j) = z (ix2 b ⟨128 + j.val, by omega⟩) := by
  pointwise [tileR]

/-! ### Candidates -/

theorem slt0 {a : ℕ} (ha : a < 2 ^ 31) : IntOp.cmpi .slt (BitVec.ofNat 32 a) 0#32 = 0#1 := by
  have : ¬ IntOp.cmpi .slt (BitVec.ofNat 32 a) 0#32 = 1#1 := by
    rw [cmpi_slt_one, BitVec.toInt_eq_toNat_of_lt (by rw [BitVec.toNat_ofNat]; omega)]
    rw [show (0#32 : BitVec 32).toInt = 0 by decide]; omega
  revert this; generalize IntOp.cmpi .slt (BitVec.ofNat 32 a) 0#32 = x; revert x; decide

theorem sgt0 {a : ℕ} (ha : a < 2 ^ 31) (h0 : 0 < a) : IntOp.cmpi .sgt (BitVec.ofNat 32 a) 0#32 = 1#1 := by
  show IntOp.cmpi .slt 0#32 (BitVec.ofNat 32 a) = 1#1
  rw [cmpi_slt_one, BitVec.toInt_eq_toNat_of_lt (x := BitVec.ofNat 32 a) (by rw [BitVec.toNat_ofNat]; omega)]
  rw [BitVec.toNat_ofNat, Nat.mod_eq_of_lt (by omega)]; simpa using h0

/-- Floor division as the kernel spells it, of a nonnegative number. -/
theorem floorDiv {a k : ℕ} (ha : a < 2 ^ 31) (h0 : 0 < k) (hk : k < 2 ^ 31) (one : BitVec 32) (h1 : one = 1#32) :
    Scalar.select
      (IntOp.andi
        (IntOp.cmpi .ne
          (IntOp.subi (BitVec.setWidth 32 (IntOp.cmpi .sgt (BitVec.ofNat 32 a) 0#32))
            (BitVec.setWidth 32 (IntOp.cmpi .slt (BitVec.ofNat 32 a) 0#32)))
          one)
        (IntOp.cmpi .ne (IntOp.remsi ArithUnit.vector (BitVec.ofNat 32 a) (BitVec.ofNat 32 k)) 0#32))
      (IntOp.subi (IntOp.divsi ArithUnit.vector (BitVec.ofNat 32 a) (BitVec.ofNat 32 k)) 1#32)
      (IntOp.divsi ArithUnit.vector (BitVec.ofNat 32 a) (BitVec.ofNat 32 k)) = BitVec.ofNat 32 (a / k) := by
  rw [Routing.divsi_word _ ha h0 hk, Routing.remsi_word _ ha h0 hk, slt0 ha, h1]
  rcases Nat.eq_zero_or_pos a with rfl | h
  · rw [Nat.zero_mod, Nat.zero_div]; decide
  · rw [sgt0 ha h, show IntOp.cmpi .ne (IntOp.subi (BitVec.setWidth 32 1#1) (BitVec.setWidth 32 0#1)) 1#32 = 0#1 by decide,
      show ∀ x : BitVec 1, IntOp.andi 0#1 x = 0#1 by decide]
    rfl

/-- The remainder as the kernel spells it, of a nonnegative number. -/
theorem floorMod {a k : ℕ} (ha : a < 2 ^ 31) (h0 : 0 < k) (hk : k < 2 ^ 31) (K : BitVec 32) (hK : K = BitVec.ofNat 32 k) (neg : BitVec 1) (hn : neg = 0#1) :
    Scalar.select
      (IntOp.andi
        (IntOp.xori (IntOp.cmpi .slt (IntOp.remsi ArithUnit.vector (BitVec.ofNat 32 a) K) 0#32) neg)
        (IntOp.cmpi .ne (IntOp.remsi ArithUnit.vector (BitVec.ofNat 32 a) K) 0#32))
      (IntOp.addi (IntOp.remsi ArithUnit.vector (BitVec.ofNat 32 a) K) K)
      (IntOp.remsi ArithUnit.vector (BitVec.ofNat 32 a) K) = BitVec.ofNat 32 (a % k) := by
  have := Nat.mod_lt a h0
  rw [hK, Routing.remsi_word _ ha h0 hk, slt0 (by omega), hn, show IntOp.xori 0#1 0#1 = 0#1 by decide,
    show ∀ x : BitVec 1, IntOp.andi 0#1 x = 0#1 by decide]
  rfl

theorem candTile_apply (d : IVec S72x128 32) (y : S72x128.Idx) (a : ℕ) (ha : a < 2 ^ 31) (hd : d y = BitVec.ofNat 32 a) :
    candTile d y = BitVec.ofNat 32 (a / 128) := by
  pointwise [candTile]
  rw [hd]
  exact floorDiv ha (k := 128) (by decide) (by decide) _ (by decide)

theorem candLane_apply (d : IVec S72x128 32) (y : S72x128.Idx) (a : ℕ) (ha : a < 2 ^ 31) (hd : d y = BitVec.ofNat 32 a) :
    candLane d y = BitVec.ofNat 32 (a % 128) := by
  pointwise [candLane]
  rw [hd]
  exact floorMod ha (k := 128) (by decide) (by decide) _ (by decide) _ (by decide)

theorem candStep_apply (T L : IVec S72x128 32) (n : BitVec 32) (z c : FVec Ideal S72x128 .f32) (y : S72x128.Idx) (r : Fin 128)
    (hL : L y = BitVec.ofNat 32 r.val) :
    candStep T L n z c y = if T y = n then z (ix2 (y 0) r) else c y := by
  pointwise [candStep]
  have e : (⟨(Scalar.select (IntOp.cmpi .slt (L y) 0#32) (IntOp.addi (L y) 128#32) (L y)).toNat % 128, Nat.mod_lt _ (by decide)⟩ : Fin 128) = r := by
    refine Fin.ext ?_
    have hr := r.isLt
    rw [hL, slt0 (by omega)]
    show (BitVec.ofNat 32 r.val).toNat % 128 = _
    rw [BitVec.toNat_ofNat]; omega
  rw [select_one, e]
  simp only [cmpi_eq_one]

theorem wordNo_apply (d : IVec S72x128 32) (y : S72x128.Idx) (a : ℕ) (ha : a < 2 ^ 31) (hd : d y = BitVec.ofNat 32 a) :
    wordNo d y = BitVec.ofNat 32 (a / 32) := by
  pointwise [wordNo]
  rw [hd, IntOp.shrsi, if_pos (by decide)]
  apply BitVec.eq_of_toInt_eq
  rw [BitVec.toInt_sshiftRight', BitVec.toInt_eq_toNat_of_lt (by rw [BitVec.toNat_ofNat]; omega), BitVec.toInt_eq_toNat_of_lt (by rw [BitVec.toNat_ofNat]; omega),
    BitVec.toNat_ofNat, BitVec.toNat_ofNat, Int.shiftRight_eq_div_pow]
  rw [Nat.mod_eq_of_lt (by omega), Nat.mod_eq_of_lt (by omega)]
  simp only [BitVec.toNat_ofNat]
  show ((a : ℕ) : ℤ) / 32 = _
  omega

theorem wordStep_apply (W X : IVec S72x128 32) (k : BitVec 32) (v : IVec S72x128 32) (y : S72x128.Idx) (a : ℕ) (ha : a < 2 ^ 31)
    (hd : W y = BitVec.ofNat 32 a) :
    wordStep W X k v y = if BitVec.ofNat 32 (a / 128) = k then X (ix2 (y 0) ⟨a % 128, Nat.mod_lt _ (by decide)⟩) else v y := by
  pointwise [wordStep]
  have e1 := floorDiv ha (k := 128) (by decide) (by decide) 1#32 rfl
  have e2 := floorMod ha (k := 128) (by decide) (by decide) 128#32 rfl 0#1 rfl
  have hs : Scalar.select (Scalar.cmpi .eq 128#32 0#32) 1#32 128#32 = 128#32 := by decide
  have hs' : Scalar.cmpi .slt 128#32 0#32 = 0#1 := by decide
  have hs2 : Scalar.subi (Scalar.extui (Scalar.cmpi .sgt 128#32 0#32)) (Scalar.extui (Scalar.cmpi .slt 128#32 0#32)) = 1#32 := by decide
  simp only [hs2]
  simp only [hs, hs', hd, e1, e2]
  have := Nat.mod_lt a (show 0 < 128 by decide)
  simp only [slt0 (show a % 128 < 2 ^ 31 by omega), select_one, cmpi_eq_one]
  refine if_congr Iff.rfl (congrArg (fun z => X (ix2 (y 0) z)) (Fin.ext ?_)) rfl
  show (BitVec.ofNat 32 (a % 128)).toNat % 128 = a % 128
  rw [BitVec.toNat_ofNat]; omega

theorem bit_of_shift (x : BitVec 32) (k : ℕ) (hk : k < 32) : IntOp.andi (IntOp.shrsi ArithUnit.vector x (BitVec.ofNat 32 k)) 1#32 = 1#32 ↔ x.getLsbD k = true := by
  have hk' : (BitVec.ofNat 32 k).toNat = k := by rw [BitVec.toNat_ofNat]; omega
  rw [IntOp.shrsi, if_pos (by omega)]
  show x.sshiftRight (BitVec.ofNat 32 k).toNat &&& 1#32 = 1#32 ↔ _
  rw [hk', show x.getLsbD k = (x.sshiftRight k).getLsbD 0 by
    rw [BitVec.getLsbD_sshiftRight]; simp [hk]]
  have := and_bit (x.sshiftRight k) 0 (by decide)
  rw [show (1#32 <<< 0) = 1#32 by decide] at this
  rw [← this]
  constructor
  · intro h; rw [h]; decide
  · intro h
    apply BitVec.eq_of_getLsbD_eq
    intro i hi
    rcases Nat.eq_zero_or_pos i with rfl | h0
    · have := this.1 h
      rw [BitVec.getLsbD_and, this]; rfl
    · rw [BitVec.getLsbD_and, show (1#32).getLsbD i = false by simp [BitVec.getLsbD_one]; omega]; simp

theorem candOut_apply (L : FVec Ideal S72x1 .f32) (c : FVec Ideal S72x128 .f32) (d W : IVec S72x128 32) (y : S72x128.Idx) (a : ℕ) (ha : a < 2 ^ 31)
    (hd : d y = BitVec.ofNat 32 a) :
    candOut L c d W y = if Spec.bit (W y) a = true then c y - L (ix2 (y 0) 0) else 0 := by
  pointwise [candOut]
  rw [hd]
  have e2 := floorMod ha (k := 32) (by decide) (by decide) 32#32 rfl 0#1 rfl
  have hs : Scalar.select (Scalar.cmpi .eq 32#32 0#32) 1#32 32#32 = 32#32 := by decide
  have hs' : Scalar.cmpi .slt 32#32 0#32 = 0#1 := by decide
  simp only [hs, hs', e2]
  rw [select_one]
  simp only [cmpi_eq_one, bit_of_shift _ _ (Nat.mod_lt a (show 0 < 32 by decide)), Spec.bit]
  rfl

end Cert.KernelIdeal.Hand
-- ==== Proof.KernelIdealFound.lean ====
/-
  What the runs of the kernel's body found, as the functions of the values loaded: the same terms, spelled once.
-/
module

public import proofs.«01_k».proof.Proof.KernelIdealRunA
public import proofs.«01_k».proof.Proof.KernelIdealRunB
public import proofs.«01_k».proof.Proof.KernelIdealRunC
public import proofs.«01_k».proof.Proof.KernelIdealStep
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

/-- What a grid point loads, from the contents of the five input blocks. -/
def loads (i : grid0.Coords) (X1 : S72x1536.Idx → Elt F .bf16) (X2 : S768x4608.Idx → Elt F .i8) (X3 : S24x4608.Idx → Elt F .f32)
    (X4 : S72x4864.Idx → Elt F .i32) (X5 : S72x128.Idx → Elt F .i32) : Loads F where
  x := View.ld X1 (Rect.unit (s := S72x1536) ![0, 0] S72x1536.size inb_S72x1536_S72x1536_0_0)
  w k := View.ld X2 (Rect.unit (s := S768x4608) ![0, 256 * (k % 18)] S768x256.size (by
    have := Nat.mod_lt k (show 0 < 18 by decide)
    intro a; match a with
    | ⟨0, _⟩ => exact Nat.le_refl 768
    | ⟨1, _⟩ => show 256 * (k % 18) + 256 ≤ 4608; omega))
  s k := View.ld X3 (Rect.unit (s := S24x4608) ![0, 256 * (k % 18)] S24x256.size (by
    have := Nat.mod_lt k (show 0 < 18 by decide)
    intro a; match a with
    | ⟨0, _⟩ => exact Nat.le_refl 24
    | ⟨1, _⟩ => show 256 * (k % 18) + 256 ≤ 4608; omega))
  b k t := View.ld X4 (Rect.unit (s := S72x4864) (k0_off1 i (BitVec.ofNat 32 (2 * (k % 18))) (BitVec.ofNat 32 (t % 2))) S72x128.size
    (k0_off1_inb i ⟨k % 18, Nat.mod_lt _ (by decide)⟩ ⟨t % 2, Nat.mod_lt _ (by decide)⟩))
  d := View.ld X5 (Rect.unit (s := S72x128) ![0, 0] S72x128.size inb_S72x128_S72x128_0_0)

/-- The mask words in chunks of 128. -/
def chunk (X4 : S72x4864.Idx → Elt F .i32) (k : ℕ) : IVec S72x128 32 :=
  View.ld X4 (Rect.unit (s := S72x4864) ![0, 128 * (k % 38)] S72x128.size (by
    have := Nat.mod_lt k (show 0 < 38 by decide)
    intro a; match a with
    | ⟨0, _⟩ => exact Nat.le_refl 72
    | ⟨1, _⟩ => show 128 * (k % 38) + 128 ≤ 4864; omega))

/-- The stored tiles of the first `k` runs of 256 columns, newest first. -/
def tiles (i : grid0.Coords) (D : Loads F) : ℕ → List (View.Piece (Elt F) S72x1x4608 .f32)
  | 0 => []
  | k + 1 =>
    ⟨Rect.unit (s := S72x1x4608) ![0, 0, 256 * (k % 18) + 128] S72x1x128.size (by
      have := Nat.mod_lt k (show 0 < 18 by decide)
      intro a; match a with
      | ⟨0, _⟩ => exact Nat.le_refl 72
      | ⟨1, _⟩ => exact Nat.le_refl 1
      | ⟨2, _⟩ => show 256 * (k % 18) + 128 + 128 ≤ 4608; omega), D.oR i k⟩ ::
    ⟨Rect.unit (s := S72x1x4608) ![0, 0, 256 * (k % 18)] S72x1x128.size (by
      have := Nat.mod_lt k (show 0 < 18 by decide)
      intro a; match a with
      | ⟨0, _⟩ => exact Nat.le_refl 72
      | ⟨1, _⟩ => exact Nat.le_refl 1
      | ⟨2, _⟩ => show 256 * (k % 18) + 128 ≤ 4608; omega), D.oL i k⟩ :: tiles i D k

/-- A cast to the same shape. -/
abbrev recast (v : FVec F S72x128 .f32) : FVec F S72x128 .f32 := shapeCast S72x128 v shapeCasts_S72x128_S72x128

section
variable (c : Dev nD) (i : grid0.Coords)
    (M1 : Memref sig .tc .vmem S72x1536 .bf16) (M2 : Memref sig .tc .vmem S768x4608 .i8)
    (M3 : Memref sig .tc .vmem S24x4608 .f32) (M4 : Memref sig .tc .vmem S72x4864 .i32) (M5 : Memref sig .tc .vmem S72x128 .i32)
    (M9 M10 M11 : Memref sig .tc .vmem S72x128 .f32)
    (f1 : Bf (F := F) c M1) (f2 : Bf (F := F) c M2) (f3 : Bf (F := F) c M3) (f4 : Bf (F := F) c M4) (f5 : Bf (F := F) c M5) (f9 : Bf (F := F) c M9)
    (f10 : Bf (F := F) c M10) (f11 : Bf (F := F) c M11)

/-- What a grid point loads, from the raw contents. -/
def rawLoads : Loads F := loads i (M1.view.read (Elt F) f1) (M2.view.read (Elt F) f2) (M3.view.read (Elt F) f3) (M4.view.read (Elt F) f4) (M5.view.read (Elt F) f5)
/-- The rectangle that covers a scratch buffer. -/
abbrev wholeR : Rect S72x128 := Rect.unit (s := S72x128) ![0, 0] S72x128.size inb_S72x128_S72x128_0_0

theorem runB_H6 : runB.sl.H6_36 c i M1 M2 M3 M4 f1 f2 f3 f4 = tiles i (rawLoads c i M1 M2 M3 M4 M5 f1 f2 f3 f4 f5) 18 := by sl_kernel_rfl
theorem runB_H9 : runB.sl.H9_1 c i M1 M2 M3 M4 M9 f1 f2 f3 f4 f9 = [⟨wholeR, recast ((rawLoads c i M1 M2 M3 M4 M5 f1 f2 f3 f4 f5).m i (View.readAt (Elt F) M9.view wholeR.toLoadRect f9) 18)⟩] := by sl_kernel_rfl
theorem runB_H10 : runB.sl.H10_1 c i M1 M2 M3 M4 M9 M10 f1 f2 f3 f4 f9 f10 = [⟨wholeR, recast ((rawLoads c i M1 M2 M3 M4 M5 f1 f2 f3 f4 f5).l i (View.readAt (Elt F) M9.view wholeR.toLoadRect f9) (View.readAt (Elt F) M10.view wholeR.toLoadRect f10) 18)⟩] := by sl_kernel_rfl
theorem runB_H11 : runB.sl.H11_1 c i M1 M2 M3 M5 M11 f1 f2 f3 f5 f11 = [⟨wholeR, recast ((rawLoads c i M1 M2 M3 M4 M5 f1 f2 f3 f4 f5).c i (View.readAt (Elt F) M11.view wholeR.toLoadRect f11) 18)⟩] := by sl_kernel_rfl
theorem runC_H6 : runC.sl.H6_36 c i M1 M2 M3 M4 f1 f2 f3 f4 = tiles i (rawLoads c i M1 M2 M3 M4 M5 f1 f2 f3 f4 f5) 18 := by sl_kernel_rfl
theorem runC_H9 : runC.sl.H9_1 c i M1 M2 M3 M4 M9 f1 f2 f3 f4 f9 = [⟨wholeR, recast ((rawLoads c i M1 M2 M3 M4 M5 f1 f2 f3 f4 f5).m i (View.readAt (Elt F) M9.view wholeR.toLoadRect f9) 18)⟩] := by sl_kernel_rfl
theorem runC_H10 : runC.sl.H10_1 c i M1 M2 M3 M4 M9 M10 f1 f2 f3 f4 f9 f10 = [⟨wholeR, recast ((rawLoads c i M1 M2 M3 M4 M5 f1 f2 f3 f4 f5).l i (View.readAt (Elt F) M9.view wholeR.toLoadRect f9) (View.readAt (Elt F) M10.view wholeR.toLoadRect f10) 18)⟩] := by sl_kernel_rfl
theorem runC_H11 : runC.sl.H11_1 c i M1 M2 M3 M5 M11 f1 f2 f3 f5 f11 = [⟨wholeR, recast ((rawLoads c i M1 M2 M3 M4 M5 f1 f2 f3 f4 f5).c i (View.readAt (Elt F) M11.view wholeR.toLoadRect f11) 18)⟩] := by sl_kernel_rfl

theorem runC_H7 : runC.sl.H7_1 c i M1 M2 M3 M4 M9 M10 f1 f2 f3 f4 f9 f10 =
    [⟨wholeR, broadcastTo S72x128 (shapeCast S72x1 (rowLse ((rawLoads c i M1 M2 M3 M4 M5 f1 f2 f3 f4 f5).m i (View.readAt (Elt F) M9.view wholeR.toLoadRect f9) 18) ((rawLoads c i M1 M2 M3 M4 M5 f1 f2 f3 f4 f5).l i (View.readAt (Elt F) M9.view wholeR.toLoadRect f9) (View.readAt (Elt F) M10.view wholeR.toLoadRect f10) 18)) shapeCasts_S72x1_S72x1) broadcasts_S72x1_S72x128⟩] := by sl_kernel_rfl
theorem runC_H8 : runC.sl.H8_1 c i M1 M2 M3 M4 M5 M9 M10 M11 f1 f2 f3 f4 f5 f9 f10 f11 =
    [⟨wholeR, candOut (rowLse ((rawLoads c i M1 M2 M3 M4 M5 f1 f2 f3 f4 f5).m i (View.readAt (Elt F) M9.view wholeR.toLoadRect f9) 18) ((rawLoads c i M1 M2 M3 M4 M5 f1 f2 f3 f4 f5).l i (View.readAt (Elt F) M9.view wholeR.toLoadRect f9) (View.readAt (Elt F) M10.view wholeR.toLoadRect f10) 18)) ((rawLoads c i M1 M2 M3 M4 M5 f1 f2 f3 f4 f5).c i (View.readAt (Elt F) M11.view wholeR.toLoadRect f11) 18) (rawLoads c i M1 M2 M3 M4 M5 f1 f2 f3 f4 f5).d (candWord (rawLoads c i M1 M2 M3 M4 M5 f1 f2 f3 f4 f5).d (chunk (M4.view.read (Elt F) f4)) 38)⟩] := by sl_kernel_rfl

theorem runA_v90 : runA.sl.v90 (F := F) M9 = k0_pay175 := View.readCov_full _ _ _ _ _
theorem runA_v91 : runA.sl.v91 (F := F) M10 = k0_pay176 := View.readCov_full _ _ _ _ _
theorem runA_v92 : runA.sl.v92 (F := F) M11 = k0_pay177 := View.readCov_full _ _ _ _ _
theorem runA_H6 : runA.sl.H6_36 c i M1 M2 M3 M4 f1 f2 f3 f4 = tiles i (rawLoads c i M1 M2 M3 M4 M5 f1 f2 f3 f4 f5) 18 := by sl_kernel_rfl
theorem runA_H9 : runA.sl.H9_2 c i M1 M2 M3 M4 M9 f1 f2 f3 f4 = ⟨wholeR, recast ((rawLoads c i M1 M2 M3 M4 M5 f1 f2 f3 f4 f5).m i (runA.sl.v90 M9) 18)⟩ :: runA.sl.H9_1 := by sl_kernel_rfl
theorem runA_H10 : runA.sl.H10_2 c i M1 M2 M3 M4 M9 M10 f1 f2 f3 f4 = ⟨wholeR, recast ((rawLoads c i M1 M2 M3 M4 M5 f1 f2 f3 f4 f5).l i (runA.sl.v90 M9) (runA.sl.v91 M10) 18)⟩ :: runA.sl.H10_1 := by sl_kernel_rfl
theorem runA_H11 : runA.sl.H11_2 c i M1 M2 M3 M5 M11 f1 f2 f3 f5 = ⟨wholeR, recast ((rawLoads c i M1 M2 M3 M4 M5 f1 f2 f3 f4 f5).c i (runA.sl.v92 M11) 18)⟩ :: runA.sl.H11_1 := by sl_kernel_rfl

end

end Cert.KernelIdeal.Hand
-- ==== Proof.Lse.lean ====
/-
  The logarithm of a sum of exponentials over the extended reals, taken in one piece or with a running maximum.
-/
module

public import proofs.«01_k».proof.Proof.Spec

@[expose] public section

noncomputable section

namespace Cert.Spec

open Idealize.ShloMosaic

/-- `exp (p - m)` as a real, zero at minus infinity. -/
def rexp (p : EReal) (m : ℝ) : ℝ := if p = ⊥ then 0 else Real.exp (p.toReal - m)

theorem rexp_nonneg (p : EReal) (m : ℝ) : 0 ≤ rexp p m := by
  unfold rexp; split
  · exact le_rfl
  · exact (Real.exp_pos _).le

theorem exp_sub (p : EReal) (hp : p ≠ ⊤) (m : ℝ) : Ideal.exp (p - (m : EReal)) = ((rexp p m : ℝ) : EReal) := by
  induction p with
  | bot => rw [EReal.bot_sub, rexp, if_pos rfl]; rfl
  | top => exact absurd rfl hp
  | coe r =>
    rw [← EReal.coe_sub]
    rw [rexp, if_neg (EReal.coe_ne_bot r)]; rfl

theorem exp_eq (p : EReal) (hp : p ≠ ⊤) : Ideal.exp p = ((rexp p 0 : ℝ) : EReal) := by
  have := exp_sub p hp 0
  rwa [EReal.coe_zero, sub_zero] at this

theorem rexp_shift (p : EReal) (m m' : ℝ) : rexp p m * Real.exp (m - m') = rexp p m' := by
  unfold rexp
  split
  · simp
  · rw [← Real.exp_add]; congr 1; ring

theorem sum_coe {ι : Type} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- The logarithm of the sum of the exponentials. -/
def lse {ι : Type} (s : Finset ι) (p : ι → EReal) : EReal := Ideal.log (∑ i ∈ s, Ideal.exp (p i))

theorem lse_real {ι : Type} (s : Finset ι) (p : ι → EReal) (hp : ∀ i ∈ s, p i ≠ ⊤) :
    lse s p = Ideal.log ((∑ i ∈ s, rexp (p i) 0 : ℝ) : EReal) := by
  rw [lse, ← sum_coe]
  exact congrArg Ideal.log (Finset.sum_congr rfl fun i hi => exp_eq _ (hp i hi))

theorem log_coe (r : ℝ) : Ideal.log ((r : ℝ) : EReal) = if r ≤ 0 then ⊥ else ((Real.log r : ℝ) : EReal) := rfl

/-- Taking a real number out of the exponents. -/
theorem add_log_shift {ι : Type} (s : Finset ι) (p : ι → EReal) (hp : ∀ i ∈ s, p i ≠ ⊤) (m : ℝ) :
    (m : EReal) + Ideal.log ((∑ i ∈ s, rexp (p i) m : ℝ) : EReal) = lse s p := by
  rw [lse_real s p hp]
  have e : ∑ i ∈ s, rexp (p i) m = (∑ i ∈ s, rexp (p i) 0) * Real.exp (0 - m) := by
    rw [Finset.sum_mul]; exact Finset.sum_congr rfl fun i _ => (rexp_shift _ _ _).symm
  have h0 : 0 ≤ ∑ i ∈ s, rexp (p i) 0 := Finset.sum_nonneg fun i _ => rexp_nonneg _ _
  rw [e, log_coe, log_coe]
  have he := Real.exp_pos (0 - m)
  rcases h0.lt_or_eq with h | h
  · rw [if_neg (not_le.2 (mul_pos h he)), if_neg (not_le.2 h), Real.log_mul h.ne' he.ne', Real.log_exp, ← EReal.coe_add]
    congr 1; ring
  · rw [← h, zero_mul, if_pos le_rfl, EReal.add_bot]

/-- One lane's running maximum and running sum: some real number, and the sum of the exponentials less that number. -/
def LaneInv (s : Finset ℕ) (p : ℕ → EReal) (m l : EReal) : Prop :=
  ∃ mr lr : ℝ, m = mr ∧ l = lr ∧ lr = ∑ t ∈ s, rexp (p t) mr

theorem laneInv_init (p : ℕ → EReal) (m : ℝ) : LaneInv ∅ p m 0 := ⟨m, 0, rfl, rfl, by simp⟩

theorem max_real (m : ℝ) (p : EReal) (hp : p ≠ ⊤) : ∃ r : ℝ, max (m : EReal) p = r := by
  induction p with
  | bot => exact ⟨m, by simp⟩
  | top => exact absurd rfl hp
  | coe r => exact ⟨max m r, by rw [EReal.coe_strictMono.monotone.map_max]⟩

theorem laneInv_step (n : ℕ) (p : ℕ → EReal) (m l : EReal) (h : LaneInv (Finset.range n) p m l) (h0 : p n ≠ ⊤) (h1 : p (n + 1) ≠ ⊤) :
    LaneInv (Finset.range (n + 2)) p (max m (max (p n) (p (n + 1))))
      (l * Ideal.exp (m - max m (max (p n) (p (n + 1)))) + Ideal.exp (p n - max m (max (p n) (p (n + 1))))
        + Ideal.exp (p (n + 1) - max m (max (p n) (p (n + 1))))) := by
  obtain ⟨mr, lr, rfl, rfl, hl⟩ := h
  obtain ⟨r, hr⟩ := max_real mr (max (p n) (p (n + 1))) (by
    rcases max_choice (p n) (p (n + 1)) with h | h <;> rw [h] <;> assumption)
  rw [hr]
  refine ⟨r, _, rfl, ?_, rfl⟩
  rw [exp_sub _ h0, exp_sub _ h1, exp_sub _ (EReal.coe_ne_top mr), Finset.sum_range_succ, Finset.sum_range_succ, EReal.coe_add, EReal.coe_add, ← EReal.coe_mul]
  congr 3
  rw [hl, Finset.sum_mul]
  refine Finset.sum_congr rfl fun t _ => ?_
  rw [← rexp_shift (p t) mr r]
  simp [rexp]

/-- The lanes put together. -/
theorem lanes_lse {n N : ℕ} (hn : 0 < n) (p : Fin n → ℕ → EReal) (hp : ∀ j t, p j t ≠ ⊤) (m l : Fin n → EReal)
    (h : ∀ j, LaneInv (Finset.range N) (p j) (m j) (l j)) :
    Finset.univ.fold max ⊥ m + Ideal.log (∑ j, l j * Ideal.exp (m j - Finset.univ.fold max ⊥ m))
      = lse (Finset.univ ×ˢ Finset.range N) (fun x : Fin n × ℕ => p x.1 x.2) := by
  choose mr lr hm hl hs using h
  obtain ⟨M, hM⟩ : ∃ M : ℝ, Finset.univ.fold max ⊥ m = (M : EReal) := by
    obtain ⟨j, hj⟩ : ∃ j, Finset.univ.fold max ⊥ m = m j := by
      have hne : (Finset.univ : Finset (Fin n)).Nonempty := ⟨⟨0, hn⟩, Finset.mem_univ _⟩
      obtain ⟨j, _, hj⟩ := Finset.exists_mem_eq_sup _ hne m
      exact ⟨j, hj⟩
    exact ⟨mr j, by rw [hj, hm j]⟩
  rw [hM, ← add_log_shift _ _ (fun x _ => hp _ _) M, Finset.sum_product, ← sum_coe]
  congr 2
  refine Finset.sum_congr rfl fun j _ => ?_
  rw [hm j, hl j, hs j, exp_sub _ (EReal.coe_ne_top _), ← EReal.coe_mul, Finset.sum_mul]
  congr 1
  refine Finset.sum_congr rfl fun t _ => ?_
  rw [← rexp_shift (p j t) (mr j) M]
  simp [rexp]

/-- A row of tiles of 128 is a row of numbers. -/
theorem lse_tiles (N : ℕ) (P : ℕ → EReal) :
    lse (Finset.univ ×ˢ Finset.range N) (fun x : Fin 128 × ℕ => P (128 * x.2 + x.1.val)) = lse (Finset.range (128 * N)) P := by
  unfold lse
  congr 1
  rw [Finset.sum_product_right]
  induction N with
  | zero => simp
  | succ N ih =>
    rw [Finset.sum_range_succ, ih, Nat.mul_succ, Finset.sum_range_add _ (128 * N) 128]
    exact congrArg _ (Finset.sum_range fun x => Ideal.exp (P (128 * N + x))).symm
/-- Numbers past the end do not count. -/
theorem lse_cut (n N : ℕ) (h : n ≤ N) (P : ℕ → EReal) (hP : ∀ v, n ≤ v → P v = ⊥) : lse (Finset.range N) P = lse (Finset.range n) P := by
  unfold lse
  congr 1
  symm
  refine Finset.sum_subset (Finset.range_mono h) fun v _ hv => ?_
  rw [hP v (not_lt.1 fun h => hv (Finset.mem_range.2 h))]
  rfl

end Cert.Spec

end
-- ==== Proof.KernelIdealBlock.lean ====
/-
  What a grid point of the kernel computes, as the running values of a row of tiles.
-/
module

public import proofs.«01_k».proof.Proof.KernelIdealPt2
public import proofs.«01_k».proof.Proof.KernelIdealFound
public import proofs.«01_k».proof.Proof.Lse

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ### The running values -/

theorem mStep_apply (m p q : FVec Ideal S72x128 .f32) (y : S72x128.Idx) : mStep m p q y = max (m y) (max (p y) (q y)) := by
  pointwise [mStep]

theorem lStep_apply (l m m' p q : FVec Ideal S72x128 .f32) (y : S72x128.Idx) :
    lStep l m m' p q y = l y * Ideal.exp (m y - m' y) + Ideal.exp (p y - m' y) + Ideal.exp (q y - m' y) := by
  pointwise [lStep]

theorem rowLse_apply (m l : FVec Ideal S72x128 .f32) (b : Fin 72) : rowLse m l (ix2 b 0) =
    Finset.univ.fold max ⊥ (fun x => m (ix2 b x)) + Ideal.log (∑ x, l (ix2 b x) * Ideal.exp (m (ix2 b x) - Finset.univ.fold max ⊥ (fun x => m (ix2 b x)))) := by
  pointwise [rowLse]
  rw [negInf]

/-- Where the chunk of mask words starts that holds a tile's words. -/
def chunkStart (v278 : BitVec 32) : ℕ :=
  let v281 : BitVec 1 := Scalar.cmpi .sgt v278 0#32
  let v282 : BitVec 32 := Scalar.extui v281
  let v283 : BitVec 1 := Scalar.cmpi .slt v278 0#32
  let v284 : BitVec 32 := Scalar.extui v283
  let v285 : BitVec 32 := Scalar.subi v282 v284
  let v286 : BitVec 1 := Scalar.cmpi .sgt 32#32 0#32
  let v287 : BitVec 32 := Scalar.extui v286
  let v288 : BitVec 1 := Scalar.cmpi .slt 32#32 0#32
  let v289 : BitVec 32 := Scalar.extui v288
  let v290 : BitVec 32 := Scalar.subi v287 v289
  let v291 : BitVec 1 := Scalar.cmpi .ne v285 v290
  let v292 : BitVec 32 := Scalar.remsi v278 32#32
  let v293 : BitVec 1 := Scalar.cmpi .ne v292 0#32
  let v294 : BitVec 1 := Scalar.andi v291 v293
  let v280 : BitVec 32 := Scalar.divsi v278 32#32
  let v295 : BitVec 32 := Scalar.subi v280 1#32
  let v296 : BitVec 32 := Scalar.select v294 v295 v280
  (Scalar.muli v296 128#32).toNat

theorem off1_eq (i : grid0.Coords) (a b : BitVec 32) : k0_off1 i a b = ![0, chunkStart (tileNo i a b)] := rfl

theorem chunkStart_eq (n : ℕ) (hn : n < 1188) : chunkStart (BitVec.ofNat 32 n) = 128 * (n / 32) := by
  revert n
  decide +kernel

/-! ### A grid point -/

/-- The arrays both programs start from: activations, packed weights, scales, mask words (padded to 4864) and candidates. -/
structure Data where
  x : Fin 72 → Fin 1536 → EReal
  w : Fin 768 → ℕ → BitVec 8
  s : Fin 24 → ℕ → EReal
  b : Fin 72 → ℕ → BitVec 32
  d : Fin 72 → Fin 128 → ℕ

namespace Data
variable (A : Data)
/-- A logit. -/
def z (b : Fin 72) (v : ℕ) : EReal := Spec.dot (A.x b) (fun p => A.w p v) (fun g => A.s g v)
/-- Which tokens are allowed. -/
def ok (b : Fin 72) (v : ℕ) : Prop := Spec.bit (A.b b (v / 32)) v = true ∧ v < 151936
instance (b : Fin 72) (v : ℕ) : Decidable (A.ok b v) := inferInstanceAs (Decidable (_ ∧ _))
/-- The masked logits, with minus infinity and with zero. -/
def p (b : Fin 72) (v : ℕ) : EReal := if A.ok b v then A.z b v else ⊥
def o (b : Fin 72) (v : ℕ) : EReal := if A.ok b v then A.z b v else 0
/-- The logarithm of the sum of the exponentials of a row's allowed logits. -/
def lse (b : Fin 72) : EReal := Spec.lse (Finset.range 151936) (A.p b)
/-- A candidate's log-probability, zero when the candidate is not allowed. -/
def clp (b : Fin 72) (j : Fin 128) : EReal := if Spec.bit (A.b b (A.d b j / 32)) (A.d b j) = true then A.z b (A.d b j) - A.lse b else 0
/-- The logits are numbers and the candidates are tokens. -/
structure Fine : Prop where
  top : ∀ b v, v < 151936 → A.z b v ≠ ⊤
  cand : ∀ b j, A.d b j < 151936
end Data

/-- The five input blocks of grid point `t`; columns past the vocabulary hold anything. -/
structure Holds (A : Data) (t : ℕ) (X1 : S72x1536.Idx → Elt Ideal .bf16) (X2 : S768x4608.Idx → Elt Ideal .i8) (X3 : S24x4608.Idx → Elt Ideal .f32)
    (X4 : S72x4864.Idx → Elt Ideal .i32) (X5 : S72x128.Idx → Elt Ideal .i32) : Prop where
  x : ∀ (b : Fin 72) (h : Fin 1536), X1 (ix2 b h) = A.x b h
  w : ∀ (p : Fin 768) (j : Fin 4608), 4608 * t + j.val < 151936 → X2 (ix2 p j) = A.w p (4608 * t + j.val)
  s : ∀ (g : Fin 24) (j : Fin 4608), 4608 * t + j.val < 151936 → X3 (ix2 g j) = A.s g (4608 * t + j.val)
  b : ∀ (b : Fin 72) (j : Fin 4864), X4 (ix2 b j) = A.b b j.val
  d : ∀ (b : Fin 72) (j : Fin 128), X5 (ix2 b j) = BitVec.ofNat 32 (A.d b j)

section
variable {A : Data} (i : grid0.Coords) {X1 : S72x1536.Idx → Elt Ideal .bf16} {X2 : S768x4608.Idx → Elt Ideal .i8} {X3 : S24x4608.Idx → Elt Ideal .f32}
    {X4 : S72x4864.Idx → Elt Ideal .i32} {X5 : S72x128.Idx → Elt Ideal .i32} (H : Holds A (i 0).val X1 X2 X3 X4 X5)
include H

theorem loads_b (k : ℕ) (hk : k < 18) (e : ℕ) (he : e < 2) (b : Fin 72) (j : Fin 128) :
    (loads i X1 X2 X3 X4 X5).b k e (ix2 b j) = A.b b (128 * ((36 * (i 0).val + 2 * k + e) / 32) + j.val) := by
  have hi : (i 0).val < 33 := (i 0).isLt
  have hn : 36 * (i 0).val + 2 * k + e < 1188 := by omega
  have ho : k0_off1 i (BitVec.ofNat 32 (2 * (k % 18))) (BitVec.ofNat 32 (e % 2)) = ![0, 128 * ((36 * (i 0).val + 2 * k + e) / 32)] := by
    rw [off1_eq, tileNo_eq, Nat.mod_eq_of_lt hk, Nat.mod_eq_of_lt he, chunkStart_eq _ hn]
  rw [← H.b b ⟨128 * ((36 * (i 0).val + 2 * k + e) / 32) + j.val, by omega⟩]
  refine congrArg X4 (funext fun a => Fin.ext ?_)
  match a with
  | ⟨0, _⟩ => show k0_off1 i (BitVec.ofNat 32 (2 * (k % 18))) (BitVec.ofNat 32 (e % 2)) 0 + 1 * b.val = b.val; rw [ho]; show 0 + 1 * b.val = b.val; omega
  | ⟨1, _⟩ => show k0_off1 i (BitVec.ofNat 32 (2 * (k % 18))) (BitVec.ofNat 32 (e % 2)) 1 + 1 * j.val = _; rw [ho]; show 128 * ((36 * (i 0).val + 2 * k + e) / 32) + 1 * j.val = _; rw [one_mul]; rfl

theorem loads_ok (k : ℕ) (hk : k < 18) (e : ℕ) (he : e < 2) (b : Fin 72) (j : Fin 128) :
    (loads i X1 X2 X3 X4 X5).ok i k e (ix2 b j) = 1#1 ↔ A.ok b (128 * (36 * (i 0).val + 2 * k + e) + j.val) := by
  have hi : (i 0).val < 33 := (i 0).isLt
  have hn : 36 * (i 0).val + 2 * k + e < 1188 := by omega
  unfold Loads.ok Loads.no
  rw [tileNo_eq, allowed_apply _ hn]
  unfold Data.ok
  have hb := loads_b i H k hk e he b ⟨4 * ((36 * (i 0).val + 2 * k + e) % 32) + j.val / 32, by omega⟩
  refine and_congr ?_ Iff.rfl
  refine iff_of_eq (congrArg (· = true) ?_)
  refine (congrArg (fun z => Spec.bit z j.val) hb).trans ?_
  unfold Spec.bit
  congr 1
  · congr 1; simp only; omega
  · omega

theorem loads_z (k : ℕ) (hk : k < 18) (b : Fin 72) (j : Fin 256) (hv : 4608 * (i 0).val + 256 * k + j.val < 151936) :
    (loads i X1 X2 X3 X4 X5).z k (ix2 b j) = A.z b (4608 * (i 0).val + 256 * k + j.val) := by
  unfold Loads.z Data.z
  rw [subLogits_apply]
  have hx : (fun h => (loads i X1 X2 X3 X4 X5).x (ix2 b h)) = A.x b := by
    funext h
    rw [← H.x b h]
    refine congrArg X1 (funext fun a => Fin.ext ?_)
    match a with
    | ⟨0, _⟩ => show 0 + 1 * b.val = b.val; omega
    | ⟨1, _⟩ => show 0 + 1 * h.val = h.val; omega
  have hw : (fun p => (loads i X1 X2 X3 X4 X5).w k (ix2 p j)) = fun p => A.w p (4608 * (i 0).val + 256 * k + j.val) := by
    funext p
    have := H.w p ⟨256 * k + j.val, by omega⟩ (by simp only; omega)
    simp only [← Nat.add_assoc] at this
    rw [← this]
    refine congrArg X2 (funext fun a => Fin.ext ?_)
    match a with
    | ⟨0, _⟩ => show 0 + 1 * p.val = p.val; omega
    | ⟨1, _⟩ => show 256 * (k % 18) + 1 * j.val = 256 * k + j.val; rw [Nat.mod_eq_of_lt hk]; omega
  have hs : (fun p => (loads i X1 X2 X3 X4 X5).s k (ix2 p j)) = fun p => A.s p (4608 * (i 0).val + 256 * k + j.val) := by
    funext p
    have := H.s p ⟨256 * k + j.val, by omega⟩ (by simp only; omega)
    simp only [← Nat.add_assoc] at this
    rw [← this]
    refine congrArg X3 (funext fun a => Fin.ext ?_)
    match a with
    | ⟨0, _⟩ => show 0 + 1 * p.val = p.val; omega
    | ⟨1, _⟩ => show 256 * (k % 18) + 1 * j.val = 256 * k + j.val; rw [Nat.mod_eq_of_lt hk]; omega
  rw [hx, hw, hs]

theorem loads_d (b : Fin 72) (j : Fin 128) : (loads i X1 X2 X3 X4 X5).d (ix2 b j) = BitVec.ofNat 32 (A.d b j) := by
  rw [← H.d b j]
  refine congrArg X5 (funext fun a => Fin.ext ?_)
  match a with
  | ⟨0, _⟩ => show 0 + 1 * b.val = b.val; omega
  | ⟨1, _⟩ => show 0 + 1 * j.val = j.val; omega

/-- The two tiles of a run, by their number. -/
theorem loads_mL (k : ℕ) (hk : k < 18) (b : Fin 72) (j : Fin 128) :
    (loads i X1 X2 X3 X4 X5).mL i k (ix2 b j) = A.p b (128 * (36 * (i 0).val + 2 * k) + j.val) := by
  have ho := loads_ok i H k hk 0 (by decide) b j
  rw [Nat.add_zero] at ho
  unfold Loads.mL Data.p
  rw [maskTile_apply, tileL_apply]
  by_cases h : A.ok b (128 * (36 * (i 0).val + 2 * k) + j.val)
  · rw [if_pos (ho.2 h), if_pos h, loads_z i H k hk _ _ (by have := h.2; simp only; omega)]
    congr 1; simp only; omega
  · rw [if_neg (fun h' => h (ho.1 h')), if_neg h]

theorem loads_mR (k : ℕ) (hk : k < 18) (b : Fin 72) (j : Fin 128) :
    (loads i X1 X2 X3 X4 X5).mR i k (ix2 b j) = A.p b (128 * (36 * (i 0).val + 2 * k + 1) + j.val) := by
  have ho := loads_ok i H k hk 1 (by decide) b j
  unfold Loads.mR Data.p
  rw [maskTile_apply, tileR_apply]
  by_cases h : A.ok b (128 * (36 * (i 0).val + 2 * k + 1) + j.val)
  · rw [if_pos (ho.2 h), if_pos h, loads_z i H k hk _ _ (by have := h.2; simp only; omega)]
    congr 1; simp only; omega
  · rw [if_neg (fun h' => h (ho.1 h')), if_neg h]

theorem loads_oL (k : ℕ) (hk : k < 18) (b : Fin 72) (j : Fin 128) :
    (loads i X1 X2 X3 X4 X5).oL i k (ix3 b 0 j) = A.o b (128 * (36 * (i 0).val + 2 * k) + j.val) := by
  have ho := loads_ok i H k hk 0 (by decide) b j
  rw [Nat.add_zero] at ho
  unfold Loads.oL Data.o
  rw [outTile_apply, tileL_apply]
  by_cases h : A.ok b (128 * (36 * (i 0).val + 2 * k) + j.val)
  · rw [if_pos (ho.2 h), if_pos h, loads_z i H k hk _ _ (by have := h.2; simp only; omega)]
    congr 1; simp only; omega
  · rw [if_neg (fun h' => h (ho.1 h')), if_neg h]

theorem loads_oR (k : ℕ) (hk : k < 18) (b : Fin 72) (j : Fin 128) :
    (loads i X1 X2 X3 X4 X5).oR i k (ix3 b 0 j) = A.o b (128 * (36 * (i 0).val + 2 * k + 1) + j.val) := by
  have ho := loads_ok i H k hk 1 (by decide) b j
  unfold Loads.oR Data.o
  rw [outTile_apply, tileR_apply]
  by_cases h : A.ok b (128 * (36 * (i 0).val + 2 * k + 1) + j.val)
  · rw [if_pos (ho.2 h), if_pos h, loads_z i H k hk _ _ (by have := h.2; simp only; omega)]
    congr 1; simp only; omega
  · rw [if_neg (fun h' => h (ho.1 h')), if_neg h]

/-- The running values before the tile numbered `n`. -/
structure Inv (A : Data) (n : ℕ) (m l c : FVec Ideal S72x128 .f32) : Prop where
  ml : ∀ (b : Fin 72) (j : Fin 128), Spec.LaneInv (Finset.range n) (fun t => A.p b (128 * t + j.val)) (m (ix2 b j)) (l (ix2 b j))
  c : ∀ (b : Fin 72) (j : Fin 128), c (ix2 b j) = if A.d b j < 128 * n then A.z b (A.d b j) else 0

omit H in
theorem p_ne_top (hA : A.Fine) (b : Fin 72) (v : ℕ) : A.p b v ≠ ⊤ := by
  unfold Data.p
  split
  · rename_i h; exact hA.top b v h.2
  · exact bot_ne_top

omit H in
theorem word_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem inv_run (hA : A.Fine) {m l c : FVec Ideal S72x128 .f32} (h : Inv A (36 * (i 0).val) m l c) (k : ℕ) (hk : k ≤ 18) :
    Inv A (36 * (i 0).val + 2 * k) ((loads i X1 X2 X3 X4 X5).m i m k) ((loads i X1 X2 X3 X4 X5).l i m l k) ((loads i X1 X2 X3 X4 X5).c i c k) := by
  have hi : (i 0).val < 33 := (i 0).isLt
  induction k with
  | zero => exact h
  | succ k ih =>
    have ih := ih (by omega)
    constructor
    · intro b j
      have e := Spec.laneInv_step _ _ _ _ (ih.ml b j) (p_ne_top hA _ _) (p_ne_top hA _ _)
      show Spec.LaneInv (Finset.range (36 * (i 0).val + 2 * k + 2)) _ (mStep (F := Ideal) _ _ _ (ix2 b j)) (lStep (F := Ideal) _ _ (mStep (F := Ideal) _ _ _) _ _ (ix2 b j))
      rw [lStep_apply, mStep_apply, loads_mL i H k (by omega), loads_mR i H k (by omega)]
      exact e
    · intro b j
      have ha := hA.cand b j
      have hd := loads_d i H b j
      show candStep _ _ _ _ (candStep _ _ _ _ _) (ix2 b j) = _
      have hL := candLane_apply (loads i X1 X2 X3 X4 X5).d (ix2 b j) (A.d b j) (by omega) hd
      have hT := candTile_apply (loads i X1 X2 X3 X4 X5).d (ix2 b j) (A.d b j) (by omega) hd
      rw [candStep_apply (r := ⟨A.d b j % 128, Nat.mod_lt _ (by decide)⟩) (hL := hL), candStep_apply (r := ⟨A.d b j % 128, Nat.mod_lt _ (by decide)⟩) (hL := hL), hT, ih.c b j]
      simp only [Loads.no, tileNo_eq]
      rw [if_congr (word_inj (by omega) (by omega)) rfl rfl, if_congr (word_inj (by omega) (by omega)) rfl rfl]
      show (if _ then tileR _ (ix2 b _) else if _ then tileL _ (ix2 b _) else _) = _
      rw [tileR_apply, tileL_apply]
      by_cases h1 : A.d b j / 128 = 36 * (i 0).val + 2 * k + 1
      · rw [if_pos h1, if_pos (by omega), loads_z i H k (by omega) _ _ (by simp only; omega)]
        congr 1; simp only; omega
      · rw [if_neg h1]
        by_cases h0 : A.d b j / 128 = 36 * (i 0).val + 2 * k + 0
        · rw [if_pos h0, if_pos (by omega), loads_z i H k (by omega) _ _ (by simp only; omega)]
          congr 1; simp only; omega
        · rw [if_neg h0]
          exact if_congr (by omega) rfl rfl

/-- The mask words of the candidates. -/
theorem word_eq (hA : A.Fine) (k : ℕ) (hk : k ≤ 38) (b : Fin 72) (j : Fin 128) :
    candWord (loads i X1 X2 X3 X4 X5).d (chunk X4) k (ix2 b j) = if A.d b j / 32 < 128 * k then A.b b (A.d b j / 32) else 0 := by
  have ha := hA.cand b j
  induction k with
  | zero => rfl
  | succ k ih =>
    have hw := wordNo_apply (loads i X1 X2 X3 X4 X5).d (ix2 b j) (A.d b j) (by omega) (loads_d i H b j)
    show wordStep _ _ _ _ (ix2 b j) = _
    rw [wordStep_apply (a := A.d b j / 32) (ha := by omega) (hd := hw), ih (by omega), if_congr (word_inj (by omega) (by omega)) rfl rfl]
    by_cases h1 : A.d b j / 32 / 128 = k
    · rw [if_pos h1, if_pos (by omega)]
      have := H.b b ⟨A.d b j / 32, by omega⟩
      rw [← this]
      refine congrArg X4 (funext fun a => Fin.ext ?_)
      match a with
      | ⟨0, _⟩ => show 0 + 1 * b.val = b.val; omega
      | ⟨1, _⟩ => show 128 * (k % 38) + 1 * (A.d b j / 32 % 128) = A.d b j / 32; rw [Nat.mod_eq_of_lt (by omega)]; omega
    · rw [if_neg h1]
      exact if_congr (by omega) rfl rfl

omit H in
/-- The row's logarithm of the sum of exponentials, from the lanes after all tiles. -/
theorem inv_lse (hA : A.Fine) {m l c : FVec Ideal S72x128 .f32} (h : Inv A 1188 m l c) (b : Fin 72) : rowLse m l (ix2 b 0) = A.lse b := by
  rw [rowLse_apply, Spec.lanes_lse (n := 128) (N := 1188) (by decide) (fun j t => A.p b (128 * t + j.val)) (fun j t => p_ne_top hA _ _) _ _ (fun j => h.ml b j)]
  rw [Spec.lse_tiles 1188 (A.p b)]
  exact Spec.lse_cut _ _ (by decide) _ fun v hv => if_neg fun h => absurd h.2 (by omega)

theorem clp_eq (hA : A.Fine) {m l c : FVec Ideal S72x128 .f32} (h : Inv A 1188 m l c) (b : Fin 72) (j : Fin 128) :
    candOut (rowLse m l) c (loads i X1 X2 X3 X4 X5).d (candWord (loads i X1 X2 X3 X4 X5).d (chunk X4) 38) (ix2 b j) = A.clp b j := by
  have ha := hA.cand b j
  rw [candOut_apply (a := A.d b j) (ha := by omega) (hd := loads_d i H b j), word_eq i H hA 38 le_rfl, if_pos (show A.d b j / 32 < 128 * 38 by omega), h.c b j, if_pos (show A.d b j < 128 * 1188 by omega)]
  have := inv_lse hA h b
  unfold Data.clp
  rw [← this]
  rfl

end

end Cert.KernelIdeal.Hand
-- ==== Proof.KernelIdealStore.lean ====
/-
  What a grid point of the kernel stores: the block of masked logits, and the running values it starts from.
-/
module

public import proofs.«01_k».proof.Proof.KernelIdealBlock

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ### The blocks stored -/

section
variable {A : Data} (i : grid0.Coords) {X1 : S72x1536.Idx → Elt Ideal .bf16} {X2 : S768x4608.Idx → Elt Ideal .i8} {X3 : S24x4608.Idx → Elt Ideal .f32}
    {X4 : S72x4864.Idx → Elt Ideal .i32} {X5 : S72x128.Idx → Elt Ideal .i32} (H : Holds A (i 0).val X1 X2 X3 X4 X5)

/-- The block of masked logits of a grid point. -/
def oblk (A : Data) (t : ℕ) : S72x1x4608.Idx → Elt Ideal .f32 := fun y => A.o (y 0) (4608 * t + (y 2).val)

include H in
theorem tiles_val (k : ℕ) (hk : k ≤ 18) : ∀ p ∈ tiles i (loads i X1 X2 X3 X4 X5) k, ∀ x : p.1.shape.Idx, p.2 x = oblk A (i 0).val (p.1.emb x) := by
  induction k with
  | zero => intro p hp; exact absurd hp List.not_mem_nil
  | succ k ih =>
    intro p hp
    rcases List.mem_cons.1 hp with rfl | hp
    · intro x
      have e : x = ix3 (x 0) 0 (x 2) := by
        funext a
        match a with
        | ⟨0, _⟩ => rfl
        | ⟨1, _⟩ => exact Subsingleton.elim (α := Fin 1) _ _
        | ⟨2, _⟩ => rfl
      refine (congrArg (Loads.oR i (loads i X1 X2 X3 X4 X5) k) e).trans ((loads_oR i H k (by omega) (x 0) (x 2)).trans ?_)
      unfold oblk
      congr 1
      · refine Fin.ext ?_
        show (x 0).val = 0 + 1 * (x 0).val
        omega
      · show 128 * (36 * (i 0).val + 2 * k + 1) + (x 2).val = 4608 * (i 0).val + (256 * (k % 18) + 128 + 1 * (x 2).val)
        omega
    rcases List.mem_cons.1 hp with rfl | hp
    · intro x
      have e : x = ix3 (x 0) 0 (x 2) := by
        funext a
        match a with
        | ⟨0, _⟩ => rfl
        | ⟨1, _⟩ => exact Subsingleton.elim (α := Fin 1) _ _
        | ⟨2, _⟩ => rfl
      refine (congrArg (Loads.oL i (loads i X1 X2 X3 X4 X5) k) e).trans ((loads_oL i H k (by omega) (x 0) (x 2)).trans ?_)
      unfold oblk
      congr 1
      · refine Fin.ext ?_
        show (x 0).val = 0 + 1 * (x 0).val
        omega
      · show 128 * (36 * (i 0).val + 2 * k) + (x 2).val = 4608 * (i 0).val + (256 * (k % 18) + 1 * (x 2).val)
        omega
    · exact ih (by omega) p hp

theorem tiles_cover (D : Loads Ideal) (y : S72x1x4608.Idx) (k : ℕ) (hk : k ≤ 18) (hy : (y 2).val < 256 * k) : ∃ p ∈ tiles i D k, y ∈ p.1.set := by
  have h0 : (y 0).val < 72 := (y 0).isLt
  have h1 : (y 1).val < 1 := (y 1).isLt
  induction k with
  | zero => omega
  | succ k ih =>
    by_cases h : (y 2).val < 256 * k
    · obtain ⟨p, hp, hy⟩ := ih (by omega) h
      exact ⟨p, List.mem_cons_of_mem _ (List.mem_cons_of_mem _ hp), hy⟩
    have hm : k % 18 = k := Nat.mod_eq_of_lt (by omega)
    by_cases h' : (y 2).val < 256 * k + 128
    · refine ⟨_, List.mem_cons_of_mem _ List.mem_cons_self, ?_⟩
      rw [Rect.mem_set_unit]
      intro a
      match a with
      | ⟨0, _⟩ => exact ⟨Nat.zero_le _, by show (y 0).val < 0 + 72; omega⟩
      | ⟨1, _⟩ => exact ⟨Nat.zero_le _, by show (y 1).val < 0 + 1; omega⟩
      | ⟨2, _⟩ => exact ⟨by show 256 * (k % 18) ≤ (y 2).val; omega, by show (y 2).val < 256 * (k % 18) + 128; omega⟩
    · refine ⟨_, List.mem_cons_self, ?_⟩
      rw [Rect.mem_set_unit]
      intro a
      match a with
      | ⟨0, _⟩ => exact ⟨Nat.zero_le _, by show (y 0).val < 0 + 72; omega⟩
      | ⟨1, _⟩ => exact ⟨Nat.zero_le _, by show (y 1).val < 0 + 1; omega⟩
      | ⟨2, _⟩ => exact ⟨by show 256 * (k % 18) + 128 ≤ (y 2).val; omega, by show (y 2).val < 256 * (k % 18) + 128 + 128; omega⟩

include H in
theorem tiles_read {sp : Space} (v : View sig .tc sp S72x1x4608 .f32) (f : v.ty.Contents (Elt Ideal)) :
    v.read (Elt Ideal) (v.writes (Elt Ideal) f (tiles i (loads i X1 X2 X3 X4 X5) 18)) = oblk A (i 0).val := by
  funext y
  exact View.read_writes_apply_of_pieces v f (oblk A (i 0).val) _ (tiles_val i H 18 le_rfl) y (tiles_cover i _ y 18 le_rfl (by have : (y 2).val < 4608 := (y 2).isLt; omega))

/-- Before the first tile: the least finite number, and nothing summed. -/
theorem inv_init (A : Data) : Inv A 0 k0_pay175 k0_pay176 k0_pay177 := by
  obtain ⟨r, hr⟩ : ∃ r : ℝ, Ideal.ofBits .f32 0xFF7FFFFF#32 = (r : EReal) := ⟨_, by simp [Ideal.ofBits, Ideal.ieee, -EReal.coe_mul]; rfl⟩
  have e5 : ∀ y, (k0_pay175 (F := Ideal)) y = (r : EReal) := by
    intro y
    pointwise [k0_pay175]
    exact hr
  have e6 : ∀ y, (k0_pay176 (F := Ideal)) y = 0 := by
    intro y
    pointwise [k0_pay176]
  have e7 : ∀ y, (k0_pay177 (F := Ideal)) y = 0 := by
    intro y
    pointwise [k0_pay177]
  constructor
  · intro b j
    rw [e5, e6]
    exact Spec.laneInv_init _ _
  · intro b j
    rw [e7, if_neg (by omega)]

end

end Cert.KernelIdeal.Hand
-- ==== Proof.KernelIdealBody.lean ====
/-
  The body of the kernel at a grid point, from the five input blocks it holds to the block it stores: the block of masked
  logits, the running values carried on, and at the last point the two finished results.
-/
module

public import proofs.«01_k».proof.Proof.KernelIdealFrame
public import proofs.«01_k».proof.Proof.KernelIdealStore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

/-- A whole buffer held at raw contents is owned at what they read. -/
theorem owns_of_pt (c : Dev nD) {sp : Space} {S : Shape} {e : EltTy} (M : Memref sig .tc sp S e) (h : M.IsWhole) (f : Bf (F := Ideal) c M)
    (Y : S.Idx → Elt Ideal e) (hY : M.view.read (Elt Ideal) f = Y) : (pt c M f : sProp 𝕄) ⊢ owns (c : Thread nD τ) M fullShare Y := by
  rw [owns_pt c M h, ← h.eq_unread hY]

theorem pt_of_owns (c : Dev nD) {sp : Space} {S : Shape} {e : EltTy} (M : Memref sig .tc sp S e) (h : M.IsWhole) (X : S.Idx → Elt Ideal e) :
    (owns (c : Thread nD τ) M fullShare X : sProp 𝕄) ⊢ pt c M (h.unread X) := by
  rw [owns_pt c M h]

theorem read_recast {sp : Space} (v : View sig .tc sp S72x128 .f32) (f : v.ty.Contents (Elt Ideal)) (w : FVec Ideal S72x128 .f32)
    (L : List (View.Piece (Elt Ideal) S72x128 .f32)) : v.read (Elt Ideal) (v.writes (Elt Ideal) f (⟨wholeR, recast w⟩ :: L)) = w :=
  (View.read_writes_full v f _ _ L).trans (shapeCast_self _ _)

/-- The masked-logit result of a row, broadcast over the lanes. -/
theorem lseOut_apply (r : FVec Ideal S72x1 .f32) (y : S72x128.Idx) :
    (broadcastTo S72x128 (shapeCast S72x1 r shapeCasts_S72x1_S72x1) broadcasts_S72x1_S72x128) y = r (ix2 (y 0) 0) := by
  pointwise []

section
variable {A : Data} (hA : A.Fine) (c : Dev nD) (i : grid0.Coords)
    (M1 : Memref sig .tc .vmem S72x1536 .bf16) (h1 : M1.IsWhole) (M2 : Memref sig .tc .vmem S768x4608 .i8) (h2 : M2.IsWhole) (M3 : Memref sig .tc .vmem S24x4608 .f32) (h3 : M3.IsWhole) (M4 : Memref sig .tc .vmem S72x4864 .i32) (h4 : M4.IsWhole) (M5 : Memref sig .tc .vmem S72x128 .i32) (h5 : M5.IsWhole) (M6 : Memref sig .tc .vmem S72x1x4608 .f32) (h6 : M6.IsWhole) (M7 : Memref sig .tc .vmem S72x128 .f32) (h7 : M7.IsWhole) (M8 : Memref sig .tc .vmem S72x128 .f32) (h8 : M8.IsWhole) (M9 : Memref sig .tc .vmem S72x128 .f32) (h9 : M9.IsWhole) (M10 : Memref sig .tc .vmem S72x128 .f32) (h10 : M10.IsWhole) (M11 : Memref sig .tc .vmem S72x128 .f32) (h11 : M11.IsWhole)

section
variable (f1 : Bf (F := Ideal) c M1) (f2 : Bf (F := Ideal) c M2) (f3 : Bf (F := Ideal) c M3) (f4 : Bf (F := Ideal) c M4) (f5 : Bf (F := Ideal) c M5) (f9 : Bf (F := Ideal) c M9) (f10 : Bf (F := Ideal) c M10) (f11 : Bf (F := Ideal) c M11)
  (H : Holds A (i 0).val (M1.view.read (Elt Ideal) f1) (M2.view.read (Elt Ideal) f2) (M3.view.read (Elt Ideal) f3) (M4.view.read (Elt Ideal) f4) (M5.view.read (Elt Ideal) f5))

include hA H in
theorem runA_reads (hc1 : firstPt i) (hc2 : ¬ lastPt i) (hi : (i 0).val = 0) :
    M6.view.read (Elt Ideal) (runA (F := Ideal) c i M1 h1 M2 h2 M3 h3 M4 h4 M5 h5 M6 h6 M7 h7 M8 h8 M9 h9 M10 h10 M11 h11 hc1 hc2 f1 f2 f3 f4 f5).1.1 = oblk A (i 0).val
      ∧ Inv A (36 * (i 0).val + 36) (M9.view.read (Elt Ideal) (runA (F := Ideal) c i M1 h1 M2 h2 M3 h3 M4 h4 M5 h5 M6 h6 M7 h7 M8 h8 M9 h9 M10 h10 M11 h11 hc1 hc2 f1 f2 f3 f4 f5).1.2.1) (M10.view.read (Elt Ideal) (runA (F := Ideal) c i M1 h1 M2 h2 M3 h3 M4 h4 M5 h5 M6 h6 M7 h7 M8 h8 M9 h9 M10 h10 M11 h11 hc1 hc2 f1 f2 f3 f4 f5).1.2.2.1) (M11.view.read (Elt Ideal) (runA (F := Ideal) c i M1 h1 M2 h2 M3 h3 M4 h4 M5 h5 M6 h6 M7 h7 M8 h8 M9 h9 M10 h10 M11 h11 hc1 hc2 f1 f2 f3 f4 f5).1.2.2.2) := by
  have e9 : M9.view.read (Elt Ideal) (runA (F := Ideal) c i M1 h1 M2 h2 M3 h3 M4 h4 M5 h5 M6 h6 M7 h7 M8 h8 M9 h9 M10 h10 M11 h11 hc1 hc2 f1 f2 f3 f4 f5).1.2.1 = (rawLoads c i M1 M2 M3 M4 M5 f1 f2 f3 f4 f5).m i k0_pay175 18 := by
    show M9.view.read (Elt Ideal) (M9.view.writes (Elt Ideal) M9.view.junk (runA.sl.H9_2 c i M1 M2 M3 M4 M9 f1 f2 f3 f4)) = _
    rw [runA_H9 c i M1 M2 M3 M4 M5 M9 f1 f2 f3 f4 f5, read_recast, runA_v90]
  have e10 : M10.view.read (Elt Ideal) (runA (F := Ideal) c i M1 h1 M2 h2 M3 h3 M4 h4 M5 h5 M6 h6 M7 h7 M8 h8 M9 h9 M10 h10 M11 h11 hc1 hc2 f1 f2 f3 f4 f5).1.2.2.1 = (rawLoads c i M1 M2 M3 M4 M5 f1 f2 f3 f4 f5).l i k0_pay175 k0_pay176 18 := by
    show M10.view.read (Elt Ideal) (M10.view.writes (Elt Ideal) M10.view.junk (runA.sl.H10_2 c i M1 M2 M3 M4 M9 M10 f1 f2 f3 f4)) = _
    rw [runA_H10 c i M1 M2 M3 M4 M5 M9 M10 f1 f2 f3 f4 f5, read_recast, runA_v90, runA_v91]
  have e11 : M11.view.read (Elt Ideal) (runA (F := Ideal) c i M1 h1 M2 h2 M3 h3 M4 h4 M5 h5 M6 h6 M7 h7 M8 h8 M9 h9 M10 h10 M11 h11 hc1 hc2 f1 f2 f3 f4 f5).1.2.2.2 = (rawLoads c i M1 M2 M3 M4 M5 f1 f2 f3 f4 f5).c i k0_pay177 18 := by
    show M11.view.read (Elt Ideal) (M11.view.writes (Elt Ideal) M11.view.junk (runA.sl.H11_2 c i M1 M2 M3 M5 M11 f1 f2 f3 f5)) = _
    rw [runA_H11 c i M1 M2 M3 M4 M5 M11 f1 f2 f3 f4 f5, read_recast, runA_v92]
  refine ⟨?_, ?_⟩
  · have hW : (runA (F := Ideal) c i M1 h1 M2 h2 M3 h3 M4 h4 M5 h5 M6 h6 M7 h7 M8 h8 M9 h9 M10 h10 M11 h11 hc1 hc2 f1 f2 f3 f4 f5).1.1 = M6.view.writes (Elt Ideal) M6.view.junk (runA.sl.H6_36 c i M1 M2 M3 M4 f1 f2 f3 f4) := by sl_kernel_rfl
    rw [hW, runA_H6 c i M1 M2 M3 M4 M5 f1 f2 f3 f4 f5]
    exact tiles_read i H M6.view _
  · rw [e9, e10, e11]
    exact inv_run i H hA (by rw [hi]; exact inv_init A) 18 le_rfl

include hA H in
theorem runB_reads (hc1 : ¬ firstPt i) (hc2 : ¬ lastPt i) (hv : Inv A (36 * (i 0).val) (M9.view.read (Elt Ideal) f9) (M10.view.read (Elt Ideal) f10) (M11.view.read (Elt Ideal) f11)) :
    M6.view.read (Elt Ideal) (runB (F := Ideal) c i M1 h1 M2 h2 M3 h3 M4 h4 M5 h5 M6 h6 M7 h7 M8 h8 M9 h9 M10 h10 M11 h11 hc1 hc2 f1 f2 f3 f4 f5 f9 f10 f11).1.1 = oblk A (i 0).val
      ∧ Inv A (36 * (i 0).val + 36) (M9.view.read (Elt Ideal) (runB (F := Ideal) c i M1 h1 M2 h2 M3 h3 M4 h4 M5 h5 M6 h6 M7 h7 M8 h8 M9 h9 M10 h10 M11 h11 hc1 hc2 f1 f2 f3 f4 f5 f9 f10 f11).1.2.1) (M10.view.read (Elt Ideal) (runB (F := Ideal) c i M1 h1 M2 h2 M3 h3 M4 h4 M5 h5 M6 h6 M7 h7 M8 h8 M9 h9 M10 h10 M11 h11 hc1 hc2 f1 f2 f3 f4 f5 f9 f10 f11).1.2.2.1) (M11.view.read (Elt Ideal) (runB (F := Ideal) c i M1 h1 M2 h2 M3 h3 M4 h4 M5 h5 M6 h6 M7 h7 M8 h8 M9 h9 M10 h10 M11 h11 hc1 hc2 f1 f2 f3 f4 f5 f9 f10 f11).1.2.2.2) := by
  have r9 : View.readAt (Elt Ideal) M9.view wholeR.toLoadRect f9 = M9.view.read (Elt Ideal) f9 := View.readAt_full _ _ _
  have r10 : View.readAt (Elt Ideal) M10.view wholeR.toLoadRect f10 = M10.view.read (Elt Ideal) f10 := View.readAt_full _ _ _
  have r11 : View.readAt (Elt Ideal) M11.view wholeR.toLoadRect f11 = M11.view.read (Elt Ideal) f11 := View.readAt_full _ _ _
  have e9 : M9.view.read (Elt Ideal) (runB (F := Ideal) c i M1 h1 M2 h2 M3 h3 M4 h4 M5 h5 M6 h6 M7 h7 M8 h8 M9 h9 M10 h10 M11 h11 hc1 hc2 f1 f2 f3 f4 f5 f9 f10 f11).1.2.1 = (rawLoads c i M1 M2 M3 M4 M5 f1 f2 f3 f4 f5).m i (M9.view.read (Elt Ideal) f9) 18 := by
    show M9.view.read (Elt Ideal) (M9.view.writes (Elt Ideal) M9.view.junk (runB.sl.H9_1 c i M1 M2 M3 M4 M9 f1 f2 f3 f4 f9)) = _
    rw [runB_H9 c i M1 M2 M3 M4 M5 M9 f1 f2 f3 f4 f5 f9, read_recast, r9]
  have e10 : M10.view.read (Elt Ideal) (runB (F := Ideal) c i M1 h1 M2 h2 M3 h3 M4 h4 M5 h5 M6 h6 M7 h7 M8 h8 M9 h9 M10 h10 M11 h11 hc1 hc2 f1 f2 f3 f4 f5 f9 f10 f11).1.2.2.1 = (rawLoads c i M1 M2 M3 M4 M5 f1 f2 f3 f4 f5).l i (M9.view.read (Elt Ideal) f9) (M10.view.read (Elt Ideal) f10) 18 := by
    show M10.view.read (Elt Ideal) (M10.view.writes (Elt Ideal) M10.view.junk (runB.sl.H10_1 c i M1 M2 M3 M4 M9 M10 f1 f2 f3 f4 f9 f10)) = _
    rw [runB_H10 c i M1 M2 M3 M4 M5 M9 M10 f1 f2 f3 f4 f5 f9 f10, read_recast, r9, r10]
  have e11 : M11.view.read (Elt Ideal) (runB (F := Ideal) c i M1 h1 M2 h2 M3 h3 M4 h4 M5 h5 M6 h6 M7 h7 M8 h8 M9 h9 M10 h10 M11 h11 hc1 hc2 f1 f2 f3 f4 f5 f9 f10 f11).1.2.2.2 = (rawLoads c i M1 M2 M3 M4 M5 f1 f2 f3 f4 f5).c i (M11.view.read (Elt Ideal) f11) 18 := by
    show M11.view.read (Elt Ideal) (M11.view.writes (Elt Ideal) M11.view.junk (runB.sl.H11_1 c i M1 M2 M3 M5 M11 f1 f2 f3 f5 f11)) = _
    rw [runB_H11 c i M1 M2 M3 M4 M5 M11 f1 f2 f3 f4 f5 f11, read_recast, r11]
  have hI := inv_run i H hA hv 18 le_rfl
  refine ⟨?_, ?_⟩
  · have hW : (runB (F := Ideal) c i M1 h1 M2 h2 M3 h3 M4 h4 M5 h5 M6 h6 M7 h7 M8 h8 M9 h9 M10 h10 M11 h11 hc1 hc2 f1 f2 f3 f4 f5 f9 f10 f11).1.1 = M6.view.writes (Elt Ideal) M6.view.junk (runB.sl.H6_36 c i M1 M2 M3 M4 f1 f2 f3 f4) := by sl_kernel_rfl
    rw [hW, runB_H6 c i M1 M2 M3 M4 M5 f1 f2 f3 f4 f5]
    exact tiles_read i H M6.view _
  · rw [e9, e10, e11]
    exact hI

include hA H in
theorem runC_reads (hc1 : ¬ firstPt i) (hc2 : lastPt i) (hv : Inv A (36 * (i 0).val) (M9.view.read (Elt Ideal) f9) (M10.view.read (Elt Ideal) f10) (M11.view.read (Elt Ideal) f11)) (hi : (i 0).val = 32) :
    M6.view.read (Elt Ideal) (runC (F := Ideal) c i M1 h1 M2 h2 M3 h3 M4 h4 M5 h5 M6 h6 M7 h7 M8 h8 M9 h9 M10 h10 M11 h11 hc1 hc2 f1 f2 f3 f4 f5 f9 f10 f11).1.1 = oblk A (i 0).val
      ∧ Inv A (36 * (i 0).val + 36) (M9.view.read (Elt Ideal) (runC (F := Ideal) c i M1 h1 M2 h2 M3 h3 M4 h4 M5 h5 M6 h6 M7 h7 M8 h8 M9 h9 M10 h10 M11 h11 hc1 hc2 f1 f2 f3 f4 f5 f9 f10 f11).1.2.2.2.1) (M10.view.read (Elt Ideal) (runC (F := Ideal) c i M1 h1 M2 h2 M3 h3 M4 h4 M5 h5 M6 h6 M7 h7 M8 h8 M9 h9 M10 h10 M11 h11 hc1 hc2 f1 f2 f3 f4 f5 f9 f10 f11).1.2.2.2.2.1) (M11.view.read (Elt Ideal) (runC (F := Ideal) c i M1 h1 M2 h2 M3 h3 M4 h4 M5 h5 M6 h6 M7 h7 M8 h8 M9 h9 M10 h10 M11 h11 hc1 hc2 f1 f2 f3 f4 f5 f9 f10 f11).1.2.2.2.2.2)
      ∧ M7.view.read (Elt Ideal) (runC (F := Ideal) c i M1 h1 M2 h2 M3 h3 M4 h4 M5 h5 M6 h6 M7 h7 M8 h8 M9 h9 M10 h10 M11 h11 hc1 hc2 f1 f2 f3 f4 f5 f9 f10 f11).1.2.1 = (fun y => A.lse (y 0)) ∧ M8.view.read (Elt Ideal) (runC (F := Ideal) c i M1 h1 M2 h2 M3 h3 M4 h4 M5 h5 M6 h6 M7 h7 M8 h8 M9 h9 M10 h10 M11 h11 hc1 hc2 f1 f2 f3 f4 f5 f9 f10 f11).1.2.2.1 = (fun y => A.clp (y 0) (y 1)) := by
  have r9 : View.readAt (Elt Ideal) M9.view wholeR.toLoadRect f9 = M9.view.read (Elt Ideal) f9 := View.readAt_full _ _ _
  have r10 : View.readAt (Elt Ideal) M10.view wholeR.toLoadRect f10 = M10.view.read (Elt Ideal) f10 := View.readAt_full _ _ _
  have r11 : View.readAt (Elt Ideal) M11.view wholeR.toLoadRect f11 = M11.view.read (Elt Ideal) f11 := View.readAt_full _ _ _
  have e9 : M9.view.read (Elt Ideal) (runC (F := Ideal) c i M1 h1 M2 h2 M3 h3 M4 h4 M5 h5 M6 h6 M7 h7 M8 h8 M9 h9 M10 h10 M11 h11 hc1 hc2 f1 f2 f3 f4 f5 f9 f10 f11).1.2.2.2.1 = (rawLoads c i M1 M2 M3 M4 M5 f1 f2 f3 f4 f5).m i (M9.view.read (Elt Ideal) f9) 18 := by
    show M9.view.read (Elt Ideal) (M9.view.writes (Elt Ideal) M9.view.junk (runC.sl.H9_1 c i M1 M2 M3 M4 M9 f1 f2 f3 f4 f9)) = _
    rw [runC_H9 c i M1 M2 M3 M4 M5 M9 f1 f2 f3 f4 f5 f9, read_recast, r9]
  have e10 : M10.view.read (Elt Ideal) (runC (F := Ideal) c i M1 h1 M2 h2 M3 h3 M4 h4 M5 h5 M6 h6 M7 h7 M8 h8 M9 h9 M10 h10 M11 h11 hc1 hc2 f1 f2 f3 f4 f5 f9 f10 f11).1.2.2.2.2.1 = (rawLoads c i M1 M2 M3 M4 M5 f1 f2 f3 f4 f5).l i (M9.view.read (Elt Ideal) f9) (M10.view.read (Elt Ideal) f10) 18 := by
    show M10.view.read (Elt Ideal) (M10.view.writes (Elt Ideal) M10.view.junk (runC.sl.H10_1 c i M1 M2 M3 M4 M9 M10 f1 f2 f3 f4 f9 f10)) = _
    rw [runC_H10 c i M1 M2 M3 M4 M5 M9 M10 f1 f2 f3 f4 f5 f9 f10, read_recast, r9, r10]
  have e11 : M11.view.read (Elt Ideal) (runC (F := Ideal) c i M1 h1 M2 h2 M3 h3 M4 h4 M5 h5 M6 h6 M7 h7 M8 h8 M9 h9 M10 h10 M11 h11 hc1 hc2 f1 f2 f3 f4 f5 f9 f10 f11).1.2.2.2.2.2 = (rawLoads c i M1 M2 M3 M4 M5 f1 f2 f3 f4 f5).c i (M11.view.read (Elt Ideal) f11) 18 := by
    show M11.view.read (Elt Ideal) (M11.view.writes (Elt Ideal) M11.view.junk (runC.sl.H11_1 c i M1 M2 M3 M5 M11 f1 f2 f3 f5 f11)) = _
    rw [runC_H11 c i M1 M2 M3 M4 M5 M11 f1 f2 f3 f4 f5 f11, read_recast, r11]
  have hI := inv_run i H hA hv 18 le_rfl
  refine ⟨?_, ?_, ?_, ?_⟩
  · have hW : (runC (F := Ideal) c i M1 h1 M2 h2 M3 h3 M4 h4 M5 h5 M6 h6 M7 h7 M8 h8 M9 h9 M10 h10 M11 h11 hc1 hc2 f1 f2 f3 f4 f5 f9 f10 f11).1.1 = M6.view.writes (Elt Ideal) M6.view.junk (runC.sl.H6_36 c i M1 M2 M3 M4 f1 f2 f3 f4) := by sl_kernel_rfl
    rw [hW, runC_H6 c i M1 M2 M3 M4 M5 f1 f2 f3 f4 f5]
    exact tiles_read i H M6.view _
  · rw [e9, e10, e11]
    exact hI
  · rw [hi] at hI
    have hW : (runC (F := Ideal) c i M1 h1 M2 h2 M3 h3 M4 h4 M5 h5 M6 h6 M7 h7 M8 h8 M9 h9 M10 h10 M11 h11 hc1 hc2 f1 f2 f3 f4 f5 f9 f10 f11).1.2.1 = M7.view.writes (Elt Ideal) M7.view.junk (runC.sl.H7_1 c i M1 M2 M3 M4 M9 M10 f1 f2 f3 f4 f9 f10) := by sl_kernel_rfl
    rw [hW, runC_H7 c i M1 M2 M3 M4 M5 M9 M10 f1 f2 f3 f4 f5 f9 f10, View.read_writes_full, r9, r10]
    funext y
    exact (lseOut_apply _ y).trans (inv_lse hA hI (y 0))
  · rw [hi] at hI
    have hW : (runC (F := Ideal) c i M1 h1 M2 h2 M3 h3 M4 h4 M5 h5 M6 h6 M7 h7 M8 h8 M9 h9 M10 h10 M11 h11 hc1 hc2 f1 f2 f3 f4 f5 f9 f10 f11).1.2.2.1 = M8.view.writes (Elt Ideal) M8.view.junk (runC.sl.H8_1 c i M1 M2 M3 M4 M5 M9 M10 M11 f1 f2 f3 f4 f5 f9 f10 f11) := by sl_kernel_rfl
    rw [hW, runC_H8 c i M1 M2 M3 M4 M5 M9 M10 M11 f1 f2 f3 f4 f5 f9 f10 f11, View.read_writes_full, r9, r10, r11]
    funext y
    exact (congrArg (candOut _ _ _ _) (ix2_eta y).symm).trans (clp_eq i H hA hI (y 0) (y 1))

end

variable (X1 : S72x1536.Idx → Elt Ideal .bf16) (X2 : S768x4608.Idx → Elt Ideal .i8) (X3 : S24x4608.Idx → Elt Ideal .f32) (X4 : S72x4864.Idx → Elt Ideal .i32) (X5 : S72x128.Idx → Elt Ideal .i32) (X7 : S72x128.Idx → Elt Ideal .f32) (X8 : S72x128.Idx → Elt Ideal .f32)
  (H : Holds A (i 0).val X1 X2 X3 X4 X5)

include hA H in
/-- The body at every point but the last. -/
theorem body_mid (h0 : firstPt i → (i 0).val = 0) (hc2 : ¬ lastPt i) (E : Set ℕ) :
    (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ (∃ X, owns (c : Thread nD τ) M6 fullShare X) ∗ owns (c : Thread nD τ) M7 fullShare X7 ∗ owns (c : Thread nD τ) M8 fullShare X8 ∗ (∃ m l d, owns (c : Thread nD τ) M9 fullShare m ∗ owns (c : Thread nD τ) M10 fullShare l ∗ owns (c : Thread nD τ) M11 fullShare d ∗ ⌜firstPt i ∨ Inv A (36 * (i 0).val) m l d⌝)) : sProp 𝕄)
      ⊢ wp Idealize.ShloMosaic.frame (wpE (defs₀ (F := Ideal)) Variants.none c none) E (cc0_int4_head i M1 h1 M2 h2 M3 h3 M4 h4 M5 h5 M6 h6 M7 h7 M8 h8 M9 h9 M10 h10 M11 h11)
          fun _ => iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (oblk A (i 0).val) ∗ owns (c : Thread nD τ) M7 fullShare X7 ∗ owns (c : Thread nD τ) M8 fullShare X8 ∗ (∃ m l d, owns (c : Thread nD τ) M9 fullShare m ∗ owns (c : Thread nD τ) M10 fullShare l ∗ owns (c : Thread nD τ) M11 fullShare d ∗ ⌜Inv A (36 * (i 0).val + 36) m l d⌝)) := by
  iintro ⟨H1, H2, H3, H4, H5, ⟨%X6, H6⟩, H7, H8, ⟨%X9, %X10, %X11, H9, H10, H11, %hv⟩⟩
  by_cases hc1 : firstPt i
  · have hi := h0 hc1
    have hr := runA_reads hA c i M1 h1 M2 h2 M3 h3 M4 h4 M5 h5 M6 h6 M7 h7 M8 h8 M9 h9 M10 h10 M11 h11 (h1.unread X1) (h2.unread X2) (h3.unread X3) (h4.unread X4) (h5.unread X5) (by simpa only [Memref.IsWhole.read_unread] using H) hc1 hc2 hi
    iapply (runA (F := Ideal) c i M1 h1 M2 h2 M3 h3 M4 h4 M5 h5 M6 h6 M7 h7 M8 h8 M9 h9 M10 h10 M11 h11 hc1 hc2 (h1.unread X1) (h2.unread X2) (h3.unread X3) (h4.unread X4) (h5.unread X5)).2 (h6.unread X6) (h7.unread X7) (h8.unread X8) (h9.unread X9) (h10.unread X10) (h11.unread X11) E _
    isplitl [H1]; · iapply pt_of_owns c M1 h1 X1; iexact H1
    isplitl [H2]; · iapply pt_of_owns c M2 h2 X2; iexact H2
    isplitl [H3]; · iapply pt_of_owns c M3 h3 X3; iexact H3
    isplitl [H4]; · iapply pt_of_owns c M4 h4 X4; iexact H4
    isplitl [H5]; · iapply pt_of_owns c M5 h5 X5; iexact H5
    isplitl [H6]; · iapply pt_of_owns c M6 h6 X6; iexact H6
    isplitl [H7]; · iapply pt_of_owns c M7 h7 X7; iexact H7
    isplitl [H8]; · iapply pt_of_owns c M8 h8 X8; iexact H8
    isplitl [H9]; · iapply pt_of_owns c M9 h9 X9; iexact H9
    isplitl [H10]; · iapply pt_of_owns c M10 h10 X10; iexact H10
    isplitl [H11]; · iapply pt_of_owns c M11 h11 X11; iexact H11
    iintro ⟨H1, H2, H3, H4, H5, H6, H7, H8, H9, H10, H11⟩
    isplitl [H1]; · iapply owns_of_pt c M1 h1 _ _ (h1.read_unread X1); iexact H1
    isplitl [H2]; · iapply owns_of_pt c M2 h2 _ _ (h2.read_unread X2); iexact H2
    isplitl [H3]; · iapply owns_of_pt c M3 h3 _ _ (h3.read_unread X3); iexact H3
    isplitl [H4]; · iapply owns_of_pt c M4 h4 _ _ (h4.read_unread X4); iexact H4
    isplitl [H5]; · iapply owns_of_pt c M5 h5 _ _ (h5.read_unread X5); iexact H5
    isplitl [H6]; · iapply owns_of_pt c M6 h6 _ _ hr.1; iexact H6
    isplitl [H7]; · iapply owns_of_pt c M7 h7 _ _ (h7.read_unread X7); iexact H7
    isplitl [H8]; · iapply owns_of_pt c M8 h8 _ _ (h8.read_unread X8); iexact H8
    iexists _, _, _
    isplitl [H9]; · iapply owns_of_pt c M9 h9 _ _ rfl; iexact H9
    isplitl [H10]; · iapply owns_of_pt c M10 h10 _ _ rfl; iexact H10
    isplitl [H11]; · iapply owns_of_pt c M11 h11 _ _ rfl; iexact H11
    ipureintro; exact hr.2
  · replace hv := hv.resolve_left hc1
    have hr := runB_reads hA c i M1 h1 M2 h2 M3 h3 M4 h4 M5 h5 M6 h6 M7 h7 M8 h8 M9 h9 M10 h10 M11 h11 (h1.unread X1) (h2.unread X2) (h3.unread X3) (h4.unread X4) (h5.unread X5) (h9.unread X9) (h10.unread X10) (h11.unread X11) (by simpa only [Memref.IsWhole.read_unread] using H) hc1 hc2 (by simpa only [Memref.IsWhole.read_unread] using hv)
    iapply (runB (F := Ideal) c i M1 h1 M2 h2 M3 h3 M4 h4 M5 h5 M6 h6 M7 h7 M8 h8 M9 h9 M10 h10 M11 h11 hc1 hc2 (h1.unread X1) (h2.unread X2) (h3.unread X3) (h4.unread X4) (h5.unread X5) (h9.unread X9) (h10.unread X10) (h11.unread X11)).2 (h6.unread X6) (h7.unread X7) (h8.unread X8) E _
    isplitl [H1]; · iapply pt_of_owns c M1 h1 X1; iexact H1
    isplitl [H2]; · iapply pt_of_owns c M2 h2 X2; iexact H2
    isplitl [H3]; · iapply pt_of_owns c M3 h3 X3; iexact H3
    isplitl [H4]; · iapply pt_of_owns c M4 h4 X4; iexact H4
    isplitl [H5]; · iapply pt_of_owns c M5 h5 X5; iexact H5
    isplitl [H6]; · iapply pt_of_owns c M6 h6 X6; iexact H6
    isplitl [H7]; · iapply pt_of_owns c M7 h7 X7; iexact H7
    isplitl [H8]; · iapply pt_of_owns c M8 h8 X8; iexact H8
    isplitl [H9]; · iapply pt_of_owns c M9 h9 X9; iexact H9
    isplitl [H10]; · iapply pt_of_owns c M10 h10 X10; iexact H10
    isplitl [H11]; · iapply pt_of_owns c M11 h11 X11; iexact H11
    iintro ⟨H1, H2, H3, H4, H5, H6, H7, H8, H9, H10, H11⟩
    isplitl [H1]; · iapply owns_of_pt c M1 h1 _ _ (h1.read_unread X1); iexact H1
    isplitl [H2]; · iapply owns_of_pt c M2 h2 _ _ (h2.read_unread X2); iexact H2
    isplitl [H3]; · iapply owns_of_pt c M3 h3 _ _ (h3.read_unread X3); iexact H3
    isplitl [H4]; · iapply owns_of_pt c M4 h4 _ _ (h4.read_unread X4); iexact H4
    isplitl [H5]; · iapply owns_of_pt c M5 h5 _ _ (h5.read_unread X5); iexact H5
    isplitl [H6]; · iapply owns_of_pt c M6 h6 _ _ hr.1; iexact H6
    isplitl [H7]; · iapply owns_of_pt c M7 h7 _ _ (h7.read_unread X7); iexact H7
    isplitl [H8]; · iapply owns_of_pt c M8 h8 _ _ (h8.read_unread X8); iexact H8
    iexists _, _, _
    isplitl [H9]; · iapply owns_of_pt c M9 h9 _ _ rfl; iexact H9
    isplitl [H10]; · iapply owns_of_pt c M10 h10 _ _ rfl; iexact H10
    isplitl [H11]; · iapply owns_of_pt c M11 h11 _ _ rfl; iexact H11
    ipureintro; exact hr.2

include hA H in
/-- The body at the last point. -/
theorem body_last (hi : (i 0).val = 32) (hc1 : ¬ firstPt i) (hc2 : lastPt i) (E : Set ℕ) :
    (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ (∃ X, owns (c : Thread nD τ) M6 fullShare X) ∗ owns (c : Thread nD τ) M7 fullShare X7 ∗ owns (c : Thread nD τ) M8 fullShare X8 ∗ (∃ m l d, owns (c : Thread nD τ) M9 fullShare m ∗ owns (c : Thread nD τ) M10 fullShare l ∗ owns (c : Thread nD τ) M11 fullShare d ∗ ⌜firstPt i ∨ Inv A (36 * (i 0).val) m l d⌝)) : sProp 𝕄)
      ⊢ wp Idealize.ShloMosaic.frame (wpE (defs₀ (F := Ideal)) Variants.none c none) E (cc0_int4_head i M1 h1 M2 h2 M3 h3 M4 h4 M5 h5 M6 h6 M7 h7 M8 h8 M9 h9 M10 h10 M11 h11)
          fun _ => iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare (oblk A (i 0).val) ∗ owns (c : Thread nD τ) M7 fullShare (fun y => A.lse (y 0)) ∗ owns (c : Thread nD τ) M8 fullShare (fun y => A.clp (y 0) (y 1)) ∗ (∃ m l d, owns (c : Thread nD τ) M9 fullShare m ∗ owns (c : Thread nD τ) M10 fullShare l ∗ owns (c : Thread nD τ) M11 fullShare d ∗ ⌜Inv A (36 * (i 0).val + 36) m l d⌝)) := by
  iintro ⟨H1, H2, H3, H4, H5, ⟨%X6, H6⟩, H7, H8, ⟨%X9, %X10, %X11, H9, H10, H11, %hv⟩⟩
  replace hv := hv.resolve_left hc1
  have hr := runC_reads hA c i M1 h1 M2 h2 M3 h3 M4 h4 M5 h5 M6 h6 M7 h7 M8 h8 M9 h9 M10 h10 M11 h11 (h1.unread X1) (h2.unread X2) (h3.unread X3) (h4.unread X4) (h5.unread X5) (h9.unread X9) (h10.unread X10) (h11.unread X11) (by simpa only [Memref.IsWhole.read_unread] using H) hc1 hc2 (by simpa only [Memref.IsWhole.read_unread] using hv) hi
  iapply (runC (F := Ideal) c i M1 h1 M2 h2 M3 h3 M4 h4 M5 h5 M6 h6 M7 h7 M8 h8 M9 h9 M10 h10 M11 h11 hc1 hc2 (h1.unread X1) (h2.unread X2) (h3.unread X3) (h4.unread X4) (h5.unread X5) (h9.unread X9) (h10.unread X10) (h11.unread X11)).2 (h6.unread X6) (h7.unread X7) (h8.unread X8) E _
  isplitl [H1]; · iapply pt_of_owns c M1 h1 X1; iexact H1
  isplitl [H2]; · iapply pt_of_owns c M2 h2 X2; iexact H2
  isplitl [H3]; · iapply pt_of_owns c M3 h3 X3; iexact H3
  isplitl [H4]; · iapply pt_of_owns c M4 h4 X4; iexact H4
  isplitl [H5]; · iapply pt_of_owns c M5 h5 X5; iexact H5
  isplitl [H6]; · iapply pt_of_owns c M6 h6 X6; iexact H6
  isplitl [H7]; · iapply pt_of_owns c M7 h7 X7; iexact H7
  isplitl [H8]; · iapply pt_of_owns c M8 h8 X8; iexact H8
  isplitl [H9]; · iapply pt_of_owns c M9 h9 X9; iexact H9
  isplitl [H10]; · iapply pt_of_owns c M10 h10 X10; iexact H10
  isplitl [H11]; · iapply pt_of_owns c M11 h11 X11; iexact H11
  iintro ⟨H1, H2, H3, H4, H5, H6, H7, H8, H9, H10, H11⟩
  isplitl [H1]; · iapply owns_of_pt c M1 h1 _ _ (h1.read_unread X1); iexact H1
  isplitl [H2]; · iapply owns_of_pt c M2 h2 _ _ (h2.read_unread X2); iexact H2
  isplitl [H3]; · iapply owns_of_pt c M3 h3 _ _ (h3.read_unread X3); iexact H3
  isplitl [H4]; · iapply owns_of_pt c M4 h4 _ _ (h4.read_unread X4); iexact H4
  isplitl [H5]; · iapply owns_of_pt c M5 h5 _ _ (h5.read_unread X5); iexact H5
  isplitl [H6]; · iapply owns_of_pt c M6 h6 _ _ hr.1; iexact H6
  isplitl [H7]; · iapply owns_of_pt c M7 h7 _ _ hr.2.2.1; iexact H7
  isplitl [H8]; · iapply owns_of_pt c M8 h8 _ _ hr.2.2.2; iexact H8
  iexists _, _, _
  isplitl [H9]; · iapply owns_of_pt c M9 h9 _ _ rfl; iexact H9
  isplitl [H10]; · iapply owns_of_pt c M10 h10 _ _ rfl; iexact H10
  isplitl [H11]; · iapply owns_of_pt c M11 h11 _ _ rfl; iexact H11
  ipureintro; exact hr.2.1

end

end Cert.KernelIdeal.Hand

end
-- ==== Proof.KernelIdealData.lean ====
/-
  The data the kernel is launched with: its blocks at each grid point, and what the launch's proof says of every buffer.
-/
module

public import proofs.«01_k».proof.Proof.KernelIdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-! ### The grid -/

theorem coord0 : ∀ t : Fin grid0.N, (grid0.coords t 0).val = t.val := by decide +kernel
theorem firstPt_iff : ∀ t : Fin grid0.N, firstPt (grid0.coords t) ↔ t.val = 0 := by decide +kernel
theorem lastPt_iff : ∀ t : Fin grid0.N, lastPt (grid0.coords t) ↔ t.val = 32 := by decide +kernel
theorem xsize1 : ∀ t : Fin grid0.N, win0_1.xsize (grid0.coords t) 0 = 768 ∧ win0_1.xsize (grid0.coords t) 1 = min 4608 (151936 - 4608 * t.val) := by decide +kernel
theorem xsize2 : ∀ t : Fin grid0.N, win0_2.xsize (grid0.coords t) 0 = 24 ∧ win0_2.xsize (grid0.coords t) 1 = min 4608 (151936 - 4608 * t.val) := by decide +kernel
theorem xsize5 : ∀ t : Fin grid0.N, win0_5.xsize (grid0.coords t) 0 = 72 ∧ win0_5.xsize (grid0.coords t) 1 = 1 ∧ win0_5.xsize (grid0.coords t) 2 = min 4608 (151936 - 4608 * t.val) := by decide +kernel
theorem index1 : ∀ t : Fin grid0.N, win0_1.index t 0 = 0 ∧ win0_1.index t 1 = t.val := by decide +kernel
theorem index2 : ∀ t : Fin grid0.N, win0_2.index t 0 = 0 ∧ win0_2.index t 1 = t.val := by decide +kernel
theorem index5 : ∀ t : Fin grid0.N, win0_5.index t 0 = 0 ∧ win0_5.index t 1 = 0 ∧ win0_5.index t 2 = t.val := by decide +kernel

/-! ### The data the kernel is launched with -/

/-- The arrays the windows stage, as the launch finds them. -/
def mdata (c : Dev nD) : Data where
  x b h := (V m c main_v0 : S72x1536.Idx → Elt Ideal .bf16) (ix2 b h)
  w p v := if h : v < 151936 then (V m c main_arg1 : S768x151936.Idx → Elt Ideal .i8) (ix2 p ⟨v, h⟩) else 0#8
  s g v := if h : v < 151936 then (V m c main_arg2 : S24x151936.Idx → Elt Ideal .f32) (ix2 g ⟨v, h⟩) else 0
  b b j := if h : j < 4864 then (V m c main_v1 : S72x4864.Idx → Elt Ideal .i32) (ix2 b ⟨j, h⟩) else 0#32
  d b j := ((V m c main_v3 : S72x128.Idx → Elt Ideal .i32) (ix2 b j)).toNat

theorem blk0 (c : Dev nD) (t : Fin grid0.N) (b : Fin 72) (h : Fin 1536) :
    (iblk m c 0 t : S72x1536.Idx → Elt Ideal .bf16) (ix2 b h) = (mdata m c).x b h := by
  refine congrArg (V m c main_v0) (funext fun a => Fin.ext ?_)
  match a with
  | ⟨0, _⟩ => show 0 * 72 + 1 * b.val = b.val; omega
  | ⟨1, _⟩ => show 0 * 1536 + 1 * h.val = h.val; omega

theorem blk3 (c : Dev nD) (t : Fin grid0.N) (b : Fin 72) (j : Fin 4864) :
    (iblk m c 3 t : S72x4864.Idx → Elt Ideal .i32) (ix2 b j) = (mdata m c).b b j.val := by
  refine Eq.trans ?_ (dif_pos j.isLt).symm
  refine congrArg (V m c main_v1) (funext fun a => Fin.ext ?_)
  match a with
  | ⟨0, _⟩ => show 0 * 72 + 1 * b.val = b.val; omega
  | ⟨1, _⟩ => show 0 * 4864 + 1 * j.val = j.val; omega

theorem blk4 (c : Dev nD) (t : Fin grid0.N) (b : Fin 72) (j : Fin 128) :
    (iblk m c 4 t : S72x128.Idx → Elt Ideal .i32) (ix2 b j) = BitVec.ofNat 32 ((mdata m c).d b j) := by
  refine Eq.trans ?_ (BitVec.ofNat_toNat _ _ |>.trans (BitVec.setWidth_eq _)).symm
  refine congrArg (V m c main_v3) (funext fun a => Fin.ext ?_)
  match a with
  | ⟨0, _⟩ => show 0 * 72 + 1 * b.val = b.val; omega
  | ⟨1, _⟩ => show 0 * 128 + 1 * j.val = j.val; omega

theorem blk1 (c : Dev nD) (t : Fin grid0.N) (d : S768x4608.Idx → Elt Ideal .i8) (p : Fin 768) (j : Fin 4608) (hj : 4608 * t.val + j.val < 151936) :
    (win0_1.fill (grid0.coords t) d (iblk m c 1 t) : S768x4608.Idx → Elt Ideal .i8) (ix2 p j) = (mdata m c).w p (4608 * t.val + j.val) := by
  obtain ⟨x0, x1⟩ := xsize1 t
  obtain ⟨i0, i1⟩ := index1 t
  have hm : win0_1.moved (grid0.coords t) (ix2 p j) = true := (win0_1.moved_iff (grid0.coords t) (ix2 p j)).2 fun a => by
    match a with
    | ⟨0, _⟩ => exact lt_of_lt_of_eq p.isLt x0.symm
    | ⟨1, _⟩ => exact lt_of_lt_of_eq (lt_min j.isLt (by omega) : j.val < min 4608 (151936 - 4608 * t.val)) x1.symm
  unfold Window.fill
  rw [dif_pos hm]
  refine Eq.trans ?_ (dif_pos hj).symm
  refine congrArg (V m c main_arg1) (funext fun a => Fin.ext ?_)
  match a with
  | ⟨0, _⟩ => show win0_1.index t 0 * 768 + 1 * p.val = p.val; rw [i0]; omega
  | ⟨1, _⟩ => show win0_1.index t 1 * 4608 + 1 * j.val = 4608 * t.val + j.val; rw [i1]; omega

theorem blk2 (c : Dev nD) (t : Fin grid0.N) (d : S24x4608.Idx → Elt Ideal .f32) (p : Fin 24) (j : Fin 4608) (hj : 4608 * t.val + j.val < 151936) :
    (win0_2.fill (grid0.coords t) d (iblk m c 2 t) : S24x4608.Idx → Elt Ideal .f32) (ix2 p j) = (mdata m c).s p (4608 * t.val + j.val) := by
  obtain ⟨x0, x1⟩ := xsize2 t
  obtain ⟨i0, i1⟩ := index2 t
  have hm : win0_2.moved (grid0.coords t) (ix2 p j) = true := (win0_2.moved_iff (grid0.coords t) (ix2 p j)).2 fun a => by
    match a with
    | ⟨0, _⟩ => exact lt_of_lt_of_eq p.isLt x0.symm
    | ⟨1, _⟩ => exact lt_of_lt_of_eq (lt_min j.isLt (by omega) : j.val < min 4608 (151936 - 4608 * t.val)) x1.symm
  unfold Window.fill
  rw [dif_pos hm]
  refine Eq.trans ?_ (dif_pos hj).symm
  refine congrArg (V m c main_arg2) (funext fun a => Fin.ext ?_)
  match a with
  | ⟨0, _⟩ => show win0_2.index t 0 * 24 + 1 * p.val = p.val; rw [i0]; omega
  | ⟨1, _⟩ => show win0_2.index t 1 * 4608 + 1 * j.val = 4608 * t.val + j.val; rw [i1]; omega

theorem holds (c : Dev nD) (t : Fin grid0.N) (d1 : S768x4608.Idx → Elt Ideal .i8) (d2 : S24x4608.Idx → Elt Ideal .f32) :
    Holds (mdata m c) (grid0.coords t 0).val (iblk m c 0 t) (win0_1.fill (grid0.coords t) d1 (iblk m c 1 t)) (win0_2.fill (grid0.coords t) d2 (iblk m c 2 t))
      (iblk m c 3 t) (iblk m c 4 t) := by
  rw [coord0 t]
  exact ⟨blk0 m c t, blk1 m c t d1, blk2 m c t d2, blk3 m c t, blk4 m c t⟩

/-! ### The launch's proof data -/

/-- The scratch buffers before grid point `n`: nothing known before the first, else the running values over the tiles so far. -/
def scratch (c : Dev nD) (n : ℕ) : sProp 𝕄 :=
  iprop((∃ X9 X10 X11, owns (c : Thread nD τ) (Memref.whole cc0_scratch0) fullShare X9 ∗ owns (c : Thread nD τ) (Memref.whole cc0_scratch1) fullShare X10
    ∗ owns (c : Thread nD τ) (Memref.whole cc0_scratch2) fullShare X11 ∗ ⌜n = 0 ∨ Inv (mdata m c) (36 * n) X9 X10 X11⌝) ∗ ∃ r, prngReg c r)

def edat (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#8 : BitVec 8)) (iblk m c 1 t)
    | ⟨2, _⟩ => win0_2.fill (grid0.coords t) (fun _ => (0 : EReal)) (iblk m c 2 t)
    | ⟨3, _⟩ => iblk m c 3 t
    | ⟨4, _⟩ => iblk m c 4 t
    | ⟨5, _⟩ => oblk (mdata m c) t.val
    | ⟨6, _⟩ => fun y : S72x128.Idx => (mdata m c).lse (y 0)
    | ⟨7, _⟩ => fun y : S72x128.Idx => (mdata m c).clp (y 0) (y 1)
  Φ t := scratch m c t.val
  q _ := fullShare
  owed _ := 0
def edats (p : Fin 1) (c : Dev nD) : Dat τ (Elt Ideal) Unit ℕ (UR sig nD τ) ℕ (cfgs p) c :=
  match p with
  | 0 => edat m c

theorem ebefore1 (c : Dev nD) (t : Fin cfg0.N) (d) : (edat m c).before 1 t d = win0_1.fill (grid0.coords t) d (iblk m c 1 t) := by
  unfold Dat.before; rw [if_pos (fetch0_1 t)]; rfl
theorem ebefore2 (c : Dev nD) (t : Fin cfg0.N) (d) : (edat m c).before 2 t d = win0_2.fill (grid0.coords t) d (iblk m c 2 t) := by
  unfold Dat.before; rw [if_pos (fetch0_2 t)]; rfl

end Cert.KernelIdeal.Hand

end
-- ==== Proof.KernelIdealLaunch.lean ====
/-
  The kernel's launch: the body's obligation at every grid point, and the run of the whole program to the arrays it leaves.
-/
module

public import proofs.«01_k».proof.Proof.KernelIdealData

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

attribute [local irreducible] Data.lse Data.clp Data.o Spec.lse
variable (m : (ℓ : Loc nD τ sig) → Buf (Elt Ideal) ℓ) (ρ : Dev nD → PrngReg)

theorem loose1 (c : Dev nD) (t : Fin cfg0.N) (d : S768x4608.Idx → Elt Ideal .i8) :
    (owns (c : Thread nD τ) (st0_1 t) fullShare (win0_1.fill (grid0.coords t) d (iblk m c 1 t)) : sProp 𝕄)
      ⊢ iprop(∃ d, owns (c : Thread nD τ) (st0_1 t) fullShare (win0_1.fill (grid0.coords t) d (win0_1.cut (grid0.coords t) ((edat m c).after 1 t)))) := by
  have h : win0_1.cut (grid0.coords t) ((edat m c).after 1 t) = iblk m c 1 t := win0_1.cut_fill _ _ _
  rw [h]
  iintro H
  iexists d
  iexact H
theorem loose2 (c : Dev nD) (t : Fin cfg0.N) (d : S24x4608.Idx → Elt Ideal .f32) :
    (owns (c : Thread nD τ) (st0_2 t) fullShare (win0_2.fill (grid0.coords t) d (iblk m c 2 t)) : sProp 𝕄)
      ⊢ iprop(∃ d, owns (c : Thread nD τ) (st0_2 t) fullShare (win0_2.fill (grid0.coords t) d (win0_2.cut (grid0.coords t) ((edat m c).after 2 t)))) := by
  have h : win0_2.cut (grid0.coords t) ((edat m c).after 2 t) = iblk m c 2 t := win0_2.cut_fill _ _ _
  rw [h]
  iintro H
  iexists d
  iexact H
theorem loose5 (c : Dev nD) (t : Fin cfg0.N) :
    (owns (c : Thread nD τ) (st0_5 t) fullShare (oblk (mdata m c) (grid0.coords t 0).val) : sProp 𝕄)
      ⊢ iprop(∃ d, owns (c : Thread nD τ) (st0_5 t) fullShare (win0_5.fill (grid0.coords t) d (win0_5.cut (grid0.coords t) ((edat m c).after 5 t)))) := by
  have h : win0_5.fill (grid0.coords t) (oblk (mdata m c) (grid0.coords t 0).val) (win0_5.cut (grid0.coords t) ((edat m c).after 5 t)) = oblk (mdata m c) (grid0.coords t 0).val := by
    rw [coord0 t]
    exact win0_5.fill_cut _ _
  iintro H
  iexists oblk (mdata m c) (grid0.coords t 0).val
  rw [h]
  iexact H

theorem exact6 (c : Dev nD) (t : Fin cfg0.N) :
    (owns (c : Thread nD τ) (st0_6 t) fullShare (fun y : S72x128.Idx => (mdata m c).lse (y 0)) : sProp 𝕄) ⊢ owns (c : Thread nD τ) (st0_6 t) fullShare ((edat m c).after 6 t) := .rfl
theorem exact7 (c : Dev nD) (t : Fin cfg0.N) :
    (owns (c : Thread nD τ) (st0_7 t) fullShare (fun y : S72x128.Idx => (mdata m c).clp (y 0) (y 1)) : sProp 𝕄) ⊢ owns (c : Thread nD τ) (st0_7 t) fullShare ((edat m c).after 7 t) := .rfl

theorem idle_iff (t : Fin cfg0.N) : (!(k0_cond2 (cfg0.grid.coords t) == 1#1)) = true ↔ ¬ lastPt (grid0.coords t) := by
  show (!(k0_cond2 (grid0.coords t) == 1#1)) = true ↔ ¬ lastPt (grid0.coords t)
  simp

/-- The body's obligation at every grid point, over data whose logits are numbers and whose candidates are tokens. -/
theorem ebody (c : Dev nD) (hA : (mdata m c).Fine) : BodyObligationLoose (edat m c) (defs₀ (F := Ideal)) Variants.none () Set.univ := fun t => by
  rw [bigSep_W0, bigSep_W0, defs₀_row]
  simp only
  rw [show (edat m c).Φ t.succ = scratch m c (t.val + 1) from rfl, show (edat m c).Φ t.castSucc = scratch m c t.val from rfl,
    show (edat m c).owesAt () t.succ = (edat m c).owesAt () t.castSucc from rfl]
  simp only [ebefore1 m c t, ebefore2 m c t, before0_0_of m (edat m c) rfl (fun _ => rfl) t, before0_3_of m (edat m c) rfl (fun _ => rfl) t,
    before0_4_of m (edat m c) rfl (fun _ => rfl) t]
  by_cases hl : lastPt (grid0.coords t)
  · have h32 := (lastPt_iff t).1 hl
    have hi6 : idle0 6 (grid0.coords t) = false := by
      rw [Bool.eq_false_iff]; exact fun h => (idle_iff t).1 h hl
    have hi7 : idle0 7 (grid0.coords t) = false := hi6
    simp only [hi6, hi7]
    unfold scratch
    iintro ⟨⟨⟨%X9, %X10, %X11, S9, S10, S11, %hv⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply wp_wand $$ [S9 S10 S11 H0 H1 H2 H3 H4 H5 H6 H7]
    · iapply body_last hA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) _ _ _ _ _ _ _ (holds m c t d1 d2) (by rw [coord0 t]; exact h32) (fun h => not_first_last t h hl) hl Set.univ
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      iexists X9, X10, X11
      isplitl [S9]; · iexact S9
      isplitl [S10]; · iexact S10
      isplitl [S11]; · iexact S11
      ipureintro
      rw [coord0 t]
      exact hv.imp_left (firstPt_iff t).2
    · iintro %_ ⟨H0, H1, H2, H3, H4, H5, H6, H7, ⟨%Y9, %Y10, %Y11, S9, S10, S11, %hi⟩⟩
      rw [coord0 t] at hi
      isplitl [S9 S10 S11 Hr]
      · isplitl [S9 S10 S11]
        · iexists Y9, Y10, Y11
          isplitl [S9]; · iexact S9
          isplitl [S10]; · iexact S10
          isplitl [S11]; · iexact S11
          ipureintro
          exact .inr hi
        · iexact Hr
      isplitl [Ho]; · iexact Ho
      isplitl [H0]; · iexact H0
      isplitl [H1]; · iapply loose1 m c t d1; iexact H1
      isplitl [H2]; · iapply loose2 m c t d2; iexact H2
      isplitl [H3]; · iexact H3
      isplitl [H4]; · iexact H4
      isplitl [H5]; · iapply loose5 m c t; iexact H5
      isplitl [H6]; · iapply exact6 m c t; iexact H6
      iapply exact7 m c t; iexact H7
  · have h32 := fun h => hl ((lastPt_iff t).2 h)
    have hi6 : idle0 6 (grid0.coords t) = true := (idle_iff t).2 hl
    have hi7 : idle0 7 (grid0.coords t) = true := hi6
    have hlt : t.val < 33 := t.isLt
    have hf6 : (cfg0.win 6).flush t = false := by
      rw [Bool.eq_false_iff]; exact fun h => h32 (by have := (flush0_6 t).1 h; omega)
    have hf7 : (cfg0.win 7).flush t = false := by
      rw [Bool.eq_false_iff]; exact fun h => h32 (by have := (flush0_7 t).1 h; omega)
    simp only [hi6, hi7, hf6, hf7]
    unfold scratch
    iintro ⟨⟨⟨%X9, %X10, %X11, S9, S10, S11, %hv⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply wp_wand $$ [S9 S10 S11 H0 H1 H2 H3 H4 H5 H6 H7]
    · iapply body_mid hA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) _ _ _ _ _ _ _ (holds m c t d1 d2) (fun h => (coord0 t).trans ((firstPt_iff t).1 h)) hl Set.univ
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      iexists X9, X10, X11
      isplitl [S9]; · iexact S9
      isplitl [S10]; · iexact S10
      isplitl [S11]; · iexact S11
      ipureintro
      rw [coord0 t]
      exact hv.imp_left (firstPt_iff t).2
    · iintro %_ ⟨H0, H1, H2, H3, H4, H5, H6, H7, ⟨%Y9, %Y10, %Y11, S9, S10, S11, %hi⟩⟩
      rw [coord0 t] at hi
      isplitl [S9 S10 S11 Hr]
      · isplitl [S9 S10 S11]
        · iexists Y9, Y10, Y11
          isplitl [S9]; · iexact S9
          isplitl [S10]; · iexact S10
          isplitl [S11]; · iexact S11
          ipureintro
          exact .inr hi
        · iexact Hr
      isplitl [Ho]; · iexact Ho
      isplitl [H0]; · iexact H0
      isplitl [H1]; · iapply loose1 m c t d1; iexact H1
      isplitl [H2]; · iapply loose2 m c t d2; iexact H2
      isplitl [H3]; · iexact H3
      isplitl [H4]; · iexact H4
      isplitl [H5]; · iapply loose5 m c t; iexact H5
      isplitl [H6]; · iexists d6; iexact H6
      iexists d7; iexact H7

/-! ### The launch -/

theorem scratch_in (c : Dev nD) : (Pipeline.ΦA spec0 c : sProp 𝕄) ⊢ (edat m c).Φ 0 := by
  show iprop(Pipeline.scopedRest spec0 c ∗ ∃ r, prngReg c r) ⊢ scratch m c 0
  unfold scratch
  rw [scopedRest0_eq]
  iintro ⟨⟨⟨%f0, S0⟩, ⟨%f1, S1⟩, ⟨%f2, S2⟩⟩, Hr⟩
  isplitl [S0 S1 S2]
  · iexists _, _, _
    isplitl [S0]; · iapply owns_of_pt c (Memref.whole cc0_scratch0) (Memref.isWhole_whole _) f0 _ rfl; iexact S0
    isplitl [S1]; · iapply owns_of_pt c (Memref.whole cc0_scratch1) (Memref.isWhole_whole _) f1 _ rfl; iexact S1
    isplitl [S2]; · iapply owns_of_pt c (Memref.whole cc0_scratch2) (Memref.isWhole_whole _) f2 _ rfl; iexact S2
    ipureintro
    exact .inl rfl
  · iexact Hr

theorem scratch_out (c : Dev nD) : (edat m c).Φ (Fin.last cfg0.N) ⊢ (Pipeline.ΦA spec0 c : sProp 𝕄) := by
  show scratch m c cfg0.N ⊢ iprop(Pipeline.scopedRest spec0 c ∗ ∃ r, prngReg c r)
  unfold scratch
  rw [scopedRest0_eq]
  iintro ⟨⟨%X9, %X10, %X11, S9, S10, S11, %hv⟩, Hr⟩
  isplitl [S9 S10 S11]
  · isplitl [S9]; · iexists _; iapply pt_of_owns c (Memref.whole cc0_scratch0) (Memref.isWhole_whole _) X9; iexact S9
    isplitl [S10]; · iexists _; iapply pt_of_owns c (Memref.whole cc0_scratch1) (Memref.isWhole_whole _) X10; iexact S10
    iexists _; iapply pt_of_owns c (Memref.whole cc0_scratch2) (Memref.isWhole_whole _) X11; iexact S11
  · iexact Hr

/-- The whole program's run, to the arrays the library computes. -/
theorem erun (hA : ∀ c, (mdata m c).Fine) :
    θ_run defs (onTc (τ := τ) (main (F := Ideal))) ⟨m, fun _ => 0, ρ⟩
      (Pipeline.FramePost cfgs (edats m) 0 (Pipeline.afterTail₀ cfgs (edats m) 0 (V0 m) [hostOps1])) :=
  Pipeline.θ_run_frame_around_track cfgs (edats m) 0 launch0 defs₀ Variants.none m ρ main
    (fun c => ebody m c (hA c)) (fun c => (edats m 0 c).share_full fun _ => rfl) (fun _ _ => rfl) (V0 m) [hostOps1] sfx_sub sfx_fresh sfx_keeps
    (hmain m Variants.none) (fun _ _ => rfl) (scratch_in m) (scratch_out m)

end Cert.KernelIdeal.Hand

end
-- ==== Proof.KernelIdealArrays.lean ====
/-
  The result arrays after the run, in closed form.
-/
module

public import proofs.«01_k».proof.Proof.KernelIdealLaunch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ) (ρ : Dev nD → PrngReg)

attribute [local irreducible] Data.lse Data.clp Data.o Spec.lse

/-! ### The result arrays after the run -/

/-- The masked logits, the row results and the candidate results, as arrays. -/
def res5 (A : Data) : S72x1x151936.Idx → Elt Ideal .f32 := fun y => A.o (y 0) (y 2).val
def res6 (A : Data) : S72x128.Idx → Elt Ideal .f32 := fun y => A.lse (y 0)
def res7 (A : Data) : S72x128.Idx → Elt Ideal .f32 := fun y => A.clp (y 0) (y 1)

theorem flushed5 (c : Dev nD) (t : Fin cfg0.N) :
    (edat m c).flushed 5 t = (win0_5.blk t).view.read (Elt Ideal) (res5 (mdata m c)) := by
  obtain ⟨i0, i1, i2⟩ := index5 t
  funext y
  show (mdata m c).o _ _ = (mdata m c).o _ _
  congr 1
  · refine Fin.ext ?_
    show (y 0).val = win0_5.index t 0 * 72 + 1 * (y 0).val
    rw [i0]; omega
  · show 4608 * t.val + (y 2).val = win0_5.index t 2 * 4608 + 1 * (y 2).val
    rw [i2]; omega

theorem flushed6 (c : Dev nD) (t : Fin cfg0.N) :
    (edat m c).flushed 6 t = (win0_6.blk t).view.read (Elt Ideal) (res6 (mdata m c)) := by
  funext y
  show (mdata m c).lse _ = (mdata m c).lse _
  congr 1
  refine Fin.ext ?_
  show (y 0).val = 0 * 72 + 1 * (y 0).val
  omega

theorem flushed7 (c : Dev nD) (t : Fin cfg0.N) :
    (edat m c).flushed 7 t = (win0_7.blk t).view.read (Elt Ideal) (res7 (mdata m c)) := by
  funext y
  show (mdata m c).clp _ _ = (mdata m c).clp _ _
  congr 1
  · refine Fin.ext ?_
    show (y 0).val = 0 * 72 + 1 * (y 0).val
    omega
  · refine Fin.ext ?_
    show (y 1).val = 0 * 128 + 1 * (y 1).val
    omega

theorem mem_blk5 (t : Fin cfg0.N) (y : S72x1x151936.Idx) :
    y ∈ (win0_5.blk t).view.setOn Finset.univ ↔ 4608 * t.val ≤ (y 2).val ∧ (y 2).val < 4608 * t.val + 4608 := by
  rw [View.setOn_univ]
  show y ∈ ((View.whole main_v4_0).slice (win0_5.rect t)).set ↔ _
  rw [View.set_slice_whole, Rect.mem_set_unit]
  obtain ⟨i0, i1, i2⟩ := index5 t
  obtain ⟨x0, x1, x2⟩ := xsize5 t
  have h0 : (y 0).val < 72 := (y 0).isLt
  have h1 : (y 1).val < 1 := (y 1).isLt
  have h2 : (y 2).val < 151936 := (y 2).isLt
  constructor
  · intro h
    have := h 2
    change win0_5.index t 2 * 4608 ≤ (y 2).val ∧ (y 2).val < win0_5.index t 2 * 4608 + win0_5.xsize (grid0.coords t) 2 at this
    rw [i2, x2] at this
    omega
  · intro h a
    match a with
    | ⟨0, _⟩ =>
      change win0_5.index t 0 * 72 ≤ (y 0).val ∧ (y 0).val < win0_5.index t 0 * 72 + win0_5.xsize (grid0.coords t) 0
      rw [i0, x0]; omega
    | ⟨1, _⟩ =>
      change win0_5.index t 1 * 1 ≤ (y 1).val ∧ (y 1).val < win0_5.index t 1 * 1 + win0_5.xsize (grid0.coords t) 1
      rw [i1, x1]; omega
    | ⟨2, _⟩ =>
      change win0_5.index t 2 * 4608 ≤ (y 2).val ∧ (y 2).val < win0_5.index t 2 * 4608 + win0_5.xsize (grid0.coords t) 2
      rw [i2, x2]; omega

theorem arr5_upto (c : Dev nD) (n : ℕ) (hn : n ≤ 33) (y : S72x1x151936.Idx) (hy : (y 2).val < 4608 * n) :
    ((edat m c).arrAt 5 n : S72x1x151936.Idx → Elt Ideal .f32) y = res5 (mdata m c) y := by
  induction n with
  | zero => omega
  | succ n ih =>
    have e := (edat m c).arrAt_succ 5 (⟨n, hn⟩ : Fin cfg0.N)
    rw [if_pos (flush0_5 _), flushed5] at e
    rw [View.write_read_eq_piecewise] at e
    refine (congrFun e y).trans ?_
    have hm := mem_blk5 ⟨n, hn⟩ y
    unfold Finset.piecewise
    split
    · rfl
    · rename_i h
      exact ih (by omega) (by
        by_contra h'
        exact h (hm.2 ⟨by show 4608 * n ≤ _; omega, by show _ < 4608 * n + 4608; omega⟩))

theorem arr5 (c : Dev nD) : (edat m c).arrAt 5 cfg0.N = res5 (mdata m c) := by
  funext y
  exact arr5_upto m c 33 le_rfl y (by have : (y 2).val < 151936 := (y 2).isLt; omega)

theorem arr6 (c : Dev nD) : (edat m c).arrAt 6 cfg0.N = res6 (mdata m c) := by
  have e := (edat m c).arrAt_succ 6 (⟨32, by decide⟩ : Fin cfg0.N)
  rw [if_pos ((flush0_6 _).2 rfl), flushed6] at e
  refine e.trans ?_
  rw [View.write_read_eq_piecewise]
  funext y
  unfold Finset.piecewise
  refine if_pos ?_
  rw [View.setOn_univ]
  show y ∈ ((View.whole main_v4_1).slice (win0_6.rect _)).set
  rw [View.set_slice_whole, Rect.mem_set_unit]
  intro a
  match a with
  | ⟨0, _⟩ => exact ⟨by show 0 * 72 ≤ (y 0).val; omega, by have : (y 0).val < 72 := (y 0).isLt; show (y 0).val < 0 * 72 + 72; omega⟩
  | ⟨1, _⟩ => exact ⟨by show 0 * 128 ≤ (y 1).val; omega, by have : (y 1).val < 128 := (y 1).isLt; show (y 1).val < 0 * 128 + 128; omega⟩

theorem arr7 (c : Dev nD) : (edat m c).arrAt 7 cfg0.N = res7 (mdata m c) := by
  have e := (edat m c).arrAt_succ 7 (⟨32, by decide⟩ : Fin cfg0.N)
  rw [if_pos ((flush0_7 _).2 rfl), flushed7] at e
  refine e.trans ?_
  rw [View.write_read_eq_piecewise]
  funext y
  unfold Finset.piecewise
  refine if_pos ?_
  rw [View.setOn_univ]
  show y ∈ ((View.whole main_v4_2).slice (win0_7.rect _)).set
  rw [View.set_slice_whole, Rect.mem_set_unit]
  intro a
  match a with
  | ⟨0, _⟩ => exact ⟨by show 0 * 72 ≤ (y 0).val; omega, by have : (y 0).val < 72 := (y 0).isLt; show (y 0).val < 0 * 72 + 72; omega⟩
  | ⟨1, _⟩ => exact ⟨by show 0 * 128 ≤ (y 1).val; omega, by have : (y 1).val < 128 := (y 1).isLt; show (y 1).val < 0 * 128 + 128; omega⟩

end Cert.KernelIdeal.Hand

end
-- ==== Proof.KernelIdealTail.lean ====
/-
  The run of the whole program: the host operations before and after the kernel read at an index, and the three results in closed form.
-/
module

public import proofs.«01_k».proof.Proof.KernelIdealArrays
public import Idealize.ShloMosaic.Lib.StableHlo.ReadAt
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-! ## The arrays of the windows, from the arguments -/

theorem V_v0 (c : Dev nD) (b : Fin 72) (h : Fin 1536) :
    (V m c main_v0 : S72x1536.Idx → Elt Ideal .bf16) (Idealize.ShloMosaic.ix2 b h)
      = (m ((c.tc : Thread nD τ).loc main_arg0) : S72x1x1536.Idx → Elt Ideal .bf16) (Idealize.ShloMosaic.ix3 b 0 h) := by
  unfold V V0
  simp only [hostOps0, hostOps0_1, hostOps0_2, hostOps0_3, List.flatten_cons, List.flatten_nil, List.append_nil, List.cons_append, List.nil_append]
  after_reads_at

theorem V_v1 (c : Dev nD) (b : Fin 72) (j : Fin 4864) :
    (V m c main_v1 : S72x4864.Idx → Elt Ideal .i32) (Idealize.ShloMosaic.ix2 b j)
      = if h : j.val < 4748 then (m ((c.tc : Thread nD τ).loc main_arg3) : S72x4748.Idx → Elt Ideal .i32) (Idealize.ShloMosaic.ix2 b ⟨j.val, h⟩) else 0#32 := by
  unfold V V0
  simp only [hostOps0, hostOps0_1, hostOps0_2, hostOps0_3, List.flatten_cons, List.flatten_nil, List.append_nil, List.cons_append, List.nil_append]
  after_reads_at
  rfl

theorem V_v3 (c : Dev nD) (b : Fin 72) (j : Fin 128) :
    (V m c main_v3 : S72x128.Idx → Elt Ideal .i32) (Idealize.ShloMosaic.ix2 b j)
      = if h : j.val < 48 then (m ((c.tc : Thread nD τ).loc main_arg4) : S72x1x48.Idx → Elt Ideal .i32) (Idealize.ShloMosaic.ix3 b 0 ⟨j.val, h⟩) else 0#32 := by
  unfold V V0
  simp only [hostOps0, hostOps0_1, hostOps0_2, hostOps0_3, List.flatten_cons, List.flatten_nil, List.append_nil, List.cons_append, List.nil_append]
  after_reads_at
  rfl

attribute [local irreducible] Data.lse Data.clp Data.o

/-! ## The results -/

theorem arrRef_inj : Function.Injective (Pipeline.arrRef spec0) := by decide

theorem tail5 (c : Dev nD) :
    (Pipeline.afterTail₀ cfgs (edats m) 0 (V0 m) [hostOps1] c main_v5 : S72x1.Idx → Elt Ideal .f32) = fun y => (mdata m c).lse (y 0) := by
  funext y
  unfold Pipeline.afterTail₀
  simp only [hostOps1, List.flatten_cons, List.flatten_nil, List.append_nil, List.cons_append, List.nil_append]
  after_reads_at
  have h := Pipeline.withArrays_arr spec0 arrRef_inj c (V0 m c) (fun w => (edats m 0 c).arrAt w cfg0.N) 6
  exact congrFun (h.trans (arr6 m c)) (Idealize.ShloMosaic.ix2 (y 0) 0)

theorem tail7 (c : Dev nD) :
    (Pipeline.afterTail₀ cfgs (edats m) 0 (V0 m) [hostOps1] c main_v7 : S72x1x48.Idx → Elt Ideal .f32) =
      fun y => (mdata m c).clp (y 0) ⟨(y 2).val, by have : (y 2).val < 48 := (y 2).isLt; omega⟩ := by
  funext y
  unfold Pipeline.afterTail₀
  simp only [hostOps1, List.flatten_cons, List.flatten_nil, List.append_nil, List.cons_append, List.nil_append]
  after_reads_at
  have h := Pipeline.withArrays_arr spec0 arrRef_inj c (V0 m c) (fun w => (edats m 0 c).arrAt w cfg0.N) 7
  exact congrFun (h.trans (arr7 m c)) (Idealize.ShloMosaic.ix2 (y 0) ⟨(y 2).val, _⟩)

/-- THE RUN: the three results in closed form, the arguments unchanged. -/
theorem kernel_run (hA : ∀ c, (mdata m c).Fine) :
    θ_run defs (onTc (τ := τ) (main (F := Ideal))) ⟨m, fun _ => 0, ρ⟩ (fun r => ∀ c : Dev nD,
      (r.2.mem ((c.tc : Thread nD τ).loc main_v4_0) : S72x1x151936.Idx → Elt Ideal .f32) = res5 (mdata m c)
      ∧ (r.2.mem ((c.tc : Thread nD τ).loc main_v5) : S72x1.Idx → Elt Ideal .f32) = (fun y => (mdata m c).lse (y 0))
      ∧ (r.2.mem ((c.tc : Thread nD τ).loc main_v7) : S72x1x48.Idx → Elt Ideal .f32)
          = (fun y => (mdata m c).clp (y 0) ⟨(y 2).val, by have : (y 2).val < 48 := (y 2).isLt; omega⟩)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨
      ((h.1 c).1 5).trans (arr5 m c),
      ((h.1 c).2 main_v5 (Pipeline.mem_restRefs_of main_v5 (by decide) (by decide))).trans (tail5 m c),
      ((h.1 c).2 main_v7 (Pipeline.mem_restRefs_of main_v7 (by decide) (by decide))).trans (tail7 m c),
      h.2 c⟩) (Idealize.ShloMosaic.θ_run_and (erun m ρ hA) (frame_of m ρ (edats m) (fun _ _ => rfl) (erun m ρ hA)))

end Cert.KernelIdeal.Hand

end
-- ==== Proof.RefWords.lean ====
/-
  Facts of words the reference's integer operations come down to, and a gather along the last axis read at an index.
-/
module

public import Idealize.ShloMosaic.Lib.Pointwise

@[expose] public section

noncomputable section

namespace Cert.Words

open Idealize.ShloMosaic

/-! ## Words -/

theorem shr_host (x : BitVec 32) (k : ℕ) (hk : k < 32) : IntOp.shrsi ArithUnit.host x (BitVec.ofNat 32 k) = x.sshiftRight k := by
  unfold IntOp.shrsi
  rw [if_pos (by rw [BitVec.toNat_ofNat]; omega), BitVec.sshiftRight', BitVec.toNat_ofNat, Nat.mod_eq_of_lt (by omega)]

/-- Bit `k` of a word, read by shifting it down. -/
theorem bit_of_shift (x : BitVec 32) (k : ℕ) (hk : k < 32) :
    IntOp.cmpi .eq (IntOp.andi (IntOp.shrsi ArithUnit.host x (BitVec.ofNat 32 k)) 1#32) 1#32 = 1#1 ↔ x.getLsbD k = true := by
  rw [shr_host x k hk, show x.getLsbD k = (x.sshiftRight k).getLsbD 0 by rw [BitVec.getLsbD_sshiftRight]; simp [hk]]
  generalize x.sshiftRight k = y
  have e : IntOp.andi y 1#32 = if y.getLsbD 0 then 1#32 else 0#32 := by
    apply BitVec.eq_of_getLsbD_eq
    intro i hi
    show (y &&& 1#32).getLsbD i = _
    rw [BitVec.getLsbD_and, BitVec.getLsbD_one]
    by_cases h0 : i = 0
    · subst h0; split <;> simp_all
    · split <;> simp [BitVec.getLsbD_one, h0]
  rw [e]
  split <;> simp_all [IntOp.cmpi]

/-- The low code of a byte, and the high one. -/
theorem low_code (w : BitVec 8) :
    (IntOp.shrsi ArithUnit.host (IntOp.shli ArithUnit.host (w.signExtend 32) 28#32) 28#32).toInt = (w.setWidth 4 : BitVec 4).toInt := by
  obtain ⟨w⟩ := w
  revert w
  decide

theorem high_code (w : BitVec 8) :
    (IntOp.shrsi ArithUnit.host (w.signExtend 32) 4#32).toInt = ((w >>> 4).setWidth 4 : BitVec 4).toInt := by
  obtain ⟨w⟩ := w
  revert w
  decide

theorem select_one {α : Type} (c : BitVec 1) (h : c = 1#1) (x y : α) : Scalar.select c x y = x := by subst h; rfl
theorem select_not_one {α : Type} (c : BitVec 1) (h : c ≠ 1#1) (x y : α) : Scalar.select c x y = y := by
  have : c = 0#1 := by revert h; revert c; decide
  subst this; rfl

section
variable (c : BitVec 32) (hc : c.toNat < 151936)
include hc

theorem msb_false : c.msb = false := by
  rw [BitVec.msb_eq_false_iff_two_mul_lt]; omega

theorem not_lt_zero : IntOp.cmpi CmpIPredicate.slt c 0#32 = 0#1 := by
  have : c.slt 0#32 = false := by
    rw [BitVec.slt_zero_eq_msb, msb_false c hc]
  simp [IntOp.cmpi, this]

theorem div_eq : IntOp.divsi ArithUnit.host c 32#32 = BitVec.ofNat 32 (c.toNat / 32) := by
  have h : ¬ IntOp.SDivCorner c 32#32 := by
    unfold IntOp.SDivCorner
    simp
  unfold IntOp.divsi
  rw [if_neg h]
  have : c.sdiv 32#32 = c / 32#32 := by
    unfold BitVec.sdiv
    rw [msb_false c hc, show (32#32 : BitVec 32).msb = false by decide]
    rfl
  rw [this]
  apply BitVec.eq_of_toNat_eq
  rw [BitVec.toNat_udiv, BitVec.toNat_ofNat, BitVec.toNat_ofNat, show 32 % 2 ^ 32 = 32 by decide]
  omega

theorem rem_eq : IntOp.remsi ArithUnit.host c 32#32 = BitVec.ofNat 32 (c.toNat % 32) := by
  have h : ¬ IntOp.SDivCorner c 32#32 := by
    unfold IntOp.SDivCorner
    simp
  unfold IntOp.remsi
  rw [if_neg h]
  have : c.srem 32#32 = c % 32#32 := by
    unfold BitVec.srem
    rw [msb_false c hc, show (32#32 : BitVec 32).msb = false by decide]
    rfl
  rw [this]
  apply BitVec.eq_of_toNat_eq
  rw [BitVec.toNat_umod, BitVec.toNat_ofNat, BitVec.toNat_ofNat, show 32 % 2 ^ 32 = 32 by decide]
  omega

/-- The quotient rounded down by 32. -/
theorem floor_div :
    Scalar.select
      (IntOp.andi
        (IntOp.cmpi CmpIPredicate.ne
          (if c = 0 then (0 : BitVec 32) else if BitVec.msb c = true then -1 else 1)
          (if (32#32 : BitVec 32) = 0 then 0 else if BitVec.msb 32#32 = true then -1 else 1))
        (IntOp.cmpi CmpIPredicate.ne (IntOp.remsi ArithUnit.host c 32#32) 0#32))
      (IntOp.subi (IntOp.divsi ArithUnit.host c 32#32) 1#32)
      (IntOp.divsi ArithUnit.host c 32#32) = BitVec.ofNat 32 (c.toNat / 32) := by
  rw [select_not_one, div_eq c hc]
  rw [rem_eq c hc, msb_false c hc]
  by_cases h0 : c = 0
  · subst h0; decide
  · rw [if_neg h0, if_neg (by decide), if_neg (by decide), if_neg (by decide), show IntOp.cmpi CmpIPredicate.ne (1 : BitVec 32) 1 = 0#1 by decide]
    simp [IntOp.andi]

/-- The remainder with the divisor's sign, by 32. -/
theorem floor_rem :
    Scalar.select
      (IntOp.andi
        (IntOp.cmpi CmpIPredicate.ne
          (IntOp.cmpi CmpIPredicate.slt (IntOp.remsi ArithUnit.host c (Scalar.select (IntOp.cmpi CmpIPredicate.eq (32#32 : BitVec 32) 0#32) 1#32 32#32)) 0#32)
          (IntOp.cmpi CmpIPredicate.slt (Scalar.select (IntOp.cmpi CmpIPredicate.eq (32#32 : BitVec 32) 0#32) 1#32 32#32) 0#32))
        (IntOp.cmpi CmpIPredicate.ne
          (IntOp.remsi ArithUnit.host c (Scalar.select (IntOp.cmpi CmpIPredicate.eq (32#32 : BitVec 32) 0#32) 1#32 32#32)) 0#32))
      (IntOp.addi (IntOp.remsi ArithUnit.host c (Scalar.select (IntOp.cmpi CmpIPredicate.eq (32#32 : BitVec 32) 0#32) 1#32 32#32))
        (Scalar.select (IntOp.cmpi CmpIPredicate.eq (32#32 : BitVec 32) 0#32) 1#32 32#32))
      (IntOp.remsi ArithUnit.host c (Scalar.select (IntOp.cmpi CmpIPredicate.eq (32#32 : BitVec 32) 0#32) 1#32 32#32)) = BitVec.ofNat 32 (c.toNat % 32) := by
  have e : Scalar.select (IntOp.cmpi CmpIPredicate.eq (32#32 : BitVec 32) 0#32) 1#32 32#32 = 32#32 := by decide
  rw [e, rem_eq c hc, select_not_one]
  rw [not_lt_zero (BitVec.ofNat 32 (c.toNat % 32)) (by rw [BitVec.toNat_ofNat]; omega), show IntOp.cmpi CmpIPredicate.slt (32#32 : BitVec 32) 0#32 = 0#1 by decide]
  simp [IntOp.cmpi, IntOp.andi]

/-- A word not below zero and below the extent passes the bounds check of a gather. -/
theorem in_bounds (n : BitVec 32) (top : BitVec 32) (h : c.toNat ≤ top.toNat) (ht : top.toNat < 2 ^ 31) :
    Finset.fold IntOp.andi (1#1 : BitVec 1)
        (fun _ : Fin 1 =>
          IntOp.andi
            (IntOp.cmpi CmpIPredicate.sge (Scalar.select (IntOp.cmpi CmpIPredicate.slt c 0#32) (IntOp.addi c n) c) 0#32)
            (IntOp.cmpi CmpIPredicate.sle (Scalar.select (IntOp.cmpi CmpIPredicate.slt c 0#32) (IntOp.addi c n) c) top))
        Finset.univ = 1#1 := by
  rw [not_lt_zero c hc]
  have h1 : IntOp.cmpi CmpIPredicate.sge (Scalar.select 0#1 (IntOp.addi c n) c) 0#32 = 1#1 := by
    show BitVec.ofBool ((0#32 : BitVec 32).sle c) = _
    rw [BitVec.sle_eq_decide, BitVec.toInt_eq_toNat_of_lt (x := c) (by omega)]
    simp
  have h2 : IntOp.cmpi CmpIPredicate.sle (Scalar.select 0#1 (IntOp.addi c n) c) top = 1#1 := by
    show BitVec.ofBool (c.sle top) = _
    rw [BitVec.sle_eq_decide, BitVec.toInt_eq_toNat_of_lt (x := c) (by omega), BitVec.toInt_eq_toNat_of_lt (x := top) (by omega)]
    simp [h]
  rw [h1, h2]
  rfl
end

/-! ## A gather along the last axis -/

section
variable {α : Type}

/-- The dimension numbers of a gather along the last axis of `[B, 1, N]`, the first axis a batch. -/
abbrev takeLastDims (B N C : Nat)
    (wf : GatherDims.WF ⟨3, ![B, 1, N]⟩ ⟨3, ![B, C, 1]⟩ ⟨3, ![B, 1, C]⟩ [1] [2] [0] [2] [0] 2 ![1, 1, 1]) :
    GatherDims ⟨3, ![B, 1, N]⟩ ⟨3, ![B, C, 1]⟩ ⟨3, ![B, 1, C]⟩ where
  offsetDims := [1]
  collapsedSliceDims := [2]
  operandBatchingDims := [0]
  startIndicesBatchingDims := [0]
  startIndexMap := [2]
  indexVectorDim := 2
  sliceSizes := ![1, 1, 1]
  wf := wf

theorem gather_last_apply {B N C w : Nat} (hN : 0 < N)
    (wf : GatherDims.WF ⟨3, ![B, 1, N]⟩ ⟨3, ![B, C, 1]⟩ ⟨3, ![B, 1, C]⟩ [1] [2] [0] [2] [0] 2 ![1, 1, 1])
    (x : (⟨3, ![B, 1, N]⟩ : Shape).Idx → α) (idx : IVec ⟨3, ![B, C, 1]⟩ w) (b : Fin B) (j : Fin C) :
    Host.gather (takeLastDims B N C wf) x idx (ix3 b 0 j) = x (ix3 b 0 ⟨min (idx (ix3 b j 0)).toInt.toNat (N - 1), by omega⟩) := by
  unfold Host.gather
  congr 1
  funext a
  refine Fin.ext ?_
  show (takeLastDims B N C wf).start (ix3 b 0 j) idx a + (takeLastDims B N C wf).batchCoord (ix3 b 0 j) a
      + (takeLastDims B N C wf).offCoord (ix3 b 0 j) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · have h := (takeLastDims B N C wf).lt (ix3 b 0 j) idx 1
    have h' : (takeLastDims B N C wf).start (ix3 b 0 j) idx 1 + (takeLastDims B N C wf).batchCoord (ix3 b 0 j) 1
      + (takeLastDims B N C wf).offCoord (ix3 b 0 j) 1 < 1 := h
    show _ = 0
    omega
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (takeLastDims B N C wf).startIndexMap from List.mem_singleton.mpr rfl)]
    have hsi : (takeLastDims B N C wf).siIdx (ix3 b 0 j) ⟨List.idxOf (2 : Fin 3) (takeLastDims B N C wf).startIndexMap,
        List.idxOf_lt_length_iff.2 (List.mem_singleton.mpr rfl)⟩ = ix3 b j 0 := by
      funext e; refine Fin.ext ?_
      match e with
      | ⟨0, _⟩ => rfl
      | ⟨1, _⟩ => rfl
      | ⟨2, _⟩ => rfl
    rw [hsi]
    rfl
end

end Cert.Words

end
-- ==== Proof.RefRead.lean ====
/-
  The reference's intermediate values read at an index: logits, mask bits, and the word and logit of a candidate.
-/
module

public import proofs.«01_k».proof.Proof.Gen.ReferenceIdeal.Read
public import proofs.«01_k».proof.Proof.RefWords
public import proofs.«01_k».proof.Proof.Spec
public import proofs.«01_k».proof.Proof.Lse
public import Idealize.ShloMosaic.Lib.Pointwise

@[expose] public section

noncomputable section

namespace Cert.ReferenceIdeal.Hand

open Cert.ReferenceIdeal Cert.ReferenceIdeal.Gen Cert.ReferenceIdeal.Read Idealize.ShloMosaic Idealize.ShloMosaic.TcCoe

variable (x0 : (⟨S72x1x1536, .bf16⟩ : BufTy).Contents (Elt Ideal)) (x1 : (⟨S768x151936, .i8⟩ : BufTy).Contents (Elt Ideal))
  (x2 : (⟨S24x151936, .f32⟩ : BufTy).Contents (Elt Ideal)) (x3 : (⟨S72x4748, .i32⟩ : BufTy).Contents (Elt Ideal))
  (x4 : (⟨S72x1x48, .i32⟩ : BufTy).Contents (Elt Ideal))

theorem sum_fin_mul {n k N : ℕ} (h : n * k = N) (f : Fin N → EReal) :
    ∑ i, f i = ∑ a : Fin n, ∑ b : Fin k, f ⟨b.val + k * a.val, by
      have := a.isLt; have := b.isLt; have : k * a.val + k ≤ k * n := by rw [← Nat.mul_succ]; exact Nat.mul_le_mul_left _ a.isLt
      rw [← h, Nat.mul_comm n k]; omega⟩ := by
  subst h
  rw [← Fintype.sum_prod_type']
  exact (Fintype.sum_equiv finProdFinEquiv _ _ fun x => rfl).symm

theorem sum_split (f : Fin 1536 → EReal) :
    ∑ h, f h = (∑ g : Fin 24, ∑ r : Fin 32, f ⟨(g.val * 32 + r.val) * 2, by omega⟩)
      + ∑ g : Fin 24, ∑ r : Fin 32, f ⟨(g.val * 32 + r.val) * 2 + 1, by omega⟩ := by
  rw [sum_fin_mul (n := 768) (k := 2) rfl, sum_fin_mul (n := 24) (k := 32) rfl, ← Finset.sum_add_distrib]
  refine Finset.sum_congr rfl fun g _ => ?_
  rw [← Finset.sum_add_distrib]
  refine Finset.sum_congr rfl fun r _ => ?_
  rw [Fin.sum_univ_two]
  refine congrArg₂ (· + ·) (congrArg f (Fin.ext ?_)) (congrArg f (Fin.ext ?_))
  · show 0 + 2 * (r.val + 32 * g.val) = (g.val * 32 + r.val) * 2
    omega
  · show 1 + 2 * (r.val + 32 * g.val) = (g.val * 32 + r.val) * 2 + 1
    omega

theorem nib_even (p : ℕ) (q : ℕ) (h : p = q * 2) (x : BitVec 8) : Spec.nib p x = BitVec.setWidth 4 x := by
  unfold Spec.nib; rw [if_pos (by omega)]

theorem nib_odd (p : ℕ) (q : ℕ) (h : p = q * 2 + 1) (x : BitVec 8) : Spec.nib p x = BitVec.setWidth 4 (x >>> 4) := by
  unfold Spec.nib; rw [if_neg (by omega)]

/-- The rows of a logit taken apart into even and odd ones, 32 of each to a scale. -/
theorem dot_split (x : Fin 1536 → EReal) (w : Fin 768 → BitVec 8) (s : Fin 24 → EReal) :
    Spec.dot x w s = (∑ g : Fin 24, ∑ r : Fin 32, x ⟨(g.val * 32 + r.val) * 2, by omega⟩
        * ((((BitVec.setWidth 4 (w ⟨g.val * 32 + r.val, by omega⟩)).toInt : ℝ) : EReal) * s g))
      + ∑ g : Fin 24, ∑ r : Fin 32, x ⟨(g.val * 32 + r.val) * 2 + 1, by omega⟩
        * ((((BitVec.setWidth 4 (w ⟨g.val * 32 + r.val, by omega⟩ >>> 4)).toInt : ℝ) : EReal) * s g) := by
  unfold Spec.dot
  rw [sum_split]
  refine congrArg₂ (· + ·) (Finset.sum_congr rfl fun g _ => Finset.sum_congr rfl fun r _ => ?_) (Finset.sum_congr rfl fun g _ => Finset.sum_congr rfl fun r _ => ?_)
  · rw [nib_even _ (g.val * 32 + r.val) rfl]
    have e1 : (⟨(g.val * 32 + r.val) * 2 / 2, by omega⟩ : Fin 768) = ⟨g.val * 32 + r.val, by omega⟩ := Fin.ext (by show _ / 2 = g.val * 32 + r.val; omega)
    have e2 : (⟨(g.val * 32 + r.val) * 2 / 64, by omega⟩ : Fin 24) = g := Fin.ext (by show _ / 64 = _; omega)
    exact congrArg₂ (fun a c => x _ * ((((BitVec.setWidth 4 (w a)).toInt : ℝ) : EReal) * s c)) e1 e2
  · rw [nib_odd _ (g.val * 32 + r.val) rfl]
    have e1 : (⟨((g.val * 32 + r.val) * 2 + 1) / 2, by omega⟩ : Fin 768) = ⟨g.val * 32 + r.val, by omega⟩ := Fin.ext (by show _ / 2 = g.val * 32 + r.val; omega)
    have e2 : (⟨((g.val * 32 + r.val) * 2 + 1) / 64, by omega⟩ : Fin 24) = g := Fin.ext (by show _ / 64 = _; omega)
    exact congrArg₂ (fun a c => x _ * ((((BitVec.setWidth 4 (w a >>> 4)).toInt : ℝ) : EReal) * s c)) e1 e2

theorem even_apply (b : Fin 72) (v : Fin 151936) : val_main_v22 (F := Ideal) x0 x1 x2 (ix3 b 0 v)
    = ∑ g : Fin 24, ∑ r : Fin 32, x0 (ix3 b 0 ⟨(g.val * 32 + r.val) * 2, by omega⟩)
        * ((((BitVec.setWidth 4 (x1 (ix2 ⟨g.val * 32 + r.val, by omega⟩ v))).toInt : ℝ) : EReal) * x2 (ix2 g v)) := by
  pointwise [val_main_v22, val_main_v0, val_main_v1, val_main_v2, val_main_v5, val_main_v6, val_main_v7, val_main_c, val_main_v8, val_main_v9, val_main_c_0, val_main_v10, val_main_v11, val_main_v12,
    val_main_v16, val_main_v17, val_main_v18, val_main_v19]
  refine Finset.sum_congr rfl fun g _ => Finset.sum_congr rfl fun r _ => ?_
  rw [← Words.low_code]
  refine congrArg₂ (· * ·) (congrArg x0 (congrArg (ix3 b 0) (Fin.ext ?_))) rfl
  show g.val * 64 + r.val * 2 = (g.val * 32 + r.val) * 2
  omega

theorem odd_apply (b : Fin 72) (v : Fin 151936) : val_main_v23 (F := Ideal) x0 x1 x2 (ix3 b 0 v)
    = ∑ g : Fin 24, ∑ r : Fin 32, x0 (ix3 b 0 ⟨(g.val * 32 + r.val) * 2 + 1, by omega⟩)
        * ((((BitVec.setWidth 4 (x1 (ix2 ⟨g.val * 32 + r.val, by omega⟩ v) >>> 4)).toInt : ℝ) : EReal) * x2 (ix2 g v)) := by
  pointwise [val_main_v23, val_main_v0, val_main_v3, val_main_v4, val_main_v5, val_main_v6, val_main_v7, val_main_c_1, val_main_v13, val_main_v14, val_main_v15,
    val_main_v16, val_main_v17, val_main_v20, val_main_v21]
  refine Finset.sum_congr rfl fun g _ => Finset.sum_congr rfl fun r _ => ?_
  rw [← Words.high_code]
  refine congrArg₂ (· * ·) (congrArg x0 (congrArg (ix3 b 0) (Fin.ext ?_))) rfl
  show g.val * 64 + r.val * 2 + 1 = (g.val * 32 + r.val) * 2 + 1
  omega

/-- The logits. -/
theorem logit_apply (b : Fin 72) (v : Fin 151936) :
    val_main_v24 (F := Ideal) x0 x1 x2 (ix3 b 0 v) = Spec.dot (fun h => x0 (ix3 b 0 h)) (fun p => x1 (ix2 p v)) (fun g => x2 (ix2 g v)) := by
  rw [val_main_v24_apply, even_apply, odd_apply, dot_split]
  rfl

/-- The mask of a token. -/
theorem mask_apply (b : Fin 72) (v : Fin 151936) :
    val_main_v36 (F := Ideal) x3 (ix3 b 0 v) = 1#1 ↔ Spec.bit (x3 (ix2 b ⟨v.val / 32, by omega⟩)) v.val = true := by
  pointwise [val_main_v36, val_main_v25, val_main_v26, val_main_v27, val_main_v28, val_main_v29, val_main_v30, val_main_c_2, val_main_v31, val_main_v32, val_main_v33, val_main_c_3, val_main_v34, val_main_v35]
  exact Words.bit_of_shift _ _ (Nat.mod_lt _ (by decide))

theorem cast_apply (x : IVec S72x1x48 32) (b : Fin 72) (j : Fin 48) : shapeCast S72x48x1 x shapeCasts_S72x1x48_S72x48x1 (ix3 b j 0) = x (ix3 b 0 j) := by
  pointwise []

section
variable (b : Fin 72) (j : Fin 48) (hd : (x4 (ix3 b 0 j)).toNat < 151936)
include hd

theorem div_apply : val_main_v53 (F := Ideal) x4 (ix3 b 0 j) = BitVec.ofNat 32 ((x4 (ix3 b 0 j)).toNat / 32) := by
  pointwise [val_main_v53, val_main_c_9, val_main_call3_v0, val_main_call3_v1, val_main_call3_v2, val_main_call3_v3, val_main_call3_v4, val_main_call3_v5, val_main_call3_v6, val_main_call3_v7, val_main_call3_v8, val_main_call3_c, val_main_call3_v9, val_main_call3_v10, val_main_call3_v11, val_main_call3_c_0, val_main_call3_v12, val_main_call3_v13]
  exact Words.floor_div _ hd

theorem rem_apply : val_main_v55 (F := Ideal) x4 (ix3 b 0 j) = BitVec.ofNat 32 ((x4 (ix3 b 0 j)).toNat % 32) := by
  pointwise [val_main_v55, val_main_c_10, val_main_call5_v0, val_main_call5_c, val_main_call5_v1, val_main_call5_c_0, val_main_call5_v2, val_main_call5_v3, val_main_call5_v4, val_main_call5_c_1, val_main_call5_v5, val_main_call5_v6, val_main_call5_c_2, val_main_call5_v7, val_main_call5_v8, val_main_call5_c_3, val_main_call5_v9, val_main_call5_v10, val_main_call5_v11, val_main_call5_v12, val_main_call5_v13, val_main_call5_v14]
  exact Words.floor_rem _ hd

theorem word_apply : val_main_v54 (F := Ideal) x3 x4 (ix3 b 0 j) = x3 (ix2 b ⟨(x4 (ix3 b 0 j)).toNat / 32, by omega⟩) := by
  have e := div_apply x4 b j hd
  have hn : (BitVec.ofNat 32 ((x4 (ix3 b 0 j)).toNat / 32)).toNat = (x4 (ix3 b 0 j)).toNat / 32 := by rw [BitVec.toNat_ofNat]; omega
  pointwise [val_main_v54, val_main_v52, val_main_call4_c, val_main_call4_v0, val_main_call4_v1, val_main_call4_c_0, val_main_call4_v2, val_main_call4_v3, val_main_call4_v4, val_main_call4_v5, val_main_call4_c_1,
     val_main_call4_c_2, val_main_call4_v6, val_main_call4_v7, val_main_call4_v8, val_main_call4_v9, val_main_call4_v10, val_main_call4_v11, val_main_call4_c_3, val_main_call4_v12, val_main_call4_v13, val_main_call4_v14, val_main_call4_c_4, val_main_call4_v15]
  rw [e]
  refine (Words.select_one _ (Words.in_bounds _ (by omega) 4748#32 4747#32 (by rw [hn]; show _ ≤ 4747; omega) (by decide)) _ _).trans ?_
  refine (Words.gather_last_apply (by decide) _ _ _ b j).trans ?_
  refine Eq.trans (congrArg _ (?_ : _ = ix3 b 0 ⟨(x4 (ix3 b 0 j)).toNat / 32, by omega⟩)) ?_
  · refine congrArg (ix3 b 0) (Fin.ext ?_)
    show min (BitVec.toInt (shapeCast S72x48x1 _ _ (ix3 b j 0))).toNat _ = _
    rw [cast_apply]
    pointwise []
    rw [e, Words.not_lt_zero _ (by omega), Words.select_not_one _ (by decide), BitVec.toInt_eq_toNat_of_lt (by omega), hn]
    show min (((x4 (ix3 b 0 j)).toNat / 32 : ℕ) : ℤ).toNat _ = _
    rw [Int.toNat_natCast]; omega
  · pointwise []

theorem bit_apply : val_main_v60 (F := Ideal) x3 x4 (ix3 b 0 j) = 1#1
    ↔ Spec.bit (x3 (ix2 b ⟨(x4 (ix3 b 0 j)).toNat / 32, by omega⟩)) (x4 (ix3 b 0 j)).toNat = true := by
  have e1 := word_apply x3 x4 b j hd
  have e2 := rem_apply x4 b j hd
  pointwise [val_main_v60, val_main_v59, val_main_c_12, val_main_v58, val_main_v57, val_main_c_11, val_main_v56]
  rw [e1, e2]
  exact Words.bit_of_shift _ _ (Nat.mod_lt _ (by decide))

theorem cand_apply : val_main_v61 (F := Ideal) x0 x1 x2 x4 (ix3 b 0 j) = val_main_v24 (F := Ideal) x0 x1 x2 (ix3 b 0 ⟨(x4 (ix3 b 0 j)).toNat, hd⟩) := by
  pointwise [val_main_v61, val_main_call6_c, val_main_call6_v0, val_main_call6_v1, val_main_call6_c_0, val_main_call6_v2, val_main_call6_v3, val_main_call6_v4, val_main_call6_v5, val_main_call6_c_1,
     val_main_call6_c_2, val_main_call6_v6, val_main_call6_v7, val_main_call6_v8, val_main_call6_v9, val_main_call6_v10, val_main_call6_v11, val_main_call6_c_3, val_main_call6_v12, val_main_call6_v13, val_main_call6_v14, val_main_call6_cst, val_main_call6_v15]
  refine (Words.select_one _ (Words.in_bounds _ hd 151936#32 151935#32 (by show _ ≤ 151935; omega) (by decide)) _ _).trans ?_
  refine (Words.gather_last_apply (by decide) _ _ _ b j).trans ?_
  refine congrArg _ (congrArg (ix3 b 0) (Fin.ext ?_))
  show min (BitVec.toInt (shapeCast S72x48x1 _ _ (ix3 b j 0))).toNat _ = _
  rw [cast_apply]
  pointwise []
  rw [Words.not_lt_zero _ hd, Words.select_not_one _ (by decide), BitVec.toInt_eq_toNat_of_lt (by omega), Int.toNat_natCast]
  omega
end

end Cert.ReferenceIdeal.Hand

end
-- ==== Proof.RefValue.lean ====
/-
  The reference's results read at an index.
-/
module

public import proofs.«01_k».proof.Proof.RefRead
public import proofs.«01_k».proof.Proof.Lse
public import Idealize.ShloMosaic.Lib.Pointwise

@[expose] public section

noncomputable section

namespace Cert.ReferenceIdeal.Hand

open Cert.ReferenceIdeal Cert.ReferenceIdeal.Gen Cert.ReferenceIdeal.Read Idealize.ShloMosaic Idealize.ShloMosaic.TcCoe

variable (x0 : (⟨S72x1x1536, .bf16⟩ : BufTy).Contents (Elt Ideal)) (x1 : (⟨S768x151936, .i8⟩ : BufTy).Contents (Elt Ideal))
  (x2 : (⟨S24x151936, .f32⟩ : BufTy).Contents (Elt Ideal)) (x3 : (⟨S72x4748, .i32⟩ : BufTy).Contents (Elt Ideal))
  (x4 : (⟨S72x1x48, .i32⟩ : BufTy).Contents (Elt Ideal))

theorem neg_inf : Ideal.ofBits .f32 0xFF800000#32 = ⊥ := by
  simp [Ideal.ofBits, Ideal.ieee, -EReal.coe_mul]

theorem pos_inf : Ideal.ofBits .f32 0x7F800000#32 = ⊤ := by
  simp [Ideal.ofBits, Ideal.ieee, -EReal.coe_mul]

theorem zero_word : Ideal.ofBits .f32 0x00000000#32 = 0 := by
  simp [Ideal.ofBits, Ideal.ieee, -EReal.coe_mul]

/-- A number kept when its absolute value is below infinity, zero taken otherwise, is a real. -/
theorem guarded_real (t : EReal) :
    ∃ M : ℝ, Scalar.select (FloatOps.cmpf (F := Ideal) (φ := .f32) .olt (FloatOps.hostAbsf (F := Ideal) (φ := .f32) t) (Ideal.ofBits .f32 0x7F800000#32)) t (0 : EReal) = (M : EReal) := by
  rw [pos_inf]
  induction t with
  | bot =>
    refine ⟨0, Words.select_not_one _ ?_ _ _⟩
    show BitVec.ofBool (decide (max (⊥ : EReal) (-⊥) < ⊤)) ≠ 1#1
    simp
  | top =>
    refine ⟨0, Words.select_not_one _ ?_ _ _⟩
    show BitVec.ofBool (decide (max (⊤ : EReal) (-⊤) < ⊤)) ≠ 1#1
    simp
  | coe r =>
    refine ⟨r, Words.select_one _ ?_ _ _⟩
    show BitVec.ofBool (decide (max (r : EReal) (-(r : EReal)) < ⊤)) = 1#1
    rw [decide_eq_true (max_lt (EReal.coe_lt_top r) (by rw [← EReal.coe_neg]; exact EReal.coe_lt_top _))]
    rfl

theorem top_real (b : Fin 72) : ∃ M : ℝ, val_main_v43 (F := Ideal) x0 x1 x2 x3 (ix3 b 0 0) = (M : EReal) := by
  rw [val_main_v43_apply, val_main_v42_apply, val_main_v40_apply]
  generalize val_main_v39 (F := Ideal) x0 x1 x2 x3 (ix3 b 0 0) = t
  obtain ⟨M, hM⟩ := guarded_real t
  refine ⟨M, Eq.trans ?_ hM⟩
  refine congrArg₂ (fun u w => Scalar.select (FloatOps.cmpf (F := Ideal) (φ := .f32) .olt (FloatOps.hostAbsf (F := Ideal) (φ := .f32) t) u) t w) ?_ ?_
  · pointwise [val_main_v41, val_main_cst_5]
  · pointwise [val_main_call1_v1, val_main_call1_v0, val_main_cst_6]
    exact zero_word

theorem masked_apply (b : Fin 72) (v : Fin 151936) : val_main_v37 (F := Ideal) x0 x1 x2 x3 (ix3 b 0 v)
    = Scalar.select (val_main_v36 (F := Ideal) x3 (ix3 b 0 v)) (val_main_v24 (F := Ideal) x0 x1 x2 (ix3 b 0 v)) ⊥ := by
  pointwise [val_main_v37, val_main_call0_v1, val_main_call0_v0, val_main_cst]
  exact congrArg (Scalar.select _ _) neg_inf

theorem lse_apply (b : Fin 72) (hp : ∀ v, val_main_v37 (F := Ideal) x0 x1 x2 x3 (ix3 b 0 v) ≠ ⊤) :
    val_main_v50 (F := Ideal) x0 x1 x2 x3 (ix2 b 0) = Spec.lse Finset.univ (fun v : Fin 151936 => val_main_v37 (F := Ideal) x0 x1 x2 x3 (ix3 b 0 v)) := by
  obtain ⟨M, hM⟩ := top_real x0 x1 x2 x3 b
  pointwise [val_main_v50, val_main_v49, val_main_v48, val_main_v47, val_main_cst_7, val_main_v46, val_main_v45, val_main_v44]
  rw [hM, Finset.sum_congr rfl (fun v _ => Spec.exp_sub _ (hp v) M), Spec.sum_coe, add_comm]
  exact Spec.add_log_shift _ _ (fun v _ => hp v) M

theorem out0_apply (b : Fin 72) (v : Fin 151936) : val_main_v51 (F := Ideal) x0 x1 x2 x3 (ix3 b 0 v)
    = Scalar.select (val_main_v36 (F := Ideal) x3 (ix3 b 0 v)) (val_main_v24 (F := Ideal) x0 x1 x2 (ix3 b 0 v)) 0 := by
  pointwise [val_main_v51, val_main_call2_v1, val_main_call2_v0, val_main_cst_8]
  exact congrArg (Scalar.select _ _) zero_word

theorem out2_apply (b : Fin 72) (j : Fin 48) : val_main_v65 (F := Ideal) x0 x1 x2 x3 x4 (ix3 b 0 j)
    = Scalar.select (val_main_v60 (F := Ideal) x3 x4 (ix3 b 0 j)) (val_main_v61 (F := Ideal) x0 x1 x2 x4 (ix3 b 0 j) - val_main_v50 (F := Ideal) x0 x1 x2 x3 (ix2 b 0)) 0 := by
  pointwise [val_main_v65, val_main_call7_v1, val_main_call7_v0, val_main_cst_13, val_main_v64, val_main_v63, val_main_v62]
  exact congrArg (Scalar.select _ _) zero_word

end Cert.ReferenceIdeal.Hand

end
-- ==== Proof.Agree.lean ====
/-
  The reference's results are those the kernel's run leaves, the data of both being the same five arguments.
-/
module

public import proofs.«01_k».proof.Proof.KernelIdealTail
public import proofs.«01_k».proof.Proof.RefValue
public import proofs.«01_k».proof.Proof.RefWords
public import proofs.«01_k».proof.Proof.Lse

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

/-- That the data are those of five argument arrays. -/
structure Data.Of (A : Data) (a0 : S72x1x1536.Idx → Elt Ideal .bf16) (a1 : S768x151936.Idx → Elt Ideal .i8) (a2 : S24x151936.Idx → Elt Ideal .f32)
    (a3 : S72x4748.Idx → Elt Ideal .i32) (a4 : S72x1x48.Idx → Elt Ideal .i32) : Prop where
  z : ∀ (b : Fin 72) (v : Fin 151936), A.z b v.val = Spec.dot (fun h => a0 (ix3 b 0 h)) (fun p => a1 (ix2 p v)) (fun g => a2 (ix2 g v))
  word : ∀ (b : Fin 72) (v : ℕ) (h : v < 151936), A.b b (v / 32) = a3 (ix2 b ⟨v / 32, by omega⟩)
  cand : ∀ (b : Fin 72) (j : Fin 48), A.d b ⟨j.val, by omega⟩ = (a4 (ix3 b 0 j)).toNat

section
variable {A : Data} {a0 : S72x1x1536.Idx → Elt Ideal .bf16} {a1 : S768x151936.Idx → Elt Ideal .i8} {a2 : S24x151936.Idx → Elt Ideal .f32}
    {a3 : S72x4748.Idx → Elt Ideal .i32} {a4 : S72x1x48.Idx → Elt Ideal .i32} (H : A.Of a0 a1 a2 a3 a4)
include H

theorem ref_logit (b : Fin 72) (v : Fin 151936) : ReferenceIdeal.Read.val_main_v24 (F := Ideal) a0 a1 a2 (ix3 b 0 v) = A.z b v.val :=
  (ReferenceIdeal.Hand.logit_apply a0 a1 a2 b v).trans (H.z b v).symm

theorem ref_mask (b : Fin 72) (v : Fin 151936) : ReferenceIdeal.Read.val_main_v36 (F := Ideal) a3 (ix3 b 0 v) = 1#1 ↔ A.ok b v.val := by
  rw [ReferenceIdeal.Hand.mask_apply a3 b v]
  unfold Data.ok
  rw [H.word b v.val v.isLt]
  exact ⟨fun h => ⟨h, v.isLt⟩, fun h => h.1⟩

theorem select_ok (b : Fin 72) (v : Fin 151936) (x y : EReal) :
    Scalar.select (ReferenceIdeal.Read.val_main_v36 (F := Ideal) a3 (ix3 b 0 v)) x y = if A.ok b v.val then x else y := by
  split
  · next h => exact Words.select_one _ ((ref_mask H b v).2 h) _ _
  · next h => exact Words.select_not_one _ (fun e => h ((ref_mask H b v).1 e)) _ _

theorem ref_out0 : ReferenceIdeal.Read.val_main_v51 (F := Ideal) a0 a1 a2 a3 = res5 A := by
  funext y
  obtain ⟨b, u, v, rfl⟩ : ∃ b u v, y = ix3 b u v := ⟨y 0, y 1, y 2, (ix3_eta y).symm⟩
  obtain rfl : u = 0 := Subsingleton.elim (α := Fin 1) u 0
  refine (ReferenceIdeal.Hand.out0_apply a0 a1 a2 a3 b v).trans ?_
  rw [ref_logit H, select_ok H]
  rfl

theorem ref_p (b : Fin 72) (v : Fin 151936) : ReferenceIdeal.Read.val_main_v37 (F := Ideal) a0 a1 a2 a3 (ix3 b 0 v) = A.p b v.val := by
  refine (ReferenceIdeal.Hand.masked_apply a0 a1 a2 a3 b v).trans ?_
  rw [ref_logit H, select_ok H]
  rfl

theorem ref_lse (hA : A.Fine) (b : Fin 72) : ReferenceIdeal.Read.val_main_v50 (F := Ideal) a0 a1 a2 a3 (ix2 b 0) = A.lse b := by
  refine (ReferenceIdeal.Hand.lse_apply a0 a1 a2 a3 b (fun v => by rw [ref_p H]; exact p_ne_top hA b v.val)).trans ?_
  unfold Data.lse Spec.lse
  rw [Finset.sum_range]
  exact congrArg Ideal.log (Finset.sum_congr rfl fun v _ => congrArg Ideal.exp (ref_p H b v))

theorem ref_out1 (hA : A.Fine) : ReferenceIdeal.Read.val_main_v50 (F := Ideal) a0 a1 a2 a3 = fun y => A.lse (y 0) := by
  funext y
  obtain ⟨b, u, rfl⟩ : ∃ b u, y = ix2 b u := ⟨y 0, y 1, (ix2_eta y).symm⟩
  obtain rfl : u = 0 := Subsingleton.elim (α := Fin 1) u 0
  exact ref_lse H hA b

theorem ref_out2 (hA : A.Fine) : ReferenceIdeal.Read.val_main_v65 (F := Ideal) a0 a1 a2 a3 a4
    = fun y => A.clp (y 0) ⟨(y 2).val, by have : (y 2).val < 48 := (y 2).isLt; omega⟩ := by
  funext y
  obtain ⟨b, u, j, rfl⟩ : ∃ b u j, y = ix3 b u j := ⟨y 0, y 1, y 2, (ix3_eta y).symm⟩
  obtain rfl : u = 0 := Subsingleton.elim (α := Fin 1) u 0
  have hd : (a4 (ix3 b 0 j)).toNat < 151936 := by rw [← H.cand b j]; exact hA.cand b _
  have hb := ReferenceIdeal.Hand.bit_apply a3 a4 b j hd
  rw [← H.word b _ hd, ← H.cand b j] at hb
  refine (ReferenceIdeal.Hand.out2_apply a0 a1 a2 a3 a4 b j).trans ?_
  rw [ReferenceIdeal.Hand.cand_apply a0 a1 a2 a4 b j hd, ref_logit H, ref_lse H hA]
  show Scalar.select _ (A.z b (a4 (ix3 b 0 j)).toNat - A.lse b) 0 = A.clp b ⟨j.val, _⟩
  unfold Data.clp
  rw [← H.cand b j]
  split
  · next h => exact Words.select_one _ (hb.2 h) _ _
  · next h => exact Words.select_not_one _ (fun e => h (hb.1 e)) _ _
end

/-! ## The arguments -/

variable (m : (ℓ : Loc nD τ sig) → Buf (Elt Ideal) ℓ)

theorem mdata_of (c : Dev nD) : (mdata m c).Of (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) where
  z b v := by
    unfold Data.z
    congr 1
    · funext h; exact V_v0 m c b h
    · funext p; exact (dif_pos v.isLt).trans (congrFun (V_main_arg1 m c) (ix2 p v))
    · funext g; exact (dif_pos v.isLt).trans (congrFun (V_main_arg2 m c) (ix2 g v))
  word b v h := by
    refine (dif_pos (show v / 32 < 4864 by omega)).trans ((V_v1 m c b ⟨v / 32, by omega⟩).trans (dif_pos (show v / 32 < 4748 by omega)))
  cand b j := congrArg BitVec.toNat ((V_v3 m c b ⟨j.val, by omega⟩).trans (dif_pos j.isLt))

theorem dot_real (x : Fin 1536 → EReal) (w : Fin 768 → BitVec 8) (s : Fin 24 → EReal) (hx : ∀ h, ∃ r : ℝ, x h = r) (hs : ∀ g, ∃ r : ℝ, s g = r) :
    Spec.dot x w s ≠ ⊤ := by
  choose xr hx using hx
  choose sr hs using hs
  have e : Spec.dot x w s = ((∑ h : Fin 1536, xr h * (((Spec.nib h.val (w ⟨h.val / 2, by omega⟩)).toInt : ℝ) * sr ⟨h.val / 64, by omega⟩) : ℝ) : EReal) := by
    unfold Spec.dot
    rw [← Spec.sum_coe]
    refine Finset.sum_congr rfl fun h _ => ?_
    rw [hx, hs, EReal.coe_mul, EReal.coe_mul]
  rw [e]
  exact EReal.coe_ne_top _

/-- With numbers for activations and scales, and tokens for candidates, the data are as the run asks. -/
theorem mdata_fine (c : Dev nD)
    (h0 : ∀ i, ∃ r : ℝ, (m ((c.tc : Thread nD τ).loc main_arg0) : S72x1x1536.Idx → EReal) i = (r : EReal))
    (h2 : ∀ i, ∃ r : ℝ, (m ((c.tc : Thread nD τ).loc main_arg2) : S24x151936.Idx → EReal) i = (r : EReal))
    (h4 : ∀ i, ((m ((c.tc : Thread nD τ).loc main_arg4) : S72x1x48.Idx → BitVec 32) i).toNat < 151936) : (mdata m c).Fine where
  top b v hv := by
    rw [(mdata_of m c).z b ⟨v, hv⟩]
    exact dot_real _ _ _ (fun h => h0 _) (fun g => h2 _)
  cand b j := by
    show BitVec.toNat _ < _
    rw [V_v3 m c b j]
    split
    · exact h4 _
    · decide

end Cert.KernelIdeal.Hand

end
-- ==== Proof.lean ====
/-
  The certificate: the frames of the kernel, of its idealization and of the reference, and the agreement of the three results.
-/
module

public import proofs.«01_k».proof.Defs
public import proofs.«01_k».proof.Proof.KernelFrame
public import proofs.«01_k».proof.Proof.KernelIdealFrame
public import proofs.«01_k».proof.Proof.Agree
public import Idealize.ShloMosaic.Lib.Quiescent
public import Idealize.ShloMosaic.Lib.Pointwise

@[expose] public section

noncomputable section

namespace Cert.Proof

open Idealize.ShloMosaic Idealize.ShloMosaic.TcCoe

theorem preFacts : Cert.Pre_finite_in_vocab.Facts where
  bcast_S_S72x1x1536 := by decide
  bcast_S_S24x151936 := by decide
  bcast_S_S72x1x48 := by decide

/-- A number whose absolute value is below infinity is a real. -/
theorem real_of_abs_lt (t u : EReal) (hu : u = ⊤) (h : Ideal.cmp .olt (max t (-t)) u = 1#1) : ∃ r : ℝ, t = (r : EReal) := by
  subst hu
  have h' : max t (-t) < ⊤ := by
    by_contra hn
    rw [Ideal.cmp, decide_eq_false hn] at h
    exact absurd h (by decide)
  induction t with
  | bot => simp at h'
  | top => simp at h'
  | coe r => exact ⟨r, rfl⟩

/-- A word not below zero and below 151936, both signed, is below 151936. -/
theorem toNat_lt (d : BitVec 32) (h : IntOp.andi (IntOp.cmpi .sge d 0#32) (IntOp.cmpi .slt d 151936#32) = 1#1) : d.toNat < 151936 := by
  have h0 : (0#32 : BitVec 32).sle d = true := by
    by_contra hn
    rw [IntOp.cmpi, IntOp.cmpi] at h
    simp only [Bool.not_eq_true] at hn
    simp [hn, IntOp.andi] at h
  have h1 : d.slt 151936#32 = true := by
    by_contra hn
    rw [IntOp.cmpi, IntOp.cmpi] at h
    simp only [Bool.not_eq_true] at hn
    simp [hn, IntOp.andi] at h
  rw [BitVec.sle_eq_decide, decide_eq_true_eq] at h0
  rw [BitVec.slt_eq_decide, decide_eq_true_eq] at h1
  have hz : (0#32 : BitVec 32).toInt = 0 := by decide
  have hn : (151936#32 : BitVec 32).toInt = 151936 := by decide
  rw [hz] at h0
  rw [hn] at h1
  rw [BitVec.toInt_eq_toNat_cond] at h0 h1
  split at h0 <;> omega

theorem bf16_inf : Ideal.ofBits .bf16 0x7F80#16 = ⊤ := by
  simp [Ideal.ofBits, Ideal.ieee, -EReal.coe_mul]

theorem fine_of_pre (m : (ℓ : Loc KernelIdeal.nD KernelIdeal.τ KernelIdeal.sig) → Buf (Elt Ideal) ℓ)
    (h : Cert.Pre_KernelIdeal_finite_in_vocab (hPre_finite_in_vocab := preFacts) m) (c : Dev KernelIdeal.nD) : (KernelIdeal.Hand.mdata m c).Fine := by
  obtain ⟨h0, h2, h4⟩ := h c
  refine KernelIdeal.Hand.mdata_fine m c (fun i => ?_) (fun i => ?_) (fun i => ?_)
  · exact real_of_abs_lt _ _ bf16_inf (congrFun h0 i)
  · exact real_of_abs_lt _ _ ReferenceIdeal.Hand.pos_inf (congrFun h2 i)
  · exact toNat_lt _ (congrFun h4 i)

theorem reference_frame (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r =>
      (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4))
      ∧ r.2.sem = fun _ => 0) :=
  (θ_run ReferenceIdeal.defs _ _).mono (fun r h => ⟨fun c => (h c).2.2.2, sem_eq_zero_of_no_sems rfl r.2⟩) (ReferenceIdeal.Value.run m ρ)

theorem algebraic : Cert.algebraic_KernelIdeal_ReferenceIdeal_pre_finite_in_vocab (hKernelIdeal := KernelIdeal.Gen.facts)
    (hReferenceIdeal := ReferenceIdeal.Gen.facts) (hPre_finite_in_vocab := preFacts) := by
  intro m g m' g' hpre hargs
  have hA := fine_of_pre m hpre
  refine ⟨_, _, _, KernelIdeal.Hand.kernel_run m g hA, (θ_run ReferenceIdeal.defs _ _).mono (fun r h c => ?_) (ReferenceIdeal.Value.run m' g')⟩
  obtain ⟨e0, e1, e2, e3, e4⟩ := hargs c
  have H := KernelIdeal.Hand.mdata_of m c
  obtain ⟨r0, r1, r2, hr⟩ := h c
  refine ⟨?_, ?_, ?_, hr⟩
  · refine r0.trans ((ReferenceIdeal.Read.val_main_v51_eq _ _ _ _).trans ?_)
    rw [e0, e1, e2, e3]
    exact KernelIdeal.Hand.ref_out0 H
  · refine r1.trans ((ReferenceIdeal.Read.val_main_v50_eq m' c).trans ?_)
    rw [e0, e1, e2, e3]
    exact KernelIdeal.Hand.ref_out1 H (hA c)
  · refine r2.trans ((ReferenceIdeal.Read.val_main_v65_eq m' c).trans ?_)
    rw [e0, e1, e2, e3, e4]
    exact KernelIdeal.Hand.ref_out2 H (hA c)

theorem claim : Cert.Claim :=
  ⟨Kernel.Gen.facts, KernelIdeal.Gen.facts, ReferenceIdeal.Gen.facts, preFacts,
    fun m ρ _ => Kernel.Hand.frame m ρ, fun m ρ _ => KernelIdeal.Hand.frame m ρ, fun m ρ _ => KernelIdeal.Hand.frame m ρ,
    fun m ρ _ => reference_frame m ρ, fun m ρ _ => reference_frame m ρ, trivial, algebraic⟩

end Cert.Proof

end
